-- ==== Defs.lean ====
def Pre_Kernel [hPre_sorted_by_class : Cert.Pre_sorted_by_class.Facts] (m : (ℓ : Loc Cert.Kernel.nD Cert.Kernel.τ Cert.Kernel.sig) → Buf (Elt Bits) ℓ) : Prop :=
  ∀ c : Dev Cert.Kernel.nD,
    (Cert.Pre_sorted_by_class.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sorted_by_class : Cert.Pre_sorted_by_class.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_by_class.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_sorted_by_class : Cert.Pre_sorted_by_class.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_by_class.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionReferenceIdeal (m : (ℓ : Loc Cert.ProjectionReferenceIdeal.nD Cert.ProjectionReferenceIdeal.τ Cert.ProjectionReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionReferenceIdeal (m : (ℓ : Loc Cert.AttentionReferenceIdeal.nD Cert.AttentionReferenceIdeal.τ Cert.AttentionReferenceIdeal.sig) → Buf (Elt Ideal) ℓ) : Prop :=
  True

def quiescent_Kernel [hKernel : Cert.Kernel.Facts] [hPre_sorted_by_class : Cert.Pre_sorted_by_class.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sorted_by_class : Cert.Pre_sorted_by_class.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_sorted_by_class : Cert.Pre_sorted_by_class.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ r.2.sem = fun _ => 0)

def quiescent_ProjectionReferenceIdeal [hProjectionReferenceIdeal : Cert.ProjectionReferenceIdeal.Facts] : Prop :=
  ∀ (m : (ℓ : Loc Cert.ProjectionReferenceIdeal.nD Cert.ProjectionReferenceIdeal.τ Cert.ProjectionReferenceIdeal.sig) → Buf (Elt Ideal) ℓ) (g : Dev Cert.ProjectionReferenceIdeal.nD → PrngReg), Pre_ProjectionReferenceIdeal m →
    θ_run (Cert.ProjectionReferenceIdeal.defs (F := Ideal)) (onTc (τ := Cert.ProjectionReferenceIdeal.τ) (Cert.ProjectionReferenceIdeal.main (F := Ideal))) ⟨m, fun _ => 0, g⟩ (fun r => (∀ c : Dev Cert.ProjectionReferenceIdeal.nD,
      r.2.mem ((c.tc : Thread Cert.ProjectionReferenceIdeal.nD Cert.ProjectionReferenceIdeal.τ).loc Cert.ProjectionReferenceIdeal.main_arg0) = m ((c.tc : Thread Cert.ProjectionReferenceIdeal.nD Cert.ProjectionReferenceIdeal.τ).loc Cert.ProjectionReferenceIdeal.main_arg0)
      ∧ r.2.mem ((c.tc : Thread Cert.ProjectionReferenceIdeal.nD Cert.ProjectionReferenceIdeal.τ).loc Cert.ProjectionReferenceIdeal.main_arg1) = m ((c.tc : Thread Cert.ProjectionReferenceIdeal.nD Cert.ProjectionReferenceIdeal.τ).loc Cert.ProjectionReferenceIdeal.main_arg1)
      ∧ r.2.mem ((c.tc : Thread Cert.ProjectionReferenceIdeal.nD Cert.ProjectionReferenceIdeal.τ).loc Cert.ProjectionReferenceIdeal.main_arg2) = m ((c.tc : Thread Cert.ProjectionReferenceIdeal.nD Cert.ProjectionReferenceIdeal.τ).loc Cert.ProjectionReferenceIdeal.main_arg2)
      ∧ r.2.mem ((c.tc : Thread Cert.ProjectionReferenceIdeal.nD Cert.ProjectionReferenceIdeal.τ).loc Cert.ProjectionReferenceIdeal.main_arg3) = m ((c.tc : Thread Cert.ProjectionReferenceIdeal.nD Cert.ProjectionReferenceIdeal.τ).loc Cert.ProjectionReferenceIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4)
      ∧ r.2.mem ((c.tc : Thread Cert.Attention.nD Cert.Attention.τ).loc Cert.Attention.main_arg5) = m ((c.tc : Thread Cert.Attention.nD Cert.Attention.τ).loc Cert.Attention.main_arg5))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4)
      ∧ r.2.mem ((c.tc : Thread Cert.AttentionReferenceIdeal.nD Cert.AttentionReferenceIdeal.τ).loc Cert.AttentionReferenceIdeal.main_arg5) = m ((c.tc : Thread Cert.AttentionReferenceIdeal.nD Cert.AttentionReferenceIdeal.τ).loc Cert.AttentionReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_by_class : Cert.Pre_sorted_by_class.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Projection_ProjectionIdeal : Prop :=
  True

def algebraic_ProjectionIdeal_ProjectionReferenceIdeal [hProjectionIdeal : Cert.ProjectionIdeal.Facts] [hProjectionReferenceIdeal : Cert.ProjectionReferenceIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionReferenceIdeal.nD Cert.ProjectionReferenceIdeal.τ Cert.ProjectionReferenceIdeal.sig) → Buf (Elt Ideal) ℓ) (g' : Dev Cert.ProjectionReferenceIdeal.nD → PrngReg), Pre_ProjectionIdeal m →
    (∀ c : Dev Cert.ProjectionIdeal.nD,
      m' ((c.tc : Thread Cert.ProjectionReferenceIdeal.nD Cert.ProjectionReferenceIdeal.τ).loc Cert.ProjectionReferenceIdeal.main_arg0) = m ((c.tc : Thread Cert.ProjectionIdeal.nD Cert.ProjectionIdeal.τ).loc Cert.ProjectionIdeal.main_arg0)
      ∧ m' ((c.tc : Thread Cert.ProjectionReferenceIdeal.nD Cert.ProjectionReferenceIdeal.τ).loc Cert.ProjectionReferenceIdeal.main_arg1) = m ((c.tc : Thread Cert.ProjectionIdeal.nD Cert.ProjectionIdeal.τ).loc Cert.ProjectionIdeal.main_arg1)
      ∧ m' ((c.tc : Thread Cert.ProjectionReferenceIdeal.nD Cert.ProjectionReferenceIdeal.τ).loc Cert.ProjectionReferenceIdeal.main_arg2) = m ((c.tc : Thread Cert.ProjectionIdeal.nD Cert.ProjectionIdeal.τ).loc Cert.ProjectionIdeal.main_arg2)
      ∧ m' ((c.tc : Thread Cert.ProjectionReferenceIdeal.nD Cert.ProjectionReferenceIdeal.τ).loc Cert.ProjectionReferenceIdeal.main_arg3) = m ((c.tc : Thread Cert.ProjectionIdeal.nD Cert.ProjectionIdeal.τ).loc Cert.ProjectionIdeal.main_arg3)) →
    ∃ (v0 : (c : Dev Cert.ProjectionIdeal.nD) → Buf (Elt Ideal) ((c.tc : Thread Cert.ProjectionIdeal.nD Cert.ProjectionIdeal.τ).loc Cert.ProjectionIdeal.main_v5_0)) (v1 : (c : Dev Cert.ProjectionIdeal.nD) → Buf (Elt Ideal) ((c.tc : Thread Cert.ProjectionIdeal.nD Cert.ProjectionIdeal.τ).loc Cert.ProjectionIdeal.main_v5_1)) (v2 : (c : Dev Cert.ProjectionIdeal.nD) → Buf (Elt Ideal) ((c.tc : Thread Cert.ProjectionIdeal.nD Cert.ProjectionIdeal.τ).loc Cert.ProjectionIdeal.main_v5_2)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v5_0) = v0 c
          ∧ r.2.mem ((c.tc : Thread Cert.ProjectionIdeal.nD Cert.ProjectionIdeal.τ).loc Cert.ProjectionIdeal.main_v5_1) = v1 c
          ∧ r.2.mem ((c.tc : Thread Cert.ProjectionIdeal.nD Cert.ProjectionIdeal.τ).loc Cert.ProjectionIdeal.main_v5_2) = v2 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3))
      ∧ θ_run (Cert.ProjectionReferenceIdeal.defs (F := Ideal)) (onTc (τ := Cert.ProjectionReferenceIdeal.τ) (Cert.ProjectionReferenceIdeal.main (F := Ideal))) ⟨m', fun _ => 0, g'⟩ (fun r => ∀ c : Dev Cert.ProjectionReferenceIdeal.nD,
          r.2.mem ((c.tc : Thread Cert.ProjectionReferenceIdeal.nD Cert.ProjectionReferenceIdeal.τ).loc Cert.ProjectionReferenceIdeal.main_v30) = v0 c
          ∧ r.2.mem ((c.tc : Thread Cert.ProjectionReferenceIdeal.nD Cert.ProjectionReferenceIdeal.τ).loc Cert.ProjectionReferenceIdeal.main_v31) = v1 c
          ∧ r.2.mem ((c.tc : Thread Cert.ProjectionReferenceIdeal.nD Cert.ProjectionReferenceIdeal.τ).loc Cert.ProjectionReferenceIdeal.main_v33) = v2 c
          ∧ r.2.mem ((c.tc : Thread Cert.ProjectionReferenceIdeal.nD Cert.ProjectionReferenceIdeal.τ).loc Cert.ProjectionReferenceIdeal.main_arg0) = m' ((c.tc : Thread Cert.ProjectionReferenceIdeal.nD Cert.ProjectionReferenceIdeal.τ).loc Cert.ProjectionReferenceIdeal.main_arg0)
          ∧ r.2.mem ((c.tc : Thread Cert.ProjectionReferenceIdeal.nD Cert.ProjectionReferenceIdeal.τ).loc Cert.ProjectionReferenceIdeal.main_arg1) = m' ((c.tc : Thread Cert.ProjectionReferenceIdeal.nD Cert.ProjectionReferenceIdeal.τ).loc Cert.ProjectionReferenceIdeal.main_arg1)
          ∧ r.2.mem ((c.tc : Thread Cert.ProjectionReferenceIdeal.nD Cert.ProjectionReferenceIdeal.τ).loc Cert.ProjectionReferenceIdeal.main_arg2) = m' ((c.tc : Thread Cert.ProjectionReferenceIdeal.nD Cert.ProjectionReferenceIdeal.τ).loc Cert.ProjectionReferenceIdeal.main_arg2)
          ∧ r.2.mem ((c.tc : Thread Cert.ProjectionReferenceIdeal.nD Cert.ProjectionReferenceIdeal.τ).loc Cert.ProjectionReferenceIdeal.main_arg3) = m' ((c.tc : Thread Cert.ProjectionReferenceIdeal.nD Cert.ProjectionReferenceIdeal.τ).loc Cert.ProjectionReferenceIdeal.main_arg3))

def preserves_Attention_AttentionIdeal : Prop :=
  True

def algebraic_AttentionIdeal_AttentionReferenceIdeal [hAttentionIdeal : Cert.AttentionIdeal.Facts] [hAttentionReferenceIdeal : Cert.AttentionReferenceIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)
      ∧ m' ((c.tc : Thread Cert.AttentionReferenceIdeal.nD Cert.AttentionReferenceIdeal.τ).loc Cert.AttentionReferenceIdeal.main_arg5) = m ((c.tc : Thread Cert.AttentionIdeal.nD Cert.AttentionIdeal.τ).loc Cert.AttentionIdeal.main_arg5)) →
    ∃ (v0 : (c : Dev Cert.AttentionIdeal.nD) → Buf (Elt Ideal) ((c.tc : Thread Cert.AttentionIdeal.nD Cert.AttentionIdeal.τ).loc Cert.AttentionIdeal.main_v30_0)) (v1 : (c : Dev Cert.AttentionIdeal.nD) → Buf (Elt Ideal) ((c.tc : Thread Cert.AttentionIdeal.nD Cert.AttentionIdeal.τ).loc Cert.AttentionIdeal.main_v30_1)) (v2 : (c : Dev Cert.AttentionIdeal.nD) → Buf (Elt Ideal) ((c.tc : Thread Cert.AttentionIdeal.nD Cert.AttentionIdeal.τ).loc Cert.AttentionIdeal.main_v30_2)) (v3 : (c : Dev Cert.AttentionIdeal.nD) → Buf (Elt Ideal) ((c.tc : Thread Cert.AttentionIdeal.nD Cert.AttentionIdeal.τ).loc Cert.AttentionIdeal.main_v30_3)) (v4 : (c : Dev Cert.AttentionIdeal.nD) → Buf (Elt Ideal) ((c.tc : Thread Cert.AttentionIdeal.nD Cert.AttentionIdeal.τ).loc Cert.AttentionIdeal.main_v30_4)) (v5 : (c : Dev Cert.AttentionIdeal.nD) → Buf (Elt Ideal) ((c.tc : Thread Cert.AttentionIdeal.nD Cert.AttentionIdeal.τ).loc Cert.AttentionIdeal.main_v30_5)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v30_0) = v0 c
          ∧ r.2.mem ((c.tc : Thread Cert.AttentionIdeal.nD Cert.AttentionIdeal.τ).loc Cert.AttentionIdeal.main_v30_1) = v1 c
          ∧ r.2.mem ((c.tc : Thread Cert.AttentionIdeal.nD Cert.AttentionIdeal.τ).loc Cert.AttentionIdeal.main_v30_2) = v2 c
          ∧ r.2.mem ((c.tc : Thread Cert.AttentionIdeal.nD Cert.AttentionIdeal.τ).loc Cert.AttentionIdeal.main_v30_3) = v3 c
          ∧ r.2.mem ((c.tc : Thread Cert.AttentionIdeal.nD Cert.AttentionIdeal.τ).loc Cert.AttentionIdeal.main_v30_4) = v4 c
          ∧ r.2.mem ((c.tc : Thread Cert.AttentionIdeal.nD Cert.AttentionIdeal.τ).loc Cert.AttentionIdeal.main_v30_5) = v5 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v69) = v0 c
          ∧ r.2.mem ((c.tc : Thread Cert.AttentionReferenceIdeal.nD Cert.AttentionReferenceIdeal.τ).loc Cert.AttentionReferenceIdeal.main_v71) = v1 c
          ∧ r.2.mem ((c.tc : Thread Cert.AttentionReferenceIdeal.nD Cert.AttentionReferenceIdeal.τ).loc Cert.AttentionReferenceIdeal.main_v73) = v2 c
          ∧ r.2.mem ((c.tc : Thread Cert.AttentionReferenceIdeal.nD Cert.AttentionReferenceIdeal.τ).loc Cert.AttentionReferenceIdeal.main_v75) = v3 c
          ∧ r.2.mem ((c.tc : Thread Cert.AttentionReferenceIdeal.nD Cert.AttentionReferenceIdeal.τ).loc Cert.AttentionReferenceIdeal.main_v77) = v4 c
          ∧ r.2.mem ((c.tc : Thread Cert.AttentionReferenceIdeal.nD Cert.AttentionReferenceIdeal.τ).loc Cert.AttentionReferenceIdeal.main_v80) = v5 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4)
          ∧ r.2.mem ((c.tc : Thread Cert.AttentionReferenceIdeal.nD Cert.AttentionReferenceIdeal.τ).loc Cert.AttentionReferenceIdeal.main_arg5) = m' ((c.tc : Thread Cert.AttentionReferenceIdeal.nD Cert.AttentionReferenceIdeal.τ).loc Cert.AttentionReferenceIdeal.main_arg5))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectionReferenceIdeal : Cert.ProjectionReferenceIdeal.Facts) (hAttention : Cert.Attention.Facts) (hAttentionIdeal : Cert.AttentionIdeal.Facts) (hAttentionReferenceIdeal : Cert.AttentionReferenceIdeal.Facts) (hPre_sorted_by_class : Cert.Pre_sorted_by_class.Facts),
    quiescent_Kernel (hKernel := hKernel) (hPre_sorted_by_class := hPre_sorted_by_class)
    ∧ quiescent_KernelIdeal (hKernelIdeal := hKernelIdeal) (hPre_sorted_by_class := hPre_sorted_by_class)
    ∧ quiescent_ReferenceIdeal (hReferenceIdeal := hReferenceIdeal) (hPre_sorted_by_class := hPre_sorted_by_class)
    ∧ quiescent_Projection (hProjection := hProjection)
    ∧ quiescent_ProjectionIdeal (hProjectionIdeal := hProjectionIdeal)
    ∧ quiescent_ProjectionReferenceIdeal (hProjectionReferenceIdeal := hProjectionReferenceIdeal)
    ∧ quiescent_Attention (hAttention := hAttention)
    ∧ quiescent_AttentionIdeal (hAttentionIdeal := hAttentionIdeal)
    ∧ quiescent_AttentionReferenceIdeal (hAttentionReferenceIdeal := hAttentionReferenceIdeal)
    ∧ preserves_Kernel_KernelIdeal
    ∧ algebraic_KernelIdeal_ReferenceIdeal (hKernelIdeal := hKernelIdeal) (hReferenceIdeal := hReferenceIdeal) (hPre_sorted_by_class := hPre_sorted_by_class)
    ∧ preserves_Projection_ProjectionIdeal
    ∧ algebraic_ProjectionIdeal_ProjectionReferenceIdeal (hProjectionIdeal := hProjectionIdeal) (hProjectionReferenceIdeal := hProjectionReferenceIdeal)
    ∧ preserves_Attention_AttentionIdeal
    ∧ algebraic_AttentionIdeal_AttentionReferenceIdeal (hAttentionIdeal := hAttentionIdeal) (hAttentionReferenceIdeal := hAttentionReferenceIdeal)
-- ==== Pre_sorted_by_class.lean ====
abbrev S128x1 : Shape := ⟨2, ![128, 1]⟩
abbrev S131072x128 : Shape := ⟨2, ![131072, 128]⟩
abbrev S2x16x1024x256 : Shape := ⟨4, ![2, 16, 1024, 256]⟩
abbrev S2x16x256x1024 : Shape := ⟨4, ![2, 16, 256, 1024]⟩
abbrev S24x1 : Shape := ⟨2, ![24, 1]⟩
abbrev S24 : Shape := ⟨1, ![24]⟩
abbrev S_ : Shape := ⟨0, ![]⟩
abbrev S16384 : Shape := ⟨1, ![16384]⟩
abbrev S16384x1 : Shape := ⟨2, ![16384, 1]⟩
abbrev S16384x8x128 : Shape := ⟨3, ![16384, 8, 128]⟩
abbrev S16384x1x1 : Shape := ⟨3, ![16384, 1, 1]⟩
abbrev S1x24 : Shape := ⟨2, ![1, 24]⟩
abbrev S16384x24 : Shape := ⟨2, ![16384, 24]⟩
abbrev S1 : Shape := ⟨1, ![1]⟩

class Facts : Prop where
  slices_S128x1_S24x1_0_0 : S128x1.Slices ![0, 0] S24x1
  shapeCasts_S24x1_S24 : S24x1.ShapeCasts S24
  bcast_S_S_ : S_.BroadcastsInDim S_ (![] : Fin 0 → Fin S_.rank)
  reduceWindows_S24_S24_w24s1p23_0 : S24.ReduceWindows (![24] : Fin 1 → Nat) ![1] ![23] ![0] S24
  h_S_ : 0 < S_.numel
  bcast_S16384_S16384x1_0 : S16384.BroadcastsInDim S16384x1 (![0] : Fin 1 → Fin S16384x1.rank)
  shapeCasts_S131072x128_S16384x8x128 : S131072x128.ShapeCasts S16384x8x128
  slices_S16384x8x128_S16384x1x1_0_4_0 : S16384x8x128.Slices ![0, 4, 0] S16384x1x1
  shapeCasts_S16384x1x1_S16384x1 : S16384x1x1.ShapeCasts S16384x1
  bcast_S24_S1x24_1 : S24.BroadcastsInDim S1x24 (![1] : Fin 1 → Fin S1x24.rank)
  bcast_S16384x1_S16384x24_0_1 : S16384x1.BroadcastsInDim S16384x24 (![0, 1] : Fin 2 → Fin S16384x24.rank)
  bcast_S1x24_S16384x24_0_1 : S1x24.BroadcastsInDim S16384x24 (![0, 1] : Fin 2 → Fin S16384x24.rank)
  bcast_S_S24 : S_.BroadcastsInDim S24 (![] : Fin 0 → Fin S24.rank)
  slices_S24_S1_23 : S24.Slices ![23] S1
  bcast_S_S1 : S_.BroadcastsInDim S1 (![] : Fin 0 → Fin S1.rank)
  bcast_S1_S24_0 : S1.BroadcastsInDim S24 (![0] : Fin 1 → Fin S24.rank)

variable [Facts]

def fn_cumsum_0 {F : FTy → Type} [FloatOps F] (arg0 : IVec S24 32) : IVec S24 32 :=
  let c : IVec S_ 32 := constantI S_ 32 0#32
  let v0 : IVec S_ 32 := broadcastInDim S_ ![] bcast_S_S_ c
  let v1 : IVec S24 32 := (fun x v => Host.reduceWindow IntOp.addi ![24] ![1] ![23] ![0] x v reduceWindows_S24_S24_w24s1p23_0 h_S_) arg0 v0
  v1

def fn_cumsum {F : FTy → Type} [FloatOps F] (arg0 : IVec S24 32) : IVec S24 32 :=
  let v0 : IVec S24 32 := fn_cumsum_0 (F := F) arg0
  v0

def fn_part1 {F : FTy → Type} [FloatOps F] (main_v2 : IVec S24 32) (main_v3 : IVec S24 32) (main_v16 : IVec S16384x24 1) (main_v20 : IVec S16384x24 1) (main_v22 : IVec S16384x24 32) (main_v23 : IVec S16384x24 32) : IVec S16384x24 1 :=
  let main_v24 : IVec S16384x24 1 := cmpi .slt main_v22 main_v23
  let main_v25 : IVec S16384x24 1 := andi main_v20 main_v24
  let main_c : IVec S_ 32 := constantI S_ 32 0#32
  let main_v26 : IVec S24 32 := broadcastInDim S24 ![] bcast_S_S24 main_c
  let main_v27 : IVec S24 1 := cmpi .sge main_v2 main_v26
  let main_c_0 : IVec S_ 32 := constantI S_ 32 16384#32
  let main_v28 : IVec S24 32 := broadcastInDim S24 ![] bcast_S_S24 main_c_0
  let main_v29 : IVec S24 1 := cmpi .sle main_v2 main_v28
  let main_v30 : IVec S24 1 := andi main_v27 main_v29
  let main_v31 : IVec S1 32 := (extractStridedSlice S1 ![23] · slices_S24_S1_23) main_v3
  let main_c_1 : IVec S_ 32 := constantI S_ 32 16384#32
  let main_v32 : IVec S1 32 := broadcastInDim S1 ![] bcast_S_S1 main_c_1
  let main_v33 : IVec S1 1 := cmpi .eq main_v31 main_v32
  let main_v34 : IVec S24 1 := broadcastInDim S24 ![0] bcast_S1_S24_0 main_v33
  let main_v35 : IVec S24 1 := andi main_v30 main_v34
  let main_v36 : IVec S16384x24 1 := cmpi .eq main_v16 main_v25
  let main_v37 : IVec S1x24 1 := broadcastInDim S1x24 ![1] bcast_S24_S1x24_1 main_v35
  let main_v38 : IVec S16384x24 1 := broadcastInDim S16384x24 ![0, 1] bcast_S1x24_S16384x24_0_1 main_v37
  let main_v39 : IVec S16384x24 1 := andi main_v38 main_v36
  main_v39

def fn {F : FTy → Type} [FloatOps F] (main_arg0 : FVec F S128x1 .f32) (main_arg1 : IVec S131072x128 32) (main_arg2 : FVec F S2x16x1024x256 .f32) (main_arg3 : FVec F S2x16x1024x256 .f32) (main_arg4 : FVec F S2x16x256x1024 .f32) : IVec S16384x24 1 :=
  let main_v0 : FVec F S24x1 .f32 := (extractStridedSlice S24x1 ![0, 0] · slices_S128x1_S24x1_0_0) main_arg0
  let main_v1 : FVec F S24 .f32 := shapeCast S24 main_v0 shapeCasts_S24x1_S24
  let main_v2 : IVec S24 32 := fptosi 32 main_v1
  let main_v3 : IVec S24 32 := fn_cumsum (F := F) main_v2
  let main_v4 : IVec S24 32 := subi main_v3 main_v2
  let main_v5 : IVec S16384 32 := iotaInDim S16384 32 0
  let main_v6 : IVec S16384x1 32 := broadcastInDim S16384x1 ![0] bcast_S16384_S16384x1_0 main_v5
  let main_v7 : IVec S16384x8x128 32 := shapeCast S16384x8x128 main_arg1 shapeCasts_S131072x128_S16384x8x128
  let main_v8 : IVec S16384x1x1 32 := (extractStridedSlice S16384x1x1 ![0, 4, 0] · slices_S16384x8x128_S16384x1x1_0_4_0) main_v7
  let main_v9 : IVec S16384x1 32 := shapeCast S16384x1 main_v8 shapeCasts_S16384x1x1_S16384x1
  let main_v10 : FVec F S16384x1 .f32 := bitcastToFloat .f32 main_v9
  let main_v11 : IVec S24 32 := iotaInDim S24 32 0
  let main_v12 : FVec F S24 .f32 := sitofp .f32 main_v11
  let main_v13 : FVec F S1x24 .f32 := broadcastInDim S1x24 ![1] bcast_S24_S1x24_1 main_v12
  let main_v14 : FVec F S16384x24 .f32 := broadcastInDim S16384x24 ![0, 1] bcast_S16384x1_S16384x24_0_1 main_v10
  let main_v15 : FVec F S16384x24 .f32 := broadcastInDim S16384x24 ![0, 1] bcast_S1x24_S16384x24_0_1 main_v13
  let main_v16 : IVec S16384x24 1 := cmpf .oeq main_v14 main_v15
  let main_v17 : IVec S1x24 32 := broadcastInDim S1x24 ![1] bcast_S24_S1x24_1 main_v4
  let main_v18 : IVec S16384x24 32 := broadcastInDim S16384x24 ![0, 1] bcast_S1x24_S16384x24_0_1 main_v17
  let main_v19 : IVec S16384x24 32 := broadcastInDim S16384x24 ![0, 1] bcast_S16384x1_S16384x24_0_1 main_v6
  let main_v20 : IVec S16384x24 1 := cmpi .sle main_v18 main_v19
  let main_v21 : IVec S1x24 32 := broadcastInDim S1x24 ![1] bcast_S24_S1x24_1 main_v3
  let main_v22 : IVec S16384x24 32 := broadcastInDim S16384x24 ![0, 1] bcast_S16384x1_S16384x24_0_1 main_v6
  let main_v23 : IVec S16384x24 32 := broadcastInDim S16384x24 ![0, 1] bcast_S1x24_S16384x24_0_1 main_v21
  fn_part1 (F := F) main_v2 main_v3 main_v16 main_v20 main_v22 main_v23
-- ==== Kernel.lean ====
abbrev S128x1 : Shape := ⟨2, ![128, 1]⟩
abbrev S131072x128 : Shape := ⟨2, ![131072, 128]⟩
abbrev S2x16x1024x256 : Shape := ⟨4, ![2, 16, 1024, 256]⟩
abbrev S2x16x256x1024 : Shape := ⟨4, ![2, 16, 256, 1024]⟩
abbrev S24 : Shape := ⟨1, ![24]⟩
abbrev S24x1 : Shape := ⟨2, ![24, 1]⟩
abbrev S_ : Shape := ⟨0, ![]⟩
abbrev S88 : Shape := ⟨1, ![88]⟩
abbrev S1 : Shape := ⟨1, ![1]⟩
abbrev S1x24 : Shape := ⟨2, ![1, 24]⟩
abbrev S88x1 : Shape := ⟨2, ![88, 1]⟩
abbrev S88x24 : Shape := ⟨2, ![88, 24]⟩
abbrev S87 : Shape := ⟨1, ![87]⟩
abbrev S2048x128 : Shape := ⟨2, ![2048, 128]⟩
abbrev S1x1x1024x256 : Shape := ⟨4, ![1, 1, 1024, 256]⟩
abbrev S1x1x256x1024 : Shape := ⟨4, ![1, 1, 256, 1024]⟩
abbrev S256x1024 : Shape := ⟨2, ![256, 1024]⟩
abbrev S256x128 : Shape := ⟨2, ![256, 128]⟩
abbrev S256x1 : Shape := ⟨2, ![256, 1]⟩
abbrev S1024x256 : Shape := ⟨2, ![1024, 256]⟩
abbrev S256x256 : Shape := ⟨2, ![256, 256]⟩

abbrev nBuf : Space → Nat
  | .hbm => 180
  | .vmem => 17
  | .smem => 7
  | _ => 0

abbrev hbmTy0_0 (i : Nat) : BufTy := match i % 128 with
  | 0 => ⟨S128x1, .f32⟩
  | 1 => ⟨S131072x128, .i32⟩
  | 2 => ⟨S2x16x1024x256, .f32⟩
  | 3 => ⟨S2x16x1024x256, .f32⟩
  | 4 => ⟨S2x16x256x1024, .f32⟩
  | 5 => ⟨S24, .i32⟩
  | 6 => ⟨S24, .i32⟩
  | 7 => ⟨S24x1, .f32⟩
  | 8 => ⟨S24, .f32⟩
  | 9 => ⟨S24, .i32⟩
  | 10 => ⟨S_, .i32⟩
  | 11 => ⟨S_, .i32⟩
  | 12 => ⟨S24, .i32⟩
  | 13 => ⟨S24, .i32⟩
  | 14 => ⟨S24, .i32⟩
  | 15 => ⟨S_, .i32⟩
  | 16 => ⟨S_, .i32⟩
  | 17 => ⟨S24, .i32⟩
  | 18 => ⟨S24, .i32⟩
  | 19 => ⟨S24, .i32⟩
  | 20 => ⟨S_, .i32⟩
  | 21 => ⟨S24, .i32⟩
  | 22 => ⟨S24, .i1⟩
  | 23 => ⟨S24, .i32⟩
  | 24 => ⟨S24, .i32⟩
  | 25 => ⟨S_, .i32⟩
  | 26 => ⟨S24, .i32⟩
  | 27 => ⟨S24, .i1⟩
  | 28 => ⟨S24, .i1⟩
  | 29 => ⟨S_, .i32⟩
  | 30 => ⟨S24, .i32⟩
  | 31 => ⟨S24, .i32⟩
  | 32 => ⟨S24, .i32⟩
  | 33 => ⟨S_, .i32⟩
  | 34 => ⟨S24, .i32⟩
  | 35 => ⟨S24, .i1⟩
  | 36 => ⟨S_, .i32⟩
  | 37 => ⟨S24, .i32⟩
  | 38 => ⟨S24, .i32⟩
  | 39 => ⟨S_, .i32⟩
  | 40 => ⟨S_, .i32⟩
  | 41 => ⟨S24, .i32⟩
  | 42 => ⟨S24, .i32⟩
  | 43 => ⟨S24, .i32⟩
  | 44 => ⟨S_, .i32⟩
  | 45 => ⟨S24, .i32⟩
  | 46 => ⟨S24, .i1⟩
  | 47 => ⟨S24, .i32⟩
  | 48 => ⟨S24, .i32⟩
  | 49 => ⟨S_, .i32⟩
  | 50 => ⟨S24, .i32⟩
  | 51 => ⟨S24, .i1⟩
  | 52 => ⟨S24, .i1⟩
  | 53 => ⟨S_, .i32⟩
  | 54 => ⟨S24, .i32⟩
  | 55 => ⟨S24, .i32⟩
  | 56 => ⟨S24, .i32⟩
  | 57 => ⟨S24, .i32⟩
  | 58 => ⟨S_, .i32⟩
  | 59 => ⟨S24, .i32⟩
  | 60 => ⟨S24, .i32⟩
  | 61 => ⟨S_, .i32⟩
  | 62 => ⟨S_, .i32⟩
  | 63 => ⟨S24, .i32⟩
  | 64 => ⟨S24, .i32⟩
  | 65 => ⟨S_, .i32⟩
  | 66 => ⟨S_, .i32⟩
  | 67 => ⟨S24, .i32⟩
  | 68 => ⟨S24, .i32⟩
  | 69 => ⟨S88, .i32⟩
  | 70 => ⟨S1, .i32⟩
  | 71 => ⟨S_, .i32⟩
  | 72 => ⟨S88, .i32⟩
  | 73 => ⟨S88, .i1⟩
  | 74 => ⟨S1, .i32⟩
  | 75 => ⟨S_, .i32⟩
  | 76 => ⟨S_, .i32⟩
  | 77 => ⟨S_, .i32⟩
  | 78 => ⟨S88, .i32⟩
  | 79 => ⟨S88, .i32⟩
  | 80 => ⟨S1x24, .i32⟩
  | 81 => ⟨S88x1, .i32⟩
  | 82 => ⟨S88x24, .i32⟩
  | 83 => ⟨S88x24, .i32⟩
  | 84 => ⟨S88x24, .i1⟩
  | 85 => ⟨S88x24, .i32⟩
  | 86 => ⟨S_, .i32⟩
  | 87 => ⟨S88x1, .i32⟩
  | 88 => ⟨S1x24, .i32⟩
  | 89 => ⟨S88x24, .i32⟩
  | 90 => ⟨S88x24, .i32⟩
  | 91 => ⟨S88x24, .i1⟩
  | 92 => ⟨S_, .i32⟩
  | 93 => ⟨S_, .i32⟩
  | 94 => ⟨S88x24, .i32⟩
  | 95 => ⟨S88x24, .i32⟩
  | 96 => ⟨S88x24, .i32⟩
  | 97 => ⟨S_, .i32⟩
  | 98 => ⟨S88, .i32⟩
  | 99 => ⟨S88x1, .i32⟩
  | 100 => ⟨S1x24, .i32⟩
  | 101 => ⟨S88x24, .i32⟩
  | 102 => ⟨S88x24, .i32⟩
  | 103 => ⟨S88x24, .i1⟩
  | 104 => ⟨S_, .i32⟩
  | 105 => ⟨S_, .i32⟩
  | 106 => ⟨S88x24, .i32⟩
  | 107 => ⟨S88x24, .i32⟩
  | 108 => ⟨S88x24, .i32⟩
  | 109 => ⟨S_, .i32⟩
  | 110 => ⟨S88, .i32⟩
  | 111 => ⟨S88, .i32⟩
  | 112 => ⟨S_, .i32⟩
  | 113 => ⟨S1, .i32⟩
  | 114 => ⟨S87, .i32⟩
  | 115 => ⟨S87, .i32⟩
  | 116 => ⟨S87, .i1⟩
  | 117 => ⟨S87, .i32⟩
  | 118 => ⟨S88, .i32⟩
  | 119 => ⟨S87, .i32⟩
  | 120 => ⟨S87, .i32⟩
  | 121 => ⟨S87, .i1⟩
  | 122 => ⟨S87, .i1⟩
  | 123 => ⟨S87, .i1⟩
  | 124 => ⟨S87, .i1⟩
  | 125 => ⟨S_, .i1⟩
  | 126 => ⟨S1, .i1⟩
  | 127 => ⟨S88, .i1⟩
  | _ => ⟨S128x1, .f32⟩

abbrev hbmTy0_1 (i : Nat) : BufTy := match i % 128 with
  | 0 => ⟨S88, .i32⟩
  | 1 => ⟨S_, .i32⟩
  | 2 => ⟨S_, .i32⟩
  | 3 => ⟨S88, .i32⟩
  | 4 => ⟨S88, .i32⟩
  | 5 => ⟨S88, .i32⟩
  | 6 => ⟨S_, .i32⟩
  | 7 => ⟨S88, .i32⟩
  | 8 => ⟨S88, .i1⟩
  | 9 => ⟨S88, .i32⟩
  | 10 => ⟨S88, .i32⟩
  | 11 => ⟨S_, .i32⟩
  | 12 => ⟨S88, .i32⟩
  | 13 => ⟨S88, .i1⟩
  | 14 => ⟨S88, .i1⟩
  | 15 => ⟨S_, .i32⟩
  | 16 => ⟨S88, .i32⟩
  | 17 => ⟨S88, .i32⟩
  | 18 => ⟨S88, .i32⟩
  | 19 => ⟨S_, .i32⟩
  | 20 => ⟨S88, .i32⟩
  | 21 => ⟨S88, .i32⟩
  | 22 => ⟨S88x1, .i32⟩
  | 23 => ⟨S1x24, .i32⟩
  | 24 => ⟨S88x24, .i32⟩
  | 25 => ⟨S88x24, .i32⟩
  | 26 => ⟨S88x24, .i1⟩
  | 27 => ⟨S_, .i32⟩
  | 28 => ⟨S_, .i32⟩
  | 29 => ⟨S88x24, .i32⟩
  | 30 => ⟨S88x24, .i32⟩
  | 31 => ⟨S88x24, .i32⟩
  | 32 => ⟨S_, .i32⟩
  | 33 => ⟨S88, .i32⟩
  | 34 => ⟨S_, .i32⟩
  | 35 => ⟨S88, .i32⟩
  | 36 => ⟨S88, .i32⟩
  | 37 => ⟨S88x1, .i32⟩
  | 38 => ⟨S1x24, .i32⟩
  | 39 => ⟨S88x24, .i32⟩
  | 40 => ⟨S88x24, .i32⟩
  | 41 => ⟨S88x24, .i1⟩
  | 42 => ⟨S_, .i32⟩
  | 43 => ⟨S_, .i32⟩
  | 44 => ⟨S88x24, .i32⟩
  | 45 => ⟨S88x24, .i32⟩
  | 46 => ⟨S88x24, .i32⟩
  | 47 => ⟨S_, .i32⟩
  | 48 => ⟨S88, .i32⟩
  | 49 => ⟨S88, .i32⟩
  | 50 => ⟨S88, .i32⟩
  | 51 => ⟨S131072x128, .f32⟩
  | _ => ⟨S128x1, .f32⟩

abbrev hbmTy (i : Nat) : BufTy := match i / 128 with
  | 0 => hbmTy0_0 i
  | 1 => hbmTy0_1 i
  | _ => ⟨S128x1, .f32⟩

abbrev bufTy : (tb : Table) → Fin (tcTables nBuf tb) → BufTy
  | .hbm, ⟨i, _⟩ => hbmTy i
  | .local _ .vmem, ⟨0, _⟩ => ⟨S2048x128, .i32⟩
  | .local _ .vmem, ⟨1, _⟩ => ⟨S2048x128, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S1x1x1024x256, .f32⟩
  | .local _ .vmem, ⟨9, _⟩ => ⟨S1x1x1024x256, .f32⟩
  | .local _ .vmem, ⟨10, _⟩ => ⟨S1x1x1024x256, .f32⟩
  | .local _ .vmem, ⟨11, _⟩ => ⟨S1x1x1024x256, .f32⟩
  | .local _ .vmem, ⟨12, _⟩ => ⟨S1x1x256x1024, .f32⟩
  | .local _ .vmem, ⟨13, _⟩ => ⟨S1x1x256x1024, .f32⟩
  | .local _ .vmem, ⟨14, _⟩ => ⟨S2048x128, .f32⟩
  | .local _ .vmem, ⟨15, _⟩ => ⟨S2048x128, .f32⟩
  | .local _ .vmem, ⟨16, _⟩ => ⟨S256x1024, .f32⟩
  | .local _ .smem, ⟨0, _⟩ => ⟨S88, .i32⟩
  | .local _ .smem, ⟨1, _⟩ => ⟨S88, .i32⟩
  | .local _ .smem, ⟨2, _⟩ => ⟨S88, .i32⟩
  | .local _ .smem, ⟨3, _⟩ => ⟨S88, .i32⟩
  | .local _ .smem, ⟨4, _⟩ => ⟨S88, .i32⟩
  | .local _ .smem, ⟨5, _⟩ => ⟨S88, .i32⟩
  | .local _ .smem, ⟨6, _⟩ => ⟨S88, .i32⟩
  | _, _ => ⟨S128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_call0_c : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v6 : Ref sig .tc := ⟨.hbm, 32, rfl⟩
abbrev main_c_2 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_c_4 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_c : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_0 : Ref sig .tc := ⟨.hbm, 53, rfl⟩
abbrev main_call2_v12 : Ref sig .tc := ⟨.hbm, 54, rfl⟩
abbrev main_call2_v13 : Ref sig .tc := ⟨.hbm, 55, rfl⟩
abbrev main_v11 : Ref sig .tc := ⟨.hbm, 56, rfl⟩
abbrev main_v12 : Ref sig .tc := ⟨.hbm, 57, rfl⟩
abbrev main_c_5 : Ref sig .tc := ⟨.hbm, 58, rfl⟩
abbrev main_v13 : Ref sig .tc := ⟨.hbm, 59, rfl⟩
abbrev main_v14 : Ref sig .tc := ⟨.hbm, 60, rfl⟩
abbrev main_c_6 : Ref sig .tc := ⟨.hbm, 61, rfl⟩
abbrev main_call3_v0 : Ref sig .tc := ⟨.hbm, 62, rfl⟩
abbrev main_call3_v1 : Ref sig .tc := ⟨.hbm, 63, rfl⟩
abbrev main_v15 : Ref sig .tc := ⟨.hbm, 64, rfl⟩
abbrev main_call4_call0_c : Ref sig .tc := ⟨.hbm, 65, rfl⟩
abbrev main_call4_call0_v0 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_c_7 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_8 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_c_9 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v40 : Ref sig .tc := ⟨.hbm, 96, rfl⟩
abbrev main_c_10 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_c_11 : Ref sig .tc := ⟨.hbm, 104, rfl⟩
abbrev main_call6_v0 : Ref sig .tc := ⟨.hbm, 105, rfl⟩
abbrev main_call6_v1 : Ref sig .tc := ⟨.hbm, 106, rfl⟩
abbrev main_call6_v2 : Ref sig .tc := ⟨.hbm, 107, rfl⟩
abbrev main_v47 : Ref sig .tc := ⟨.hbm, 108, rfl⟩
abbrev main_c_12 : Ref sig .tc := ⟨.hbm, 109, rfl⟩
abbrev main_v48 : Ref sig .tc := ⟨.hbm, 110, rfl⟩
abbrev main_v49 : Ref sig .tc := ⟨.hbm, 111, rfl⟩
abbrev main_c_13 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_c_14 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_c_15 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_v5 : Ref sig .tc := ⟨.hbm, 135, rfl⟩
abbrev main_call7_v6 : Ref sig .tc := ⟨.hbm, 136, rfl⟩
abbrev main_call7_v7 : Ref sig .tc := ⟨.hbm, 137, rfl⟩
abbrev main_call7_v8 : Ref sig .tc := ⟨.hbm, 138, rfl⟩
abbrev main_call7_c : Ref sig .tc := ⟨.hbm, 139, rfl⟩
abbrev main_call7_v9 : Ref sig .tc := ⟨.hbm, 140, rfl⟩
abbrev main_call7_v10 : Ref sig .tc := ⟨.hbm, 141, rfl⟩
abbrev main_call7_v11 : Ref sig .tc := ⟨.hbm, 142, rfl⟩
abbrev main_call7_c_0 : Ref sig .tc := ⟨.hbm, 143, rfl⟩
abbrev main_call7_v12 : Ref sig .tc := ⟨.hbm, 144, rfl⟩
abbrev main_call7_v13 : Ref sig .tc := ⟨.hbm, 145, rfl⟩
abbrev main_v66 : Ref sig .tc := ⟨.hbm, 146, rfl⟩
abbrev main_c_16 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_c_17 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_v74 : Ref sig .tc := ⟨.hbm, 159, rfl⟩
abbrev main_c_18 : Ref sig .tc := ⟨.hbm, 160, rfl⟩
abbrev main_v75 : Ref sig .tc := ⟨.hbm, 161, rfl⟩
abbrev main_c_19 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_c_20 : Ref sig .tc := ⟨.hbm, 170, rfl⟩
abbrev main_call9_v0 : Ref sig .tc := ⟨.hbm, 171, rfl⟩
abbrev main_call9_v1 : Ref sig .tc := ⟨.hbm, 172, rfl⟩
abbrev main_call9_v2 : Ref sig .tc := ⟨.hbm, 173, rfl⟩
abbrev main_v84 : Ref sig .tc := ⟨.hbm, 174, rfl⟩
abbrev main_c_21 : Ref sig .tc := ⟨.hbm, 175, rfl⟩
abbrev main_v85 : Ref sig .tc := ⟨.hbm, 176, rfl⟩
abbrev main_v87 : Ref sig .tc := ⟨.hbm, 177, rfl⟩
abbrev main_v89 : Ref sig .tc := ⟨.hbm, 178, rfl⟩
abbrev main_v92 : Ref sig .tc := ⟨.hbm, 179, rfl⟩
abbrev main_v50 : Ref sig .tc := ⟨.smem, 0, rfl⟩
abbrev main_v34 : Ref sig .tc := ⟨.smem, 1, rfl⟩
abbrev main_v76 : Ref sig .tc := ⟨.smem, 2, rfl⟩
abbrev main_v86 : Ref sig .tc := ⟨.smem, 3, rfl⟩
abbrev main_v88 : Ref sig .tc := ⟨.smem, 4, rfl⟩
abbrev main_v90 : Ref sig .tc := ⟨.smem, 5, rfl⟩
abbrev main_v91 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![88], ![false]⟩

abbrev pre0 : Pipeline.Prefetch sig := ⟨7, ![main_v50.idx, main_v34.idx, main_v76.idx, main_v86.idx, main_v88.idx, main_v90.idx, main_v91.idx], fun | 0 => main_v50.names | 1 => main_v34.names | 2 => main_v76.names | 3 => main_v86.names | 4 => main_v88.names | 5 => main_v90.names | 6 => main_v91.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v26 : Index := Scalar.indexCast arg0
  ![v26.toNat]
def k0_off3 (i : grid0.Coords) : Fin 1 → Nat :=
  let arg0 : BitVec 32 := BitVec.ofNat 32 (i 0).val
  let v91 : Index := Scalar.indexCast arg0
  ![v91.toNat]
def k0_off4 (i : grid0.Coords) : Fin 1 → Nat :=
  let arg0 : BitVec 32 := BitVec.ofNat 32 (i 0).val
  let v96 : Index := Scalar.indexCast arg0
  ![v96.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond4 (v97 : BitVec 32) : BitVec 1 :=
  let c1_i32_54 : BitVec 32 := 1#32
  let v98 : BitVec 1 := Scalar.cmpi .eq v97 c1_i32_54
  let v99 : BitVec 32 := Scalar.extui v98
  let c0_i32_55 : BitVec 32 := 0#32
  let v100 : BitVec 1 := Scalar.cmpi .ne v99 c0_i32_55
  v100

def cc0_transform_0 (k0_off1_inb : ∀ i : grid0.Coords, ∀ a, (k0_off1 i) a + S1.size a ≤ S88.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 3 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 3 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_6 (k0_off1_inb : ∀ i : grid0.Coords, ∀ a, (k0_off1 i) a + S1.size a ≤ S88.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 3 (Rect.unit (s := S88) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_7 (k0_off1_inb : ∀ i : grid0.Coords, ∀ a, (k0_off1 i) a + S1.size a ≤ S88.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S88) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S128x1 : Shape := ⟨2, ![128, 1]⟩
abbrev S131072x128 : Shape := ⟨2, ![131072, 128]⟩
abbrev S2x16x1024x256 : Shape := ⟨4, ![2, 16, 1024, 256]⟩
abbrev S2x16x256x1024 : Shape := ⟨4, ![2, 16, 256, 1024]⟩
abbrev S16384x8x128 : Shape := ⟨3, ![16384, 8, 128]⟩
abbrev S16384x4x128 : Shape := ⟨3, ![16384, 4, 128]⟩
abbrev S16384x512 : Shape := ⟨2, ![16384, 512]⟩
abbrev S16384x512x2 : Shape := ⟨3, ![16384, 512, 2]⟩
abbrev S16384x512x1 : Shape := ⟨3, ![16384, 512, 1]⟩
abbrev S16384x1024 : Shape := ⟨2, ![16384, 1024]⟩
abbrev S16384x1x128 : Shape := ⟨3, ![16384, 1, 128]⟩
abbrev S16384x128 : Shape := ⟨2, ![16384, 128]⟩
abbrev S16384x1 : Shape := ⟨2, ![16384, 1]⟩
abbrev S16384x2 : Shape := ⟨2, ![16384, 2]⟩
abbrev S_ : Shape := ⟨0, ![]⟩
abbrev S16384x2x1 : Shape := ⟨3, ![16384, 2, 1]⟩
abbrev S1x1x16 : Shape := ⟨3, ![1, 1, 16]⟩
abbrev S16384x2x16 : Shape := ⟨3, ![16384, 2, 16]⟩
abbrev S16384x16 : Shape := ⟨2, ![16384, 16]⟩
abbrev S1x16x1024x256 : Shape := ⟨4, ![1, 16, 1024, 256]⟩
abbrev S16x1024x256 : Shape := ⟨3, ![16, 1024, 256]⟩
abbrev S16384x16x256 : Shape := ⟨3, ![16384, 16, 256]⟩
abbrev S16384x16x1 : Shape := ⟨3, ![16384, 16, 1]⟩
abbrev S1x16x256x1024 : Shape := ⟨4, ![1, 16, 256, 1024]⟩
abbrev S16x256x1024 : Shape := ⟨3, ![16, 256, 1024]⟩

abbrev nBuf : Space → Nat
  | .hbm => 133
  | .vmem => 0
  | .smem => 0
  | _ => 0

abbrev hbmTy0_0 (i : Nat) : BufTy := match i % 128 with
  | 0 => ⟨S128x1, .f32⟩
  | 1 => ⟨S131072x128, .i32⟩
  | 2 => ⟨S2x16x1024x256, .f32⟩
  | 3 => ⟨S2x16x1024x256, .f32⟩
  | 4 => ⟨S2x16x256x1024, .f32⟩
  | 5 => ⟨S16384x8x128, .i32⟩
  | 6 => ⟨S16384x4x128, .i32⟩
  | 7 => ⟨S16384x512, .i32⟩
  | 8 => ⟨S16384x512x2, .bf16⟩
  | 9 => ⟨S16384x512x1, .bf16⟩
  | 10 => ⟨S16384x512, .bf16⟩
  | 11 => ⟨S16384x512x1, .bf16⟩
  | 12 => ⟨S16384x512, .bf16⟩
  | 13 => ⟨S16384x1024, .bf16⟩
  | 14 => ⟨S16384x1024, .f32⟩
  | 15 => ⟨S16384x1x128, .i32⟩
  | 16 => ⟨S16384x128, .i32⟩
  | 17 => ⟨S16384x128, .f32⟩
  | 18 => ⟨S16384x1, .f32⟩
  | 19 => ⟨S16384x1, .i32⟩
  | 20 => ⟨S16384x2, .f32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S16384x1, .i32⟩
  | 28 => ⟨S16384x1, .i32⟩
  | 29 => ⟨S_, .i32⟩
  | 30 => ⟨S16384x1, .i32⟩
  | 31 => ⟨S16384x1, .i1⟩
  | 32 => ⟨S_, .i32⟩
  | 33 => ⟨S16384x1, .i32⟩
  | 34 => ⟨S16384x1, .i1⟩
  | 35 => ⟨S_, .i32⟩
  | 36 => ⟨S_, .i1⟩
  | 37 => ⟨S16384x1, .i1⟩
  | 38 => ⟨S16384x1, .i1⟩
  | 39 => ⟨S16384x1, .i1⟩
  | 40 => ⟨S16384x1, .i32⟩
  | 41 => ⟨S16384x1, .i32⟩
  | 42 => ⟨S16384x1, .i32⟩
  | 43 => ⟨S_, .i32⟩
  | 44 => ⟨S16384x1, .i32⟩
  | 45 => ⟨S16384x1, .i1⟩
  | 46 => ⟨S_, .i32⟩
  | 47 => ⟨S16384x1, .i32⟩
  | 48 => ⟨S16384x1, .i1⟩
  | 49 => ⟨S_, .i32⟩
  | 50 => ⟨S_, .i32⟩
  | 51 => ⟨S16384x1, .i32⟩
  | 52 => ⟨S16384x1, .i32⟩
  | 53 => ⟨S16384x1, .i32⟩
  | 54 => ⟨S_, .i32⟩
  | 55 => ⟨S16384x1, .i32⟩
  | 56 => ⟨S16384x1, .i32⟩
  | 57 => ⟨S_, .i32⟩
  | 58 => ⟨S16384x1, .i32⟩
  | 59 => ⟨S16384x1, .i1⟩
  | 60 => ⟨S_, .i32⟩
  | 61 => ⟨S16384x1, .i32⟩
  | 62 => ⟨S16384x1, .i32⟩
  | 63 => ⟨S_, .i32⟩
  | 64 => ⟨S16384x1, .i32⟩
  | 65 => ⟨S16384x1, .i1⟩
  | 66 => ⟨S_, .i32⟩
  | 67 => ⟨S16384x1, .i32⟩
  | 68 => ⟨S16384x1, .i32⟩
  | 69 => ⟨S_, .i32⟩
  | 70 => ⟨S_, .i32⟩
  | 71 => ⟨S16384x1, .i32⟩
  | 72 => ⟨S16384x1, .i32⟩
  | 73 => ⟨S16384x1, .i32⟩
  | 74 => ⟨S_, .i32⟩
  | 75 => ⟨S_, .i32⟩
  | 76 => ⟨S16384x1, .i32⟩
  | 77 => ⟨S16384x1, .i32⟩
  | 78 => ⟨S16384x1, .i32⟩
  | 79 => ⟨S_, .i32⟩
  | 80 => ⟨S16384x1, .i32⟩
  | 81 => ⟨S16384x1, .i1⟩
  | 82 => ⟨S16384x1, .i32⟩
  | 83 => ⟨S16384x1, .i32⟩
  | 84 => ⟨S_, .i32⟩
  | 85 => ⟨S16384x1, .i32⟩
  | 86 => ⟨S16384x1, .i1⟩
  | 87 => ⟨S16384x1, .i1⟩
  | 88 => ⟨S_, .i32⟩
  | 89 => ⟨S16384x1, .i32⟩
  | 90 => ⟨S16384x1, .i32⟩
  | 91 => ⟨S16384x1, .i32⟩
  | 92 => ⟨S_, .i32⟩
  | 93 => ⟨S16384x1, .i32⟩
  | 94 => ⟨S16384x1, .i32⟩
  | 95 => ⟨S16384x1, .i32⟩
  | 96 => ⟨S16384x2, .i32⟩
  | 97 => ⟨S16384x2, .i32⟩
  | 98 => ⟨S16384x2, .i32⟩
  | 99 => ⟨S16384x2x1, .i32⟩
  | 100 => ⟨S1x1x16, .i32⟩
  | 101 => ⟨S16384x2x16, .i32⟩
  | 102 => ⟨S16384x2x16, .i32⟩
  | 103 => ⟨S16384x2x16, .i1⟩
  | 104 => ⟨S16384x2x16, .f32⟩
  | 105 => ⟨S16384x2x1, .f32⟩
  | 106 => ⟨S16384x2x16, .f32⟩
  | 107 => ⟨S16384x2x16, .f32⟩
  | 108 => ⟨S_, .f32⟩
  | 109 => ⟨S16384x16, .f32⟩
  | 110 => ⟨S1x16x1024x256, .f32⟩
  | 111 => ⟨S16x1024x256, .f32⟩
  | 112 => ⟨S16384x16x256, .f32⟩
  | 113 => ⟨S16384x16x256, .f32⟩
  | 114 => ⟨S16384x16x256, .f32⟩
  | 115 => ⟨S_, .f32⟩
  | 116 => ⟨S16384x16x256, .f32⟩
  | 117 => ⟨S16384x16x256, .f32⟩
  | 118 => ⟨S_, .f32⟩
  | 119 => ⟨S16384x16x256, .f32⟩
  | 120 => ⟨S16384x16x256, .f32⟩
  | 121 => ⟨S16384x16x256, .f32⟩
  | 122 => ⟨S1x16x1024x256, .f32⟩
  | 123 => ⟨S16x1024x256, .f32⟩
  | 124 => ⟨S16384x16x256, .f32⟩
  | 125 => ⟨S16384x16x256, .f32⟩
  | 126 => ⟨S16384x16x1, .f32⟩
  | 127 => ⟨S16384x16x256, .f32⟩
  | _ => ⟨S128x1, .f32⟩

abbrev hbmTy0_1 (i : Nat) : BufTy := match i % 128 with
  | 0 => ⟨S16384x16x256, .f32⟩
  | 1 => ⟨S1x16x256x1024, .f32⟩
  | 2 => ⟨S16x256x1024, .f32⟩
  | 3 => ⟨S16384x1024, .f32⟩
  | 4 => ⟨S131072x128, .f32⟩
  | _ => ⟨S128x1, .f32⟩

abbrev hbmTy (i : Nat) : BufTy := match i / 128 with
  | 0 => hbmTy0_0 i
  | 1 => hbmTy0_1 i
  | _ => ⟨S128x1, .f32⟩

abbrev bufTy : (tb : Table) → Fin (tcTables nBuf tb) → BufTy
  | .hbm, ⟨i, _⟩ => hbmTy i
  | _, _ => ⟨S128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v16 : Ref sig .tc := ⟨.hbm, 42, rfl⟩
abbrev main_c_0 : Ref sig .tc := ⟨.hbm, 43, rfl⟩
abbrev main_v17 : Ref sig .tc := ⟨.hbm, 44, rfl⟩
abbrev main_v18 : Ref sig .tc := ⟨.hbm, 45, rfl⟩
abbrev main_c_1 : Ref sig .tc := ⟨.hbm, 46, rfl⟩
abbrev main_v19 : Ref sig .tc := ⟨.hbm, 47, rfl⟩
abbrev main_v20 : Ref sig .tc := ⟨.hbm, 48, rfl⟩
abbrev main_c_2 : Ref sig .tc := ⟨.hbm, 49, rfl⟩
abbrev main_c_3 : Ref sig .tc := ⟨.hbm, 50, rfl⟩
abbrev main_call1_v0 : Ref sig .tc := ⟨.hbm, 51, rfl⟩
abbrev main_call1_v1 : Ref sig .tc := ⟨.hbm, 52, rfl⟩
abbrev main_v21 : Ref sig .tc := ⟨.hbm, 53, rfl⟩
abbrev main_c_4 : Ref sig .tc := ⟨.hbm, 54, rfl⟩
abbrev main_call2_v0 : Ref sig .tc := ⟨.hbm, 55, rfl⟩
abbrev main_v22 : Ref sig .tc := ⟨.hbm, 56, rfl⟩
abbrev main_c_5 : Ref sig .tc := ⟨.hbm, 57, rfl⟩
abbrev main_v23 : Ref sig .tc := ⟨.hbm, 58, rfl⟩
abbrev main_v24 : Ref sig .tc := ⟨.hbm, 59, rfl⟩
abbrev main_c_6 : Ref sig .tc := ⟨.hbm, 60, rfl⟩
abbrev main_v25 : Ref sig .tc := ⟨.hbm, 61, rfl⟩
abbrev main_v26 : Ref sig .tc := ⟨.hbm, 62, rfl⟩
abbrev main_c_7 : Ref sig .tc := ⟨.hbm, 63, rfl⟩
abbrev main_v27 : Ref sig .tc := ⟨.hbm, 64, rfl⟩
abbrev main_v28 : Ref sig .tc := ⟨.hbm, 65, rfl⟩
abbrev main_c_8 : Ref sig .tc := ⟨.hbm, 66, rfl⟩
abbrev main_v29 : Ref sig .tc := ⟨.hbm, 67, rfl⟩
abbrev main_v30 : Ref sig .tc := ⟨.hbm, 68, rfl⟩
abbrev main_c_9 : Ref sig .tc := ⟨.hbm, 69, rfl⟩
abbrev main_call3_v0 : Ref sig .tc := ⟨.hbm, 70, rfl⟩
abbrev main_call3_v1 : Ref sig .tc := ⟨.hbm, 71, rfl⟩
abbrev main_v31 : Ref sig .tc := ⟨.hbm, 72, rfl⟩
abbrev main_v32 : Ref sig .tc := ⟨.hbm, 73, rfl⟩
abbrev main_c_10 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_call5_v5 : Ref sig .tc := ⟨.hbm, 80, rfl⟩
abbrev main_call5_v6 : Ref sig .tc := ⟨.hbm, 81, rfl⟩
abbrev main_call5_v7 : Ref sig .tc := ⟨.hbm, 82, rfl⟩
abbrev main_call5_v8 : Ref sig .tc := ⟨.hbm, 83, rfl⟩
abbrev main_call5_c : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_0 : Ref sig .tc := ⟨.hbm, 88, rfl⟩
abbrev main_call5_v12 : Ref sig .tc := ⟨.hbm, 89, rfl⟩
abbrev main_call5_v13 : Ref sig .tc := ⟨.hbm, 90, rfl⟩
abbrev main_v33 : Ref sig .tc := ⟨.hbm, 91, rfl⟩
abbrev main_c_11 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_call6_v3 : Ref sig .tc := ⟨.hbm, 102, rfl⟩
abbrev main_call6_v4 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_call7_v0 : Ref sig .tc := ⟨.hbm, 113, rfl⟩
abbrev main_call7_v1 : Ref sig .tc := ⟨.hbm, 114, rfl⟩
abbrev main_call7_cst : Ref sig .tc := ⟨.hbm, 115, rfl⟩
abbrev main_call7_v2 : Ref sig .tc := ⟨.hbm, 116, rfl⟩
abbrev main_call7_v3 : Ref sig .tc := ⟨.hbm, 117, rfl⟩
abbrev main_call7_cst_0 : Ref sig .tc := ⟨.hbm, 118, rfl⟩
abbrev main_call7_v4 : Ref sig .tc := ⟨.hbm, 119, rfl⟩
abbrev main_call7_v5 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩

abbrev nD : Nat := 1
abbrev τ : Topo := Topo.v7x

variable {F : FTy → Type} [FloatOps F]
-- ==== Projection.lean ====
abbrev S16384x1024 : Shape := ⟨2, ![16384, 1024]⟩
abbrev S2x1024 : Shape := ⟨2, ![2, 1024]⟩
abbrev S2x8x6x1x1024 : Shape := ⟨5, ![2, 8, 6, 1, 1024]⟩
abbrev S1x1024x6176 : Shape := ⟨3, ![1, 1024, 6176]⟩
abbrev S1x1024 : Shape := ⟨2, ![1, 1024]⟩
abbrev S1024 : Shape := ⟨1, ![1024]⟩
abbrev S1024x6176 : Shape := ⟨2, ![1024, 6176]⟩
abbrev S16384x2048 : Shape := ⟨2, ![16384, 2048]⟩
abbrev S16384x4096 : Shape := ⟨2, ![16384, 4096]⟩
abbrev S16384x128 : Shape := ⟨2, ![16384, 128]⟩
abbrev S256x1024 : Shape := ⟨2, ![256, 1024]⟩
abbrev S1x1x1x1x1024 : Shape := ⟨5, ![1, 1, 1, 1, 1024]⟩
abbrev S256x2048 : Shape := ⟨2, ![256, 2048]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S1024x2048 : Shape := ⟨2, ![1024, 2048]⟩
abbrev S1024x4096 : Shape := ⟨2, ![1024, 4096]⟩
abbrev S1024x32 : Shape := ⟨2, ![1024, 32]⟩
abbrev S256x32 : Shape := ⟨2, ![256, 32]⟩
abbrev S256x96 : Shape := ⟨2, ![256, 96]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x8x6x1x1024, .f32⟩
  | .hbm, ⟨3, _⟩ => ⟨S1x1024x6176, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1024x6176, .f32⟩
  | .hbm, ⟨8, _⟩ => ⟨S1024x6176, .bf16⟩
  | .hbm, ⟨9, _⟩ => ⟨S16384x2048, .f32⟩
  | .hbm, ⟨10, _⟩ => ⟨S16384x4096, .f32⟩
  | .hbm, ⟨11, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1024x6176, .bf16⟩
  | .local _ .vmem, ⟨8, _⟩ => ⟨S256x2048, .f32⟩
  | .local _ .vmem, ⟨9, _⟩ => ⟨S256x2048, .f32⟩
  | .local _ .vmem, ⟨10, _⟩ => ⟨S256x4096, .f32⟩
  | .local _ .vmem, ⟨11, _⟩ => ⟨S256x4096, .f32⟩
  | .local _ .vmem, ⟨12, _⟩ => ⟨S256x128, .f32⟩
  | .local _ .vmem, ⟨13, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v16.toNat, c1_i32_5.toNat, c0_i32_6.toNat, c0_i32_7.toNat]

def cc0_transform_3 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v16.toNat, c0_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x6176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjectionReferenceIdeal.lean ====
abbrev S16384x1024 : Shape := ⟨2, ![16384, 1024]⟩
abbrev S2x1024 : Shape := ⟨2, ![2, 1024]⟩
abbrev S2x8x6x1x1024 : Shape := ⟨5, ![2, 8, 6, 1, 1024]⟩
abbrev S1x1024x6176 : Shape := ⟨3, ![1, 1024, 6176]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x8x1x1x1024 : Shape := ⟨5, ![1, 8, 1, 1, 1024]⟩
abbrev S8x1x1024 : Shape := ⟨3, ![8, 1, 1024]⟩
abbrev S1024x6176 : Shape := ⟨2, ![1024, 6176]⟩
abbrev S8x2048x6176 : Shape := ⟨3, ![8, 2048, 6176]⟩
abbrev S16384x6176 : Shape := ⟨2, ![16384, 6176]⟩
abbrev S16384x2048 : Shape := ⟨2, ![16384, 2048]⟩
abbrev S16384x4096 : Shape := ⟨2, ![16384, 4096]⟩
abbrev S16384x32 : Shape := ⟨2, ![16384, 32]⟩
abbrev S16384x128 : Shape := ⟨2, ![16384, 128]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x8x6x1x1024, .f32⟩
  | .hbm, ⟨3, _⟩ => ⟨S1x1024x6176, .f32⟩
  | .hbm, ⟨4, _⟩ => ⟨S8x2048x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1024, .f32⟩
  | .hbm, ⟨19, _⟩ => ⟨S1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1x8x1x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S1x8x1x1x1024, .f32⟩
  | .hbm, ⟨31, _⟩ => ⟨S8x1x1024, .f32⟩
  | .hbm, ⟨32, _⟩ => ⟨S8x2048x1024, .f32⟩
  | .hbm, ⟨33, _⟩ => ⟨S8x2048x1024, .f32⟩
  | .hbm, ⟨34, _⟩ => ⟨S1024x6176, .f32⟩
  | .hbm, ⟨35, _⟩ => ⟨S8x2048x6176, .f32⟩
  | .hbm, ⟨36, _⟩ => ⟨S16384x6176, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S16384x2048, .f32⟩
  | .hbm, ⟨47, _⟩ => ⟨S16384x4096, .f32⟩
  | .hbm, ⟨48, _⟩ => ⟨S16384x32, .f32⟩
  | .hbm, ⟨49, _⟩ => ⟨S_, .i32⟩
  | .hbm, ⟨50, _⟩ => ⟨S_, .f32⟩
  | .hbm, ⟨51, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_call1_v0 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Attention.lean ====
abbrev S16384x1024 : Shape := ⟨2, ![16384, 1024]⟩
abbrev S2x1024 : Shape := ⟨2, ![2, 1024]⟩
abbrev S2x8x6x1x1024 : Shape := ⟨5, ![2, 8, 6, 1, 1024]⟩
abbrev S1x1024x2120 : Shape := ⟨3, ![1, 1024, 2120]⟩
abbrev S1x64 : Shape := ⟨2, ![1, 64]⟩
abbrev S1024x2120 : Shape := ⟨2, ![1024, 2120]⟩
abbrev S1024x2112 : Shape := ⟨2, ![1024, 2112]⟩
abbrev S_ : Shape := ⟨0, ![]⟩
abbrev S1024x2176 : Shape := ⟨2, ![1024, 2176]⟩
abbrev S1024x8 : Shape := ⟨2, ![1024, 8]⟩
abbrev S1024x128 : Shape := ⟨2, ![1024, 128]⟩
abbrev S1024x2304 : Shape := ⟨2, ![1024, 2304]⟩
abbrev S1x1024 : Shape := ⟨2, ![1, 1024]⟩
abbrev S1024 : Shape := ⟨1, ![1024]⟩
abbrev S64 : Shape := ⟨1, ![64]⟩
abbrev S1024x1 : Shape := ⟨2, ![1024, 1]⟩
abbrev S128 : Shape := ⟨1, ![128]⟩
abbrev S1x128 : Shape := ⟨2, ![1, 128]⟩
abbrev S1x1x1x64 : Shape := ⟨4, ![1, 1, 1, 64]⟩
abbrev S1x1x16x64 : Shape := ⟨4, ![1, 1, 16, 64]⟩
abbrev S1x1x4x64 : Shape := ⟨4, ![1, 1, 4, 64]⟩
abbrev S1x256 : Shape := ⟨2, ![1, 256]⟩
abbrev S128x1024 : Shape := ⟨2, ![128, 1024]⟩
abbrev S16x16384x64 : Shape := ⟨3, ![16, 16384, 64]⟩
abbrev S4x16384x64 : Shape := ⟨3, ![4, 16384, 64]⟩
abbrev S4x16384x128 : Shape := ⟨3, ![4, 16384, 128]⟩
abbrev S8x16384x64 : Shape := ⟨3, ![8, 16384, 64]⟩
abbrev S16384x64 : Shape := ⟨2, ![16384, 64]⟩
abbrev S16384x8 : Shape := ⟨2, ![16384, 8]⟩
abbrev S512x1024 : Shape := ⟨2, ![512, 1024]⟩
abbrev S1x1x1x1x1024 : Shape := ⟨5, ![1, 1, 1, 1, 1024]⟩
abbrev S16x512x64 : Shape := ⟨3, ![16, 512, 64]⟩
abbrev S4x512x64 : Shape := ⟨3, ![4, 512, 64]⟩
abbrev S4x512x128 : Shape := ⟨3, ![4, 512, 128]⟩
abbrev S8x512x64 : Shape := ⟨3, ![8, 512, 64]⟩
abbrev S512x64 : Shape := ⟨2, ![512, 64]⟩
abbrev S512x8 : Shape := ⟨2, ![512, 8]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩
abbrev S1x512x64 : Shape := ⟨3, ![1, 512, 64]⟩
abbrev S1024x512 : Shape := ⟨2, ![1024, 512]⟩
abbrev S512x512 : Shape := ⟨2, ![512, 512]⟩
abbrev S512x256 : Shape := ⟨2, ![512, 256]⟩
abbrev S256x128 : Shape := ⟨2, ![256, 128]⟩
abbrev S128x256 : Shape := ⟨2, ![128, 256]⟩
abbrev S1x512x128 : Shape := ⟨3, ![1, 512, 128]⟩
abbrev S1024x64 : Shape := ⟨2, ![1024, 64]⟩

abbrev nBuf : Space → Nat
  | .hbm => 63
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x8x6x1x1024, .f32⟩
  | .hbm, ⟨3, _⟩ => ⟨S1x1024x2120, .f32⟩
  | .hbm, ⟨4, _⟩ => ⟨S1x64, .f32⟩
  | .hbm, ⟨5, _⟩ => ⟨S1x64, .f32⟩
  | .hbm, ⟨6, _⟩ => ⟨S1024x2120, .f32⟩
  | .hbm, ⟨7, _⟩ => ⟨S1024x2112, .f32⟩
  | .hbm, ⟨8, _⟩ => ⟨S_, .i32⟩
  | .hbm, ⟨9, _⟩ => ⟨S_, .f32⟩
  | .hbm, ⟨10, _⟩ => ⟨S1024x2176, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x2304, .f32⟩
  | .hbm, ⟨16, _⟩ => ⟨S1024x2304, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S1024, .i32⟩
  | .hbm, ⟨25, _⟩ => ⟨S_, .i32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i1⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S1024, .i1⟩
  | .hbm, ⟨39, _⟩ => ⟨S_, .i32⟩
  | .hbm, ⟨40, _⟩ => ⟨S1024, .i32⟩
  | .hbm, ⟨41, _⟩ => ⟨S1024, .i32⟩
  | .hbm, ⟨42, _⟩ => ⟨S1024, .i32⟩
  | .hbm, ⟨43, _⟩ => ⟨S1024x1, .i32⟩
  | .hbm, ⟨44, _⟩ => ⟨S128, .i32⟩
  | .hbm, ⟨45, _⟩ => ⟨S1x128, .i32⟩
  | .hbm, ⟨46, _⟩ => ⟨S1024x128, .i32⟩
  | .hbm, ⟨47, _⟩ => ⟨S1024x128, .i32⟩
  | .hbm, ⟨48, _⟩ => ⟨S1024x128, .i1⟩
  | .hbm, ⟨49, _⟩ => ⟨S1024x128, .bf16⟩
  | .hbm, ⟨50, _⟩ => ⟨S1x1x1x64, .f32⟩
  | .hbm, ⟨51, _⟩ => ⟨S1x1x16x64, .f32⟩
  | .hbm, ⟨52, _⟩ => ⟨S1x1024, .f32⟩
  | .hbm, ⟨53, _⟩ => ⟨S1x1x1x64, .f32⟩
  | .hbm, ⟨54, _⟩ => ⟨S1x1x4x64, .f32⟩
  | .hbm, ⟨55, _⟩ => ⟨S1x256, .f32⟩
  | .hbm, ⟨56, _⟩ => ⟨S128x1024, .bf16⟩
  | .hbm, ⟨57, _⟩ => ⟨S16x16384x64, .bf16⟩
  | .hbm, ⟨58, _⟩ => ⟨S4x16384x64, .bf16⟩
  | .hbm, ⟨59, _⟩ => ⟨S4x16384x128, .bf16⟩
  | .hbm, ⟨60, _⟩ => ⟨S8x16384x64, .bf16⟩
  | .hbm, ⟨61, _⟩ => ⟨S16384x64, .bf16⟩
  | .hbm, ⟨62, _⟩ => ⟨S16384x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1x1024, .f32⟩
  | .local _ .vmem, ⟨4, _⟩ => ⟨S1x1x1x1x1024, .f32⟩
  | .local _ .vmem, ⟨5, _⟩ => ⟨S1x1x1x1x1024, .f32⟩
  | .local _ .vmem, ⟨6, _⟩ => ⟨S1x1x1x1x1024, .f32⟩
  | .local _ .vmem, ⟨7, _⟩ => ⟨S1024x2304, .bf16⟩
  | .local _ .vmem, ⟨8, _⟩ => ⟨S1x1024, .f32⟩
  | .local _ .vmem, ⟨9, _⟩ => ⟨S1x256, .f32⟩
  | .local _ .vmem, ⟨10, _⟩ => ⟨S1024x128, .bf16⟩
  | .local _ .vmem, ⟨11, _⟩ => ⟨S128x1024, .bf16⟩
  | .local _ .vmem, ⟨12, _⟩ => ⟨S16x512x64, .bf16⟩
  | .local _ .vmem, ⟨13, _⟩ => ⟨S16x512x64, .bf16⟩
  | .local _ .vmem, ⟨14, _⟩ => ⟨S4x512x64, .bf16⟩
  | .local _ .vmem, ⟨15, _⟩ => ⟨S4x512x64, .bf16⟩
  | .local _ .vmem, ⟨16, _⟩ => ⟨S4x512x128, .bf16⟩
  | .local _ .vmem, ⟨17, _⟩ => ⟨S4x512x128, .bf16⟩
  | .local _ .vmem, ⟨18, _⟩ => ⟨S8x512x64, .bf16⟩
  | .local _ .vmem, ⟨19, _⟩ => ⟨S8x512x64, .bf16⟩
  | .local _ .vmem, ⟨20, _⟩ => ⟨S512x64, .bf16⟩
  | .local _ .vmem, ⟨21, _⟩ => ⟨S512x64, .bf16⟩
  | .local _ .vmem, ⟨22, _⟩ => ⟨S512x8, .f32⟩
  | .local _ .vmem, ⟨23, _⟩ => ⟨S512x8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_c : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_0 : Ref sig .tc := ⟨.hbm, 39, rfl⟩
abbrev main_call2_v12 : Ref sig .tc := ⟨.hbm, 40, rfl⟩
abbrev main_call2_v13 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30_0 : Ref sig .tc := ⟨.hbm, 57, rfl⟩
abbrev main_v30_1 : Ref sig .tc := ⟨.hbm, 58, rfl⟩
abbrev main_v30_2 : Ref sig .tc := ⟨.hbm, 59, rfl⟩
abbrev main_v30_3 : Ref sig .tc := ⟨.hbm, 60, rfl⟩
abbrev main_v30_4 : Ref sig .tc := ⟨.hbm, 61, rfl⟩
abbrev main_v30_5 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c1_i32_5 : BitVec 32 := 1#32
  let c0_i32_6 : BitVec 32 := 0#32
  let c0_i32_7 : BitVec 32 := 0#32
  let c0_i32_8 : BitVec 32 := 0#32
  ![c1_i32_4.toNat, v16.toNat, c1_i32_5.toNat, c0_i32_6.toNat, c0_i32_7.toNat]

def cc0_transform_3 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  let c0_i32_8 : BitVec 32 := 0#32
  ![c1_i32_4.toNat, v16.toNat, c0_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x64 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttentionReferenceIdeal.lean ====
abbrev S16384x1024 : Shape := ⟨2, ![16384, 1024]⟩
abbrev S2x1024 : Shape := ⟨2, ![2, 1024]⟩
abbrev S2x8x6x1x1024 : Shape := ⟨5, ![2, 8, 6, 1, 1024]⟩
abbrev S1x1024x2120 : Shape := ⟨3, ![1, 1024, 2120]⟩
abbrev S1x64 : Shape := ⟨2, ![1, 64]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1024 : Shape := ⟨2, ![1, 1024]⟩
abbrev S1024 : Shape := ⟨1, ![1024]⟩
abbrev S1x1x1024 : Shape := ⟨3, ![1, 1, 1024]⟩
abbrev S1x8x1x1x1024 : Shape := ⟨5, ![1, 8, 1, 1, 1024]⟩
abbrev S8x1x1024 : Shape := ⟨3, ![8, 1, 1024]⟩
abbrev S1024x2120 : Shape := ⟨2, ![1024, 2120]⟩
abbrev S8x2048x2120 : Shape := ⟨3, ![8, 2048, 2120]⟩
abbrev S16384x2120 : Shape := ⟨2, ![16384, 2120]⟩
abbrev S16384x16x64 : Shape := ⟨3, ![16384, 16, 64]⟩
abbrev S16384x16 : Shape := ⟨2, ![16384, 16]⟩
abbrev S16384x16x1 : Shape := ⟨3, ![16384, 16, 1]⟩
abbrev S64 : Shape := ⟨1, ![64]⟩
abbrev S1x1x64 : Shape := ⟨3, ![1, 1, 64]⟩
abbrev S16384x256 : Shape := ⟨2, ![16384, 256]⟩
abbrev S16384x4x64 : Shape := ⟨3, ![16384, 4, 64]⟩
abbrev S16384x4 : Shape := ⟨2, ![16384, 4]⟩
abbrev S16384x4x1 : Shape := ⟨3, ![16384, 4, 1]⟩
abbrev S16384x4x128 : Shape := ⟨3, ![16384, 4, 128]⟩
abbrev S16384x512 : Shape := ⟨2, ![16384, 512]⟩
abbrev S16384x8x64 : Shape := ⟨3, ![16384, 8, 64]⟩
abbrev S16x16384x64 : Shape := ⟨3, ![16, 16384, 64]⟩
abbrev S4x16384x64 : Shape := ⟨3, ![4, 16384, 64]⟩
abbrev S4x16384x128 : Shape := ⟨3, ![4, 16384, 128]⟩
abbrev S8x16384x64 : Shape := ⟨3, ![8, 16384, 64]⟩
abbrev S16384x64 : Shape := ⟨2, ![16384, 64]⟩
abbrev S16384x8 : Shape := ⟨2, ![16384, 8]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x8x6x1x1024, .f32⟩
  | .hbm, ⟨3, _⟩ => ⟨S1x1024x2120, .f32⟩
  | .hbm, ⟨4, _⟩ => ⟨S1x64, .f32⟩
  | .hbm, ⟨5, _⟩ => ⟨S1x64, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S1x8x1x1x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S1x8x1x1x1024, .f32⟩
  | .hbm, ⟨33, _⟩ => ⟨S8x1x1024, .f32⟩
  | .hbm, ⟨34, _⟩ => ⟨S8x2048x1024, .f32⟩
  | .hbm, ⟨35, _⟩ => ⟨S8x2048x1024, .f32⟩
  | .hbm, ⟨36, _⟩ => ⟨S1024x2120, .f32⟩
  | .hbm, ⟨37, _⟩ => ⟨S8x2048x2120, .f32⟩
  | .hbm, ⟨38, _⟩ => ⟨S16384x2120, .f32⟩
  | .hbm, ⟨39, _⟩ => ⟨S16384x1024, .f32⟩
  | .hbm, ⟨40, _⟩ => ⟨S16384x16x64, .f32⟩
  | .hbm, ⟨41, _⟩ => ⟨S16384x16x64, .f32⟩
  | .hbm, ⟨42, _⟩ => ⟨S_, .f32⟩
  | .hbm, ⟨43, _⟩ => ⟨S16384x16, .f32⟩
  | .hbm, ⟨44, _⟩ => ⟨S16384x16x1, .f32⟩
  | .hbm, ⟨45, _⟩ => ⟨S_, .f32⟩
  | .hbm, ⟨46, _⟩ => ⟨S16384x16x1, .f32⟩
  | .hbm, ⟨47, _⟩ => ⟨S16384x16x1, .f32⟩
  | .hbm, ⟨48, _⟩ => ⟨S_, .f32⟩
  | .hbm, ⟨49, _⟩ => ⟨S16384x16x1, .f32⟩
  | .hbm, ⟨50, _⟩ => ⟨S16384x16x1, .f32⟩
  | .hbm, ⟨51, _⟩ => ⟨S16384x16x1, .f32⟩
  | .hbm, ⟨52, _⟩ => ⟨S16384x16x64, .f32⟩
  | .hbm, ⟨53, _⟩ => ⟨S16384x16x64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S1x1x64, .f32⟩
  | .hbm, ⟨59, _⟩ => ⟨S16384x16x64, .f32⟩
  | .hbm, ⟨60, _⟩ => ⟨S16384x16x64, .f32⟩
  | .hbm, ⟨61, _⟩ => ⟨S16384x256, .f32⟩
  | .hbm, ⟨62, _⟩ => ⟨S16384x4x64, .f32⟩
  | .hbm, ⟨63, _⟩ => ⟨S16384x4x64, .f32⟩
  | .hbm, ⟨64, _⟩ => ⟨S_, .f32⟩
  | .hbm, ⟨65, _⟩ => ⟨S16384x4, .f32⟩
  | .hbm, ⟨66, _⟩ => ⟨S16384x4x1, .f32⟩
  | .hbm, ⟨67, _⟩ => ⟨S_, .f32⟩
  | .hbm, ⟨68, _⟩ => ⟨S16384x4x1, .f32⟩
  | .hbm, ⟨69, _⟩ => ⟨S16384x4x1, .f32⟩
  | .hbm, ⟨70, _⟩ => ⟨S_, .f32⟩
  | .hbm, ⟨71, _⟩ => ⟨S16384x4x1, .f32⟩
  | .hbm, ⟨72, _⟩ => ⟨S16384x4x1, .f32⟩
  | .hbm, ⟨73, _⟩ => ⟨S16384x4x1, .f32⟩
  | .hbm, ⟨74, _⟩ => ⟨S16384x4x64, .f32⟩
  | .hbm, ⟨75, _⟩ => ⟨S16384x4x64, .f32⟩
  | .hbm, ⟨76, _⟩ => ⟨S64, .f32⟩
  | .hbm, ⟨77, _⟩ => ⟨S1x1x64, .f32⟩
  | .hbm, ⟨78, _⟩ => ⟨S16384x4x64, .f32⟩
  | .hbm, ⟨79, _⟩ => ⟨S16384x4x64, .f32⟩
  | .hbm, ⟨80, _⟩ => ⟨S16384x256, .f32⟩
  | .hbm, ⟨81, _⟩ => ⟨S16384x4x64, .f32⟩
  | .hbm, ⟨82, _⟩ => ⟨S_, .f32⟩
  | .hbm, ⟨83, _⟩ => ⟨S_, .f32⟩
  | .hbm, ⟨84, _⟩ => ⟨S16384x4x128, .f32⟩
  | .hbm, ⟨85, _⟩ => ⟨S16384x512, .f32⟩
  | .hbm, ⟨86, _⟩ => ⟨S16384x8x64, .f32⟩
  | .hbm, ⟨87, _⟩ => ⟨S16x16384x64, .f32⟩
  | .hbm, ⟨88, _⟩ => ⟨S16x16384x64, .bf16⟩
  | .hbm, ⟨89, _⟩ => ⟨S4x16384x64, .f32⟩
  | .hbm, ⟨90, _⟩ => ⟨S4x16384x64, .bf16⟩
  | .hbm, ⟨91, _⟩ => ⟨S4x16384x128, .f32⟩
  | .hbm, ⟨92, _⟩ => ⟨S4x16384x128, .bf16⟩
  | .hbm, ⟨93, _⟩ => ⟨S8x16384x64, .f32⟩
  | .hbm, ⟨94, _⟩ => ⟨S8x16384x64, .bf16⟩
  | .hbm, ⟨95, _⟩ => ⟨S16384x64, .f32⟩
  | .hbm, ⟨96, _⟩ => ⟨S16384x64, .bf16⟩
  | .hbm, ⟨97, _⟩ => ⟨S16384x8, .f32⟩
  | .hbm, ⟨98, _⟩ => ⟨S_, .f32⟩
  | .hbm, ⟨99, _⟩ => ⟨S16384x8, .f32⟩
  | .hbm, ⟨100, _⟩ => ⟨S16384x8, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_7 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_cst_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_call0_v0 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.Pipeline.TableIdle
public import Idealize.ShloMosaic.Lib.Pipeline.FrameBody
public import Idealize.ShloMosaic.Lib.VecWindow
public import Idealize.ShloMosaic.Lib.Pipeline.Value
public import Idealize.ShloMosaic.Lib.Tactic

@[expose] public section

set_option maxRecDepth 4000

noncomputable section

namespace Cert.Experts

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

/-- The share of the control tables that the body holds. -/
abbrev tq : PosShare TreeShare := (fullShare : PosShare TreeShare).right

/-- One control table on core `c`, as the body holds it: its buffer at the contents `f`, at half the share. -/
abbrev tabPt (c : Dev nD) (b : Ref sig .tc) (f : Buf (Elt F) ((Memref.whole b).view.loc (c : Thread nD τ))) : sProp 𝕄 :=
  (Memref.whole b).view.loc (c : Thread nD τ) ↦{tq} f

/-- The place of grid point `i` in a control table. -/
def tix (i : grid0.Coords) : S88.Idx := fun a => ⟨(i 0).val, by rw [Subsingleton.elim a 0]; exact (i 0).isLt⟩

theorem coord_word (i : grid0.Coords) : (Scalar.indexCast (BitVec.ofNat 32 (i 0).val) : Index).toNat = (i 0).val := by
  have h : (i 0).val < 88 := (i 0).isLt
  show (BitVec.ofNat 32 (i 0).val).toNat = _
  rw [BitVec.toNat_ofNat]
  omega

theorem off_eq (i : grid0.Coords) : ![(Scalar.indexCast (BitVec.ofNat 32 (i 0).val) : Index).toNat] = ![(i 0).val] := by
  rw [coord_word]

/-- The one place of the unit rectangle at the grid point's offset. -/
theorem idx_tix (i : grid0.Coords) (off : Fin 1 → Nat) (hoff : off = ![(i 0).val])
    (h : ∀ a, off a + S1.size a ≤ S88.size a) (y : (Rect.unit (s := S88) off S1.size h).shape.Idx) :
    (Rect.unit (s := S88) off S1.size h).toLoadRect.idx y = tix i := by
  subst hoff
  funext a
  apply Fin.ext
  obtain rfl : a = 0 := Subsingleton.elim a 0
  have hy : (y 0).val < 1 := (y 0).isLt
  show (i 0).val + 1 * (y 0).val = (i 0).val
  omega

theorem word6 (i : grid0.Coords) (T : S88.Idx → Elt F .i32) (h : ∀ a, k0_off1 i a + S1.size a ≤ S88.size a) (y) :
    View.readAt (Elt F) (Memref.whole main_v91).view (Rect.unit (s := S88) (k0_off1 i) S1.size h).toLoadRect T y = T (tix i) :=
  congrArg T (idx_tix i _ (off_eq i) h y)

theorem word1 (i : grid0.Coords) (T : S88.Idx → Elt F .i32) (h : ∀ a, k0_off2 i a + S1.size a ≤ S88.size a) (y) :
    View.readAt (Elt F) (Memref.whole main_v34).view (Rect.unit (s := S88) (k0_off2 i) S1.size h).toLoadRect T y = T (tix i) :=
  congrArg T (idx_tix i _ (off_eq i) h y)

theorem word4 (i : grid0.Coords) (T : S88.Idx → Elt F .i32) (h : ∀ a, k0_off2 i a + S1.size a ≤ S88.size a) (y) :
    View.readAt (Elt F) (Memref.whole main_v88).view (Rect.unit (s := S88) (k0_off2 i) S1.size h).toLoadRect T y = T (tix i) :=
  congrArg T (idx_tix i _ (off_eq i) h y)

theorem word40 (i : grid0.Coords) (T : S88.Idx → Elt F .i32) (h : ∀ a, k0_off3 i a + S1.size a ≤ S88.size a) (y) :
    View.readAt (Elt F) (Memref.whole main_v88).view (Rect.unit (s := S88) (k0_off3 i) S1.size h).toLoadRect T y = T (tix i) :=
  congrArg T (idx_tix i _ (off_eq i) h y)

theorem word5 (i : grid0.Coords) (T : S88.Idx → Elt F .i32) (h : ∀ a, k0_off4 i a + S1.size a ≤ S88.size a) (y) :
    View.readAt (Elt F) (Memref.whole main_v90).view (Rect.unit (s := S88) (k0_off4 i) S1.size h).toLoadRect T y = T (tix i) :=
  congrArg T (idx_tix i _ (off_eq i) h y)

theorem first_cond (i : grid0.Coords) (T : S88.Idx → Elt F .i32) (b : Bool) (hb : T (tix i) = if b then 1#32 else 0#32)
    (h : ∀ a, k0_off2 i a + S1.size a ≤ S88.size a) (y) :
    (Scalar.cmpi .ne (Scalar.extui (Scalar.cmpi .eq
      (View.readAt (Elt F) (Memref.whole main_v88).view (Rect.unit (s := S88) (k0_off2 i) S1.size h).toLoadRect T y) 1#32) : BitVec 32)
      0#32 = 1#1) ↔ b = true := by
  rw [word4, hb]; cases b <;> decide

theorem later_cond (i : grid0.Coords) (T : S88.Idx → Elt F .i32) (b : Bool) (hb : T (tix i) = if b then 1#32 else 0#32)
    (h : ∀ a, k0_off3 i a + S1.size a ≤ S88.size a) (y) :
    (Scalar.cmpi .ne (Scalar.extui (Scalar.cmpi .eq
      (View.readAt (Elt F) (Memref.whole main_v88).view (Rect.unit (s := S88) (k0_off3 i) S1.size h).toLoadRect T y) 0#32) : BitVec 32)
      0#32 = 1#1) ↔ b = false := by
  rw [word40, hb]; cases b <;> decide

theorem last_cond (i : grid0.Coords) (T : S88.Idx → Elt F .i32) (b : Bool) (hb : T (tix i) = if b then 1#32 else 0#32)
    (h : ∀ a, k0_off4 i a + S1.size a ≤ S88.size a) (y) :
    k0_cond4 (View.readAt (Elt F) (Memref.whole main_v90).view (Rect.unit (s := S88) (k0_off4 i) S1.size h).toLoadRect T y) = 1#1
      ↔ b = true := by
  rw [word5, hb]; cases b <;> decide

/-- The scratch accumulator, held whole. -/
abbrev scrPt (c : Dev nD) (b : Ref sig .tc) (f : Buf (Elt F) ((Memref.whole b).view.loc (c : Thread nD τ))) : sProp 𝕄 :=
  (Memref.whole b).view.loc (c : Thread nD τ) ↦{fullShare} f

/-- The kernel's body at grid point `i`, its control tables and its scratch accumulator the program's own buffers and its
    staging memrefs any whole ones. -/
abbrev bodyOf (i : grid0.Coords)
    (a8 : Memref sig .tc .vmem S2048x128 .i32) (h8 : a8.IsWhole)
    (a9 : Memref sig .tc .vmem S1x1x1024x256 .f32) (h9 : a9.IsWhole)
    (a10 : Memref sig .tc .vmem S1x1x1024x256 .f32) (h10 : a10.IsWhole)
    (a11 : Memref sig .tc .vmem S1x1x256x1024 .f32) (h11 : a11.IsWhole)
    (a12 : Memref sig .tc .vmem S1x1x1024x256 .f32) (h12 : a12.IsWhole)
    (a13 : Memref sig .tc .vmem S1x1x1024x256 .f32) (h13 : a13.IsWhole)
    (a14 : Memref sig .tc .vmem S1x1x256x1024 .f32) (h14 : a14.IsWhole)
    (a15 : Memref sig .tc .vmem S2048x128 .f32) (h15 : a15.IsWhole) : Prog (TpuEff nD τ sig (Elt F) Λ₀ .tc) PUnit :=
  cc0_moe_experts i (Memref.whole main_v50) (Memref.isWhole_whole _) (Memref.whole main_v34) (Memref.isWhole_whole _)
    (Memref.whole main_v76) (Memref.isWhole_whole _) (Memref.whole main_v86) (Memref.isWhole_whole _)
    (Memref.whole main_v88) (Memref.isWhole_whole _) (Memref.whole main_v90) (Memref.isWhole_whole _)
    (Memref.whole main_v91) (Memref.isWhole_whole _) a8 h8 a9 h9 a10 h10 a11 h11 a12 h12 a13 h13 a14 h14 a15 h15
    (Memref.whole cc0_scratch0) (Memref.isWhole_whole _)

/-! ## What one item computes -/

/-- The vectors of words that the body's eight strided reads take out of a block of records: vector `s` holds word
    `128 * s + lane` of every record. -/
abbrev rect0 : LoadRect S2048x128 := ⟨![0, 0], S256x128.size, ![8, 1], Cert.KernelIdeal.Gen.inb_S2048x128_S256x128_0_0_s_8_1⟩
abbrev rect1 : LoadRect S2048x128 := ⟨![1, 0], S256x128.size, ![8, 1], Cert.KernelIdeal.Gen.inb_S2048x128_S256x128_1_0_s_8_1⟩
abbrev rect2 : LoadRect S2048x128 := ⟨![2, 0], S256x128.size, ![8, 1], Cert.KernelIdeal.Gen.inb_S2048x128_S256x128_2_0_s_8_1⟩
abbrev rect3 : LoadRect S2048x128 := ⟨![3, 0], S256x128.size, ![8, 1], Cert.KernelIdeal.Gen.inb_S2048x128_S256x128_3_0_s_8_1⟩
abbrev rect4 : LoadRect S2048x128 := ⟨![4, 0], S256x128.size, ![8, 1], Cert.KernelIdeal.Gen.inb_S2048x128_S256x128_4_0_s_8_1⟩
/-- A block of records read along one such vector. -/
def part (r : LoadRect S2048x128) (X : S2048x128.Idx → Elt F .i32) : r.shape.Idx → Elt F .i32 := fun y => X (r.idx y)

/-- The hidden states of a block of records. -/
def hidden (X : S2048x128.Idx → Elt F .i32) : FVec F S256x1024 .bf16 :=
  k0_pay4 (part rect0 X) (part rect1 X) (part rect2 X) (part rect3 X) (part rect0 X) (part rect1 X) (part rect2 X) (part rect3 X)

/-- What one item adds to its block: the class's two experts on every row, each weighted by the row's combine weight
    where the row is of the class and by zero elsewhere. -/
def itemOut (X : S2048x128.Idx → Elt F .i32) (cls : Elt F .i32)
    (w1lo w3lo : S1x1x1024x256.Idx → Elt F .f32) (w2lo : S1x1x256x1024.Idx → Elt F .f32)
    (w1hi w3hi : S1x1x1024x256.Idx → Elt F .f32) (w2hi : S1x1x256x1024.Idx → Elt F .f32) : FVec F S256x1024 .f32 :=
  k0_pay1 (k0_pay10 (hidden X) (k0_pay8 (part rect4 X) cls) w1hi w3hi)
    (k0_pay11 (hidden X) (k0_pay7 (part rect4 X) cls) (k0_pay9 w1lo) (constant S256x256 .f32 0x00000000#32) w3lo) w2lo w2hi

/-- A block of rows in the output's layout: row `8 * r + s` holds columns `128 * s …` of row `r`. -/
def layout (A : S256x1024.Idx → Elt F .f32) : S2048x128.Idx → Elt F .f32 := fun y =>
  A (Shape.pair ⟨(y 0).val / 8, by have : (y 0).val < 2048 := (y 0).isLt; show _ < 256; omega⟩
    ⟨128 * ((y 0).val % 8) + (y 1).val, by have : (y 1).val < 128 := (y 1).isLt; show _ < 1024; omega⟩)

/-- The accumulator after one item, from what it held and whether the item begins a block. -/
def accNext (first : Bool) (A Y : FVec F S256x1024 .f32) : FVec F S256x1024 .f32 := if first then Y else addf A Y

theorem run_invalid (c : Dev nD) (i : grid0.Coords) (pf : pre0.Contents (Elt F))
    (a8 : Memref sig .tc .vmem S2048x128 .i32) (h8 : a8.IsWhole)
    (a9 a10 : Memref sig .tc .vmem S1x1x1024x256 .f32) (h9 : a9.IsWhole) (h10 : a10.IsWhole)
    (a11 : Memref sig .tc .vmem S1x1x256x1024 .f32) (h11 : a11.IsWhole)
    (a12 a13 : Memref sig .tc .vmem S1x1x1024x256 .f32) (h12 : a12.IsWhole) (h13 : a13.IsWhole)
    (a14 : Memref sig .tc .vmem S1x1x256x1024 .f32) (h14 : a14.IsWhole)
    (a15 : Memref sig .tc .vmem S2048x128 .f32) (h15 : a15.IsWhole)
    (hv : ¬ k0_cond1 (pf 6 (tix i)) = 1#1) (K : PUnit → sProp 𝕄) :
    iprop(tabPt c main_v91 (pf 6) ∗ (tabPt c main_v91 (pf 6) -∗ K ⟨⟩))
      ⊢ wp frame (wpE (defs₀ (F := F)) Variants.none c none) Set.univ
          (bodyOf i a8 h8 a9 h9 a10 h10 a11 h11 a12 h12 a13 h13 a14 h14 a15 h15) K := by
  unfold bodyOf
  simp only [cc0_moe_experts_eq_skeleton]; unfold cc0_moe_experts_skel
  iintro ⟨H6, Hk⟩
  have hv' := hv
  rw [← word6 i (pf 6) (Cert.KernelIdeal.Gen.k0_off1_inb i) (Shape.Idx.first Nat.one_pos)] at hv'
  sl_exec
  sl_step
  iapply Hk
  iexact H6

/-- A load of a whole block through its own box reads the block. -/
theorem idx_unit4 {n0 n1 n2 n3 : ℕ} (inb) (y : (⟨4, ![n0, n1, n2, n3]⟩ : Shape).Idx) :
    (Rect.unit (s := ⟨4, ![n0, n1, n2, n3]⟩) ![0, 0, 0, 0] ![n0, n1, n2, n3] inb).toLoadRect.idx y = y := by
  funext a
  apply Fin.ext
  rw [LoadRect.idx_apply]
  fin_cases a <;> simp [Rect.unit]

theorem readAt_part (a : Memref sig .tc .vmem S2048x128 .i32) (r : LoadRect S2048x128) (X : S2048x128.Idx → Elt F .i32) :
    View.readAt (Elt F) a.view r (a.view.rep X) = part r X := View.readAt_rep _ _ _

theorem readAt_a (a : Memref sig .tc .vmem S1x1x1024x256 .f32) (X : S1x1x1024x256.Idx → Elt F .f32) :
    View.readAt (Elt F) a.view (Rect.unit ![0, 0, 0, 0] S1x1x1024x256.size
      Cert.KernelIdeal.Gen.inb_S1x1x1024x256_S1x1x1024x256_0_0_0_0).toLoadRect (a.view.rep X) = X := by
  rw [View.readAt_rep]
  funext y
  exact congrArg X (idx_unit4 _ y)

theorem readAt_b (a : Memref sig .tc .vmem S1x1x256x1024 .f32) (X : S1x1x256x1024.Idx → Elt F .f32) :
    View.readAt (Elt F) a.view (Rect.unit ![0, 0, 0, 0] S1x1x256x1024.size
      Cert.KernelIdeal.Gen.inb_S1x1x256x1024_S1x1x256x1024_0_0_0_0).toLoadRect (a.view.rep X) = X := by
  rw [View.readAt_rep]
  funext y
  exact congrArg X (idx_unit4 _ y)

theorem readAt_scr (A : S256x1024.Idx → Elt F .f32) :
    View.readAt (Elt F) (Memref.whole cc0_scratch0).view (Rect.unit (s := S256x1024) ![0, 0] S256x1024.size
      Cert.KernelIdeal.Gen.inb_S256x1024_S256x1024_0_0).toLoadRect A = A := by
  funext y
  refine congrArg A ?_
  funext a
  apply Fin.ext
  refine (LoadRect.idx_apply _ _ _).trans ?_
  fin_cases a <;> simp [Rect.unit]

/-- The item's output from the reads the body makes. -/
theorem itemOut_reads {X8 : S2048x128.Idx → Elt F .i32} {cls : Elt F .i32} {X9 X10 : S1x1x1024x256.Idx → Elt F .f32}
    {X11 : S1x1x256x1024.Idx → Elt F .f32} {X12 X13 : S1x1x1024x256.Idx → Elt F .f32} {X14 : S1x1x256x1024.Idx → Elt F .f32}
    {b0 b1 b2 b3 b4 : Vec F S256x128 .i32} {w : Elt F .i32} {r9 r10 r12 r13 : Vec F S1x1x1024x256 .f32}
    {r11 r14 : Vec F S1x1x256x1024 .f32}
    (e0 : b0 = part rect0 X8) (e1 : b1 = part rect1 X8) (e2 : b2 = part rect2 X8) (e3 : b3 = part rect3 X8)
    (e4 : b4 = part rect4 X8) (ew : w = cls) (e9 : r9 = X9) (e10 : r10 = X10) (e11 : r11 = X11) (e12 : r12 = X12)
    (e13 : r13 = X13) (e14 : r14 = X14) :
    k0_pay1 (k0_pay10 (k0_pay4 b0 b1 b2 b3 b0 b1 b2 b3) (k0_pay8 b4 w) r12 r13)
      (k0_pay11 (k0_pay4 b0 b1 b2 b3 b0 b1 b2 b3) (k0_pay7 b4 w) (k0_pay9 r9) (constant S256x256 .f32 0x00000000#32) r10) r11 r14
    = itemOut X8 cls X9 X10 X11 X12 X13 X14 := by
  subst e0 e1 e2 e3 e4 ew e9 e10 e11 e12 e13 e14
  rfl

/-- A buffer that reads `X` through a whole memref, held whole, is the memref owned at `X`. -/
theorem owns_of_read (c : Dev nD) {sp : Space} {sh : Shape} {e : EltTy} (m : Memref sig .tc sp sh e) (h : m.IsWhole)
    (f : Buf (Elt F) (m.view.loc (c : Thread nD τ))) (X : sh.Idx → Elt F e) (hX : m.view.read (Elt F) f = X) :
    (m.view.loc (c : Thread nD τ) ↦{fullShare} f : sProp 𝕄) ⊢ owns (c : Thread nD τ) m fullShare X := by
  unfold owns
  iintro H
  iexists f
  isplitr
  · ipureintro; exact hX
  · rw [h.set_eq_univ]
    iexact H

theorem scr_read (A : S256x1024.Idx → Elt F .f32) (Y : FVec F S256x1024 .f32) (h) :
    (Memref.whole cc0_scratch0).view.read (Elt F) ((Memref.whole cc0_scratch0).view.writes (Elt F) A
      [⟨Rect.unit ![0, 0] S256x1024.size h, Y⟩]) = Y :=
  View.read_writes_full _ _ _ _ _

/-- One strip of the output: row `8 * r + k` of the layout, lane by lane, is column `128 * k + lane` of row `r`. -/
theorem strip (k : Nat) (hk : k < 8) (L : List (View.Piece (Elt F) S256x1024 .f32)) (A : S256x1024.Idx → Elt F .f32)
    (hL : ∀ f, (Memref.whole cc0_scratch0).view.read (Elt F) ((Memref.whole cc0_scratch0).view.writes (Elt F) f L) = A)
    (hi : ∀ a, (![0, 128 * k] : Fin 2 → ℕ) a + S256x128.size a ≤ S256x1024.size a)
    (ho : ∀ a, S256x128.size a = 0 ∨ (![k, 0] : Fin 2 → ℕ) a + (![8, 1] : Fin 2 → ℕ) a * (S256x128.size a - 1) < S2048x128.size a)
    (hs : ∀ a, 0 < (![8, 1] : Fin 2 → ℕ) a) (x : S256x128.Idx) :
    (Memref.whole cc0_scratch0).view.readCov L (Rect.unit (s := S256x1024) ![0, 128 * k] S256x128.size hi).toLoadRect x
      = layout A ((⟨⟨![k, 0], S256x128.size, ![8, 1], ho⟩, hs⟩ : Rect S2048x128).emb x) := by
  refine (congrFun (hL _) _).trans ?_
  unfold layout
  refine congrArg A ?_
  have h0 : (x 0).val < 256 := (x 0).isLt
  have h1 : (x 1).val < 128 := (x 1).isLt
  have e0 : (((⟨⟨![k, 0], S256x128.size, ![8, 1], ho⟩, hs⟩ : Rect S2048x128).emb x 0).val) = k + 8 * (x 0).val := rfl
  have e1 : (((⟨⟨![k, 0], S256x128.size, ![8, 1], ho⟩, hs⟩ : Rect S2048x128).emb x 1).val) = 0 + 1 * (x 1).val := rfl
  funext a
  apply Fin.ext
  refine (LoadRect.idx_apply _ _ _).trans ?_
  fin_cases a
  · show 0 + 1 * (x 0).val = _ / 8
    rw [e0]; omega
  · show 128 * k + 1 * (x 1).val = 128 * (_ % 8) + _
    rw [e0, e1]; omega

theorem lt_eight (m : ℕ) (h : m < 8) : m = 0 ∨ m = 1 ∨ m = 2 ∨ m = 3 ∨ m = 4 ∨ m = 5 ∨ m = 6 ∨ m = 7 := by omega

/-- The output block after the eight strided stores. -/
theorem out_read (a : Memref sig .tc .vmem S2048x128 .f32) (f : a.view.ty.Contents (Elt F))
    (L : List (View.Piece (Elt F) S256x1024 .f32)) (A : S256x1024.Idx → Elt F .f32)
    (hL : ∀ f, (Memref.whole cc0_scratch0).view.read (Elt F) ((Memref.whole cc0_scratch0).view.writes (Elt F) f L) = A) :
    a.view.read (Elt F) (a.view.writes (Elt F) f
     [⟨(⟨⟨![7, 0], S256x128.size, ![8, 1], Cert.KernelIdeal.Gen.inb_S2048x128_S256x128_7_0_s_8_1⟩, Cert.KernelIdeal.Gen.spos_8_1⟩ : Rect S2048x128),
        (Memref.whole cc0_scratch0).view.readCov L (Rect.unit (s := S256x1024) ![0, 896] S256x128.size Cert.KernelIdeal.Gen.inb_S256x1024_S256x128_0_896).toLoadRect⟩,
      ⟨(⟨⟨![6, 0], S256x128.size, ![8, 1], Cert.KernelIdeal.Gen.inb_S2048x128_S256x128_6_0_s_8_1⟩, Cert.KernelIdeal.Gen.spos_8_1⟩ : Rect S2048x128),
        (Memref.whole cc0_scratch0).view.readCov L (Rect.unit (s := S256x1024) ![0, 768] S256x128.size Cert.KernelIdeal.Gen.inb_S256x1024_S256x128_0_768).toLoadRect⟩,
      ⟨(⟨⟨![5, 0], S256x128.size, ![8, 1], Cert.KernelIdeal.Gen.inb_S2048x128_S256x128_5_0_s_8_1⟩, Cert.KernelIdeal.Gen.spos_8_1⟩ : Rect S2048x128),
        (Memref.whole cc0_scratch0).view.readCov L (Rect.unit (s := S256x1024) ![0, 640] S256x128.size Cert.KernelIdeal.Gen.inb_S256x1024_S256x128_0_640).toLoadRect⟩,
      ⟨(⟨⟨![4, 0], S256x128.size, ![8, 1], Cert.KernelIdeal.Gen.inb_S2048x128_S256x128_4_0_s_8_1⟩, Cert.KernelIdeal.Gen.spos_8_1⟩ : Rect S2048x128),
        (Memref.whole cc0_scratch0).view.readCov L (Rect.unit (s := S256x1024) ![0, 512] S256x128.size Cert.KernelIdeal.Gen.inb_S256x1024_S256x128_0_512).toLoadRect⟩,
      ⟨(⟨⟨![3, 0], S256x128.size, ![8, 1], Cert.KernelIdeal.Gen.inb_S2048x128_S256x128_3_0_s_8_1⟩, Cert.KernelIdeal.Gen.spos_8_1⟩ : Rect S2048x128),
        (Memref.whole cc0_scratch0).view.readCov L (Rect.unit (s := S256x1024) ![0, 384] S256x128.size Cert.KernelIdeal.Gen.inb_S256x1024_S256x128_0_384).toLoadRect⟩,
      ⟨(⟨⟨![2, 0], S256x128.size, ![8, 1], Cert.KernelIdeal.Gen.inb_S2048x128_S256x128_2_0_s_8_1⟩, Cert.KernelIdeal.Gen.spos_8_1⟩ : Rect S2048x128),
        (Memref.whole cc0_scratch0).view.readCov L (Rect.unit (s := S256x1024) ![0, 256] S256x128.size Cert.KernelIdeal.Gen.inb_S256x1024_S256x128_0_256).toLoadRect⟩,
      ⟨(⟨⟨![1, 0], S256x128.size, ![8, 1], Cert.KernelIdeal.Gen.inb_S2048x128_S256x128_1_0_s_8_1⟩, Cert.KernelIdeal.Gen.spos_8_1⟩ : Rect S2048x128),
        (Memref.whole cc0_scratch0).view.readCov L (Rect.unit (s := S256x1024) ![0, 128] S256x128.size Cert.KernelIdeal.Gen.inb_S256x1024_S256x128_0_128).toLoadRect⟩,
      ⟨(⟨⟨![0, 0], S256x128.size, ![8, 1], Cert.KernelIdeal.Gen.inb_S2048x128_S256x128_0_0_s_8_1⟩, Cert.KernelIdeal.Gen.spos_8_1⟩ : Rect S2048x128),
        (Memref.whole cc0_scratch0).view.readCov L (Rect.unit (s := S256x1024) ![0, 0] S256x128.size Cert.KernelIdeal.Gen.inb_S256x1024_S256x128_0_0).toLoadRect⟩]) = layout A := by
  funext y
  refine View.read_writes_apply_of_pieces _ _ (layout A) _ ?_ y ?_
  · intro p hp
    simp only [List.mem_cons, List.not_mem_nil, or_false] at hp
    rcases hp with rfl | rfl | rfl | rfl | rfl | rfl | rfl | rfl
    · exact strip 7 (by decide) L A hL _ _ _
    · exact strip 6 (by decide) L A hL _ _ _
    · exact strip 5 (by decide) L A hL _ _ _
    · exact strip 4 (by decide) L A hL _ _ _
    · exact strip 3 (by decide) L A hL _ _ _
    · exact strip 2 (by decide) L A hL _ _ _
    · exact strip 1 (by decide) L A hL _ _ _
    · exact strip 0 (by decide) L A hL _ _ _
  · have h0 : (y 0).val < 2048 := (y 0).isLt
    have h1 : (y 1).val < 128 := (y 1).isLt
    have key : ∀ (k : Nat) (r : LoadRect S2048x128), (y 0).val % 8 = k → r.off = ![k, 0] → r.size = S256x128.size → r.stride = ![8, 1] →
        y ∈ r.set := by
      intro k r hk ho hz hs
      rw [r.mem_set]
      intro b
      rw [ho, hz, hs]
      fin_cases b
      · exact ⟨(y 0).val / 8, by show _ < 256; omega, by show (y 0).val = k + 8 * _; omega⟩
      · exact ⟨(y 1).val, h1, by show (y 1).val = 0 + 1 * _; omega⟩
    have hk : (y 0).val % 8 < 8 := Nat.mod_lt _ (by decide)
    generalize hm : (y 0).val % 8 = m at hk key
    simp only [List.mem_cons, List.not_mem_nil, or_false, exists_eq_or_imp, exists_eq_left]
    rcases lt_eight m hk with h | h | h | h | h | h | h | h
    · exact .inr (.inr (.inr (.inr (.inr (.inr (.inr (key 0 _ h rfl rfl rfl)))))))
    · exact .inr (.inr (.inr (.inr (.inr (.inr (.inl (key 1 _ h rfl rfl rfl)))))))
    · exact .inr (.inr (.inr (.inr (.inr (.inl (key 2 _ h rfl rfl rfl))))))
    · exact .inr (.inr (.inr (.inr (.inl (key 3 _ h rfl rfl rfl)))))
    · exact .inr (.inr (.inr (.inl (key 4 _ h rfl rfl rfl))))
    · exact .inr (.inr (.inl (key 5 _ h rfl rfl rfl)))
    · exact .inr (.inl (key 6 _ h rfl rfl rfl))
    · exact .inl (key 7 _ h rfl rfl rfl)

theorem run_valid (c : Dev nD) (i : grid0.Coords) (pf : pre0.Contents (Elt F))
    (a8 : Memref sig .tc .vmem S2048x128 .i32) (h8 : a8.IsWhole)
    (a9 a10 : Memref sig .tc .vmem S1x1x1024x256 .f32) (h9 : a9.IsWhole) (h10 : a10.IsWhole)
    (a11 : Memref sig .tc .vmem S1x1x256x1024 .f32) (h11 : a11.IsWhole)
    (a12 a13 : Memref sig .tc .vmem S1x1x1024x256 .f32) (h12 : a12.IsWhole) (h13 : a13.IsWhole)
    (a14 : Memref sig .tc .vmem S1x1x256x1024 .f32) (h14 : a14.IsWhole)
    (a15 : Memref sig .tc .vmem S2048x128 .f32) (h15 : a15.IsWhole)
    (X8 : S2048x128.Idx → Elt F .i32) (X9 X10 : S1x1x1024x256.Idx → Elt F .f32) (X11 : S1x1x256x1024.Idx → Elt F .f32)
    (X12 X13 : S1x1x1024x256.Idx → Elt F .f32) (X14 : S1x1x256x1024.Idx → Elt F .f32) (X15 : S2048x128.Idx → Elt F .f32)
    (A : S256x1024.Idx → Elt F .f32) (first last : Bool)
    (hv : k0_cond1 (pf 6 (tix i)) = 1#1)
    (hf : pf 4 (tix i) = if first then 1#32 else 0#32) (hl : pf 5 (tix i) = if last then 1#32 else 0#32)
    (K : PUnit → sProp 𝕄) :
    iprop((tabPt c main_v34 (pf 1) ∗ tabPt c main_v88 (pf 4) ∗ tabPt c main_v90 (pf 5) ∗ tabPt c main_v91 (pf 6)
        ∗ (a8.view.loc c ↦{fullShare} a8.view.rep X8)
        ∗ (a9.view.loc c ↦{fullShare} a9.view.rep X9)
        ∗ (a10.view.loc c ↦{fullShare} a10.view.rep X10)
        ∗ (a11.view.loc c ↦{fullShare} a11.view.rep X11)
        ∗ (a12.view.loc c ↦{fullShare} a12.view.rep X12)
        ∗ (a13.view.loc c ↦{fullShare} a13.view.rep X13)
        ∗ (a14.view.loc c ↦{fullShare} a14.view.rep X14)
        ∗ (a15.view.loc c ↦{fullShare} a15.view.rep X15)
        ∗ scrPt c cc0_scratch0 A)
      ∗ ((tabPt c main_v34 (pf 1) ∗ tabPt c main_v88 (pf 4) ∗ tabPt c main_v90 (pf 5) ∗ tabPt c main_v91 (pf 6)
        ∗ (a8.view.loc c ↦{fullShare} a8.view.rep X8)
        ∗ (a9.view.loc c ↦{fullShare} a9.view.rep X9)
        ∗ (a10.view.loc c ↦{fullShare} a10.view.rep X10)
        ∗ (a11.view.loc c ↦{fullShare} a11.view.rep X11)
        ∗ (a12.view.loc c ↦{fullShare} a12.view.rep X12)
        ∗ (a13.view.loc c ↦{fullShare} a13.view.rep X13)
        ∗ (a14.view.loc c ↦{fullShare} a14.view.rep X14)
        ∗ owns c a15 fullShare (if last then layout (accNext first A (itemOut X8 (pf 1 (tix i)) X9 X10 X11 X12 X13 X14)) else X15)
        ∗ owns c (Memref.whole cc0_scratch0) fullShare (accNext first A (itemOut X8 (pf 1 (tix i)) X9 X10 X11 X12 X13 X14)))
        -∗ K ⟨⟩))
      ⊢ wp frame (wpE (defs₀ (F := F)) Variants.none c none) Set.univ
          (bodyOf i a8 h8 a9 h9 a10 h10 a11 h11 a12 h12 a13 h13 a14 h14 a15 h15) K := by
  unfold bodyOf
  simp only [cc0_moe_experts_eq_skeleton]; unfold cc0_moe_experts_skel
  iintro ⟨⟨H1, H4, H5, H6, B8, B9, B10, B11, B12, B13, B14, B15, S⟩, Hk⟩
  have hv' := hv
  rw [← word6 i (pf 6) (Cert.KernelIdeal.Gen.k0_off1_inb i) (Shape.Idx.first Nat.one_pos)] at hv'
  have hf2 := first_cond i (pf 4) first hf (Cert.KernelIdeal.Gen.k0_off2_inb i) (Shape.Idx.first Nat.one_pos)
  have hf3 := later_cond i (pf 4) first hf (Cert.KernelIdeal.Gen.k0_off3_inb i) (Shape.Idx.first Nat.one_pos)
  have hl4 := last_cond i (pf 5) last hl (Cert.KernelIdeal.Gen.k0_off4_inb i) (Shape.Idx.first Nat.one_pos)
  have hY := (itemOut_reads (readAt_part a8 rect0 X8) (readAt_part a8 rect1 X8) (readAt_part a8 rect2 X8) (readAt_part a8 rect3 X8)
    (readAt_part a8 rect4 X8) (word1 i (pf 1) (Cert.KernelIdeal.Gen.k0_off2_inb i) (Shape.Idx.first Nat.one_pos)) (readAt_a a9 X9) (readAt_a a10 X10) (readAt_b a11 X11) (readAt_a a12 X12)
    (readAt_a a13 X13) (readAt_b a14 X14))
  cases first
  · simp only [Bool.false_eq_true, iff_false, iff_true, reduceCtorEq] at hf2 hf3
    cases last
    · simp only [Bool.false_eq_true, iff_false, iff_true, reduceCtorEq] at hl4
      sl_exec
      sl_step
      iapply Hk
      isplitl [H1]; · iexact H1
      isplitl [H4]; · iexact H4
      isplitl [H5]; · iexact H5
      isplitl [H6]; · iexact H6
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [B15]
      · iapply owns_of_read c a15 h15 _ _ (View.read_rep _ _)
        iexact B15
      · iapply owns_of_read c (Memref.whole cc0_scratch0) (Memref.isWhole_whole _) _ _
          ((scr_read _ _ _).trans ((shapeCast_self _ _).trans (congrArg₂ addf (readAt_scr A) hY)))
        iexact S
    · simp only [Bool.false_eq_true, iff_false, iff_true, reduceCtorEq] at hl4
      sl_exec
      sl_step
      iapply Hk
      isplitl [H1]; · iexact H1
      isplitl [H4]; · iexact H4
      isplitl [H5]; · iexact H5
      isplitl [H6]; · iexact H6
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [B15]
      · iapply owns_of_read c a15 h15 _ _ (out_read a15 _ _ _ fun f =>
          (scr_read f _ _).trans ((shapeCast_self _ _).trans (congrArg₂ addf (readAt_scr A) hY)))
        iexact B15
      · iapply owns_of_read c (Memref.whole cc0_scratch0) (Memref.isWhole_whole _) _ _
          ((scr_read _ _ _).trans ((shapeCast_self _ _).trans (congrArg₂ addf (readAt_scr A) hY)))
        iexact S
  · simp only [Bool.false_eq_true, iff_false, iff_true, reduceCtorEq] at hf2 hf3
    cases last
    · simp only [Bool.false_eq_true, iff_false, iff_true, reduceCtorEq] at hl4
      sl_exec
      sl_step
      iapply Hk
      isplitl [H1]; · iexact H1
      isplitl [H4]; · iexact H4
      isplitl [H5]; · iexact H5
      isplitl [H6]; · iexact H6
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [B15]
      · iapply owns_of_read c a15 h15 _ _ (View.read_rep _ _)
        iexact B15
      · iapply owns_of_read c (Memref.whole cc0_scratch0) (Memref.isWhole_whole _) _ _
          ((scr_read _ _ _).trans ((shapeCast_self _ _).trans hY))
        iexact S
    · simp only [Bool.false_eq_true, iff_false, iff_true, reduceCtorEq] at hl4
      sl_exec
      sl_step
      iapply Hk
      isplitl [H1]; · iexact H1
      isplitl [H4]; · iexact H4
      isplitl [H5]; · iexact H5
      isplitl [H6]; · iexact H6
      isplitl [B8]; · iexact B8
      isplitl [B9]; · iexact B9
      isplitl [B10]; · iexact B10
      isplitl [B11]; · iexact B11
      isplitl [B12]; · iexact B12
      isplitl [B13]; · iexact B13
      isplitl [B14]; · iexact B14
      isplitl [B15]
      · iapply owns_of_read c a15 h15 _ _ (out_read a15 _ _ _ fun f =>
          (scr_read f _ _).trans ((shapeCast_self _ _).trans hY))
        iexact B15
      · iapply owns_of_read c (Memref.whole cc0_scratch0) (Memref.isWhole_whole _) _ _
          ((scr_read _ _ _).trans ((shapeCast_self _ _).trans hY))
        iexact S

end Cert.Experts
-- ==== Proof.Plan.lean ====
module

public import proofs.«01_k».proof.Proof.Body

/-! The schedule that the control tables hold: 88 grid points, of which the first `nI` are work items. Item `k` adds to
the block of 256 rows numbered `blk k` the contribution of the rows of class `cls k`. -/

@[expose] public section

set_option maxRecDepth 4000

noncomputable section

namespace Cert.Experts

open Cert.KernelIdeal Cert.KernelIdeal.Gen
open Idealize.ShloMosaic Idealize.ShloMosaic.TcCoe

variable {F : FTy → Type} [FloatOps F] [∀ e, Nonempty (Elt F e)]

/-- The lower expert of the class's pair, among the 16 of the layer. -/
def loOf (c : ℕ) : ℕ := c / 6 * 4 + (![0, 0, 0, 1, 1, 2] : Fin 6 → ℕ) ⟨c % 6, Nat.mod_lt _ (by decide)⟩
/-- The higher expert of the class's pair. -/
def hiOf (c : ℕ) : ℕ := c / 6 * 4 + (![1, 2, 3, 2, 3, 3] : Fin 6 → ℕ) ⟨c % 6, Nat.mod_lt _ (by decide)⟩

theorem loOf_lt (c : ℕ) (h : c < 24) : loOf c < 16 := by revert c; decide
theorem hiOf_lt (c : ℕ) (h : c < 24) : hiOf c < 16 := by revert c; decide

/-- Item `k` is the first of its block of rows. -/
def firstB (blk : ℕ → ℕ) (k : ℕ) : Bool := decide (k = 0 ∨ blk k ≠ blk (k - 1))
/-- Item `k` is the last of its block of rows. -/
def lastB (nI : ℕ) (blk : ℕ → ℕ) (k : ℕ) : Bool := decide (k + 1 = nI ∨ blk (k + 1) ≠ blk k)

/-- What the seven control tables hold. -/
structure Plan (pf : pre0.Contents (Elt F)) (nI : ℕ) (blk cls : ℕ → ℕ) : Prop where
  pos : 0 < nI
  le : nI ≤ 87
  blk_lt : ∀ k, blk k < 64
  cls_lt : ∀ k, cls k < 24
  tail : ∀ k, nI ≤ k → blk k = blk (nI - 1)
  w0 : ∀ i : grid0.Coords, pf 0 (tix i) = BitVec.ofNat 32 (blk (i 0).val)
  w1 : ∀ i : grid0.Coords, pf 1 (tix i) = BitVec.ofNat 32 (cls (i 0).val)
  w2 : ∀ i : grid0.Coords, pf 2 (tix i) = BitVec.ofNat 32 (loOf (cls (i 0).val))
  w3 : ∀ i : grid0.Coords, pf 3 (tix i) = BitVec.ofNat 32 (hiOf (cls (i 0).val))
  w4 : ∀ i : grid0.Coords, (i 0).val < nI → pf 4 (tix i) = if firstB blk (i 0).val then 1#32 else 0#32
  w5 : ∀ i : grid0.Coords, (i 0).val < nI → pf 5 (tix i) = if lastB nI blk (i 0).val then 1#32 else 0#32
  w6 : ∀ i : grid0.Coords, pf 6 (tix i) = if (i 0).val < nI then 1#32 else 0#32

variable {pf : pre0.Contents (Elt F)} {nI : ℕ} {blk cls : ℕ → ℕ}

theorem at_tix (k : Fin 7) (i : grid0.Coords) (off : Fin 1 → Nat) (hoff : off = ![(i 0).val])
    (h : ∀ a, off a + S1.size a ≤ S88.size a) (T : S88.Idx → Elt F .i32) (y) :
    T ((Rect.unit (s := S88) off S1.size h).emb y) = T (tix i) :=
  congrArg T (idx_tix i off hoff h y)

theorem ofNat_toNat (n : ℕ) (h : n < 64) : (BitVec.ofNat 32 n).toNat = n := by
  rw [BitVec.toNat_ofNat]; exact Nat.mod_eq_of_lt (by omega)

namespace Plan
variable (hP : Plan pf nI blk cls)
include hP

theorem tr0 (i : grid0.Coords) : cc0_transform_0 k0_off1_inb numel1_S1 pf i = ![blk (i 0).val, 0] := by
  have e : pf 0 (tix i) = BitVec.ofNat 32 (blk (i 0).val) := hP.w0 i
  have h := at_tix 0 i (k0_off1 i) (off_eq i) (k0_off1_inb i) (pf 0) (Shape.Idx.first Nat.one_pos)
  exact congrArg (fun n : ℕ => (![n, 0] : Fin 2 → ℕ))
    ((congrArg BitVec.toNat (h.trans e)).trans (ofNat_toNat _ (hP.blk_lt _)))
theorem tr7 (i : grid0.Coords) : cc0_transform_7 k0_off1_inb numel1_S1 pf i = ![blk (i 0).val, 0] := hP.tr0 i
theorem tr1 (i : grid0.Coords) : cc0_transform_1 k0_off1_inb numel1_S1 pf i = ![1, loOf (cls (i 0).val), 0, 0] := by
  have e : pf 2 (tix i) = BitVec.ofNat 32 (loOf (cls (i 0).val)) := hP.w2 i
  have h := at_tix 2 i (k0_off1 i) (off_eq i) (k0_off1_inb i) (pf 2) (Shape.Idx.first Nat.one_pos)
  exact congrArg (fun n : ℕ => (![1, n, 0, 0] : Fin 4 → ℕ))
    ((congrArg BitVec.toNat (h.trans e)).trans (ofNat_toNat _ (lt_trans (loOf_lt _ (hP.cls_lt _)) (by decide))))
theorem tr2 (i : grid0.Coords) : cc0_transform_2 k0_off1_inb numel1_S1 pf i = ![1, loOf (cls (i 0).val), 0, 0] := hP.tr1 i
theorem tr3 (i : grid0.Coords) : cc0_transform_3 k0_off1_inb numel1_S1 pf i = ![1, loOf (cls (i 0).val), 0, 0] := hP.tr1 i
theorem tr4 (i : grid0.Coords) : cc0_transform_4 k0_off1_inb numel1_S1 pf i = ![1, hiOf (cls (i 0).val), 0, 0] := by
  have e : pf 3 (tix i) = BitVec.ofNat 32 (hiOf (cls (i 0).val)) := hP.w3 i
  have h := at_tix 3 i (k0_off1 i) (off_eq i) (k0_off1_inb i) (pf 3) (Shape.Idx.first Nat.one_pos)
  exact congrArg (fun n : ℕ => (![1, n, 0, 0] : Fin 4 → ℕ))
    ((congrArg BitVec.toNat (h.trans e)).trans (ofNat_toNat _ (lt_trans (hiOf_lt _ (hP.cls_lt _)) (by decide))))
theorem tr5 (i : grid0.Coords) : cc0_transform_5 k0_off1_inb numel1_S1 pf i = ![1, hiOf (cls (i 0).val), 0, 0] := hP.tr4 i
theorem tr6 (i : grid0.Coords) : cc0_transform_6 k0_off1_inb numel1_S1 pf i = ![1, hiOf (cls (i 0).val), 0, 0] := hP.tr4 i

/-- The tables name blocks inside their arrays. -/
theorem ok : ok0 pf := by
  have hb := hP.blk_lt
  have hlo := fun i : grid0.Coords => loOf_lt _ (hP.cls_lt (i 0).val)
  have hhi := fun i : grid0.Coords => hiOf_lt _ (hP.cls_lt (i 0).val)
  refine ⟨fun i => ⟨?_, .inl rfl⟩, fun i => ⟨?_, .inl rfl⟩, fun i => ⟨?_, .inl rfl⟩, fun i => ⟨?_, .inl rfl⟩,
    fun i => ⟨?_, .inl rfl⟩, fun i => ⟨?_, .inl rfl⟩, fun i => ⟨?_, .inl rfl⟩, fun i => ⟨?_, .inl rfl⟩⟩
  · rw [hP.tr0]; intro a
    match a with
    | 0 => show (blk (i 0).val + 1) * 2048 ≤ 131072; have := hb (i 0).val; omega
    | 1 => show (0 + 1) * 128 ≤ 128; omega
  · rw [hP.tr1]; intro a
    match a with
    | 0 => show (1 + 1) * 1 ≤ 2; omega
    | 1 => show (loOf (cls (i 0).val) + 1) * 1 ≤ 16; have := hlo i; omega
    | 2 => show (0 + 1) * 1024 ≤ 1024; omega
    | 3 => show (0 + 1) * 256 ≤ 256; omega
  · rw [hP.tr2]; intro a
    match a with
    | 0 => show (1 + 1) * 1 ≤ 2; omega
    | 1 => show (loOf (cls (i 0).val) + 1) * 1 ≤ 16; have := hlo i; omega
    | 2 => show (0 + 1) * 1024 ≤ 1024; omega
    | 3 => show (0 + 1) * 256 ≤ 256; omega
  · rw [hP.tr3]; intro a
    match a with
    | 0 => show (1 + 1) * 1 ≤ 2; omega
    | 1 => show (loOf (cls (i 0).val) + 1) * 1 ≤ 16; have := hlo i; omega
    | 2 => show (0 + 1) * 256 ≤ 256; omega
    | 3 => show (0 + 1) * 1024 ≤ 1024; omega
  · rw [hP.tr4]; intro a
    match a with
    | 0 => show (1 + 1) * 1 ≤ 2; omega
    | 1 => show (hiOf (cls (i 0).val) + 1) * 1 ≤ 16; have := hhi i; omega
    | 2 => show (0 + 1) * 1024 ≤ 1024; omega
    | 3 => show (0 + 1) * 256 ≤ 256; omega
  · rw [hP.tr5]; intro a
    match a with
    | 0 => show (1 + 1) * 1 ≤ 2; omega
    | 1 => show (hiOf (cls (i 0).val) + 1) * 1 ≤ 16; have := hhi i; omega
    | 2 => show (0 + 1) * 1024 ≤ 1024; omega
    | 3 => show (0 + 1) * 256 ≤ 256; omega
  · rw [hP.tr6]; intro a
    match a with
    | 0 => show (1 + 1) * 1 ≤ 2; omega
    | 1 => show (hiOf (cls (i 0).val) + 1) * 1 ≤ 16; have := hhi i; omega
    | 2 => show (0 + 1) * 256 ≤ 256; omega
    | 3 => show (0 + 1) * 1024 ≤ 1024; omega
  · rw [hP.tr7]; intro a
    match a with
    | 0 => show (blk (i 0).val + 1) * 2048 ≤ 131072; have := hb (i 0).val; omega
    | 1 => show (0 + 1) * 128 ≤ 128; omega

/-- A point is a work item exactly when its word in the last table says so. -/
theorem cond1 (i : grid0.Coords) : k0_cond1 (pf 6 (tix i)) = 1#1 ↔ (i 0).val < nI := by
  rw [show pf 6 (tix i) = _ from hP.w6 i]
  by_cases h : (i 0).val < nI
  · rw [if_pos h]; exact ⟨fun _ => h, fun _ => by decide⟩
  · rw [if_neg h]; exact ⟨fun e => absurd e (by decide), fun e => absurd e h⟩

/-- Where the output's buffer is stored into: at the last item of each block of rows. -/
theorem idle7 (i : grid0.Coords) : idle0 pf 7 i = !(decide ((i 0).val < nI) && lastB nI blk (i 0).val) := by
  have e6 : pf.atD 6 (k0_off1 i) = pf 6 (tix i) := by
    have hin : ∀ a, k0_off1 i a + 1 ≤ S88.size a := fun a => by
      obtain rfl : a = 0 := Subsingleton.elim a 0
      exact k0_off1_inb i 0
    have hT : ∀ T : S88.Idx → Elt F .i32, T (fun a => ⟨k0_off1 i a, hin a⟩) = T (tix i) := fun T =>
      congrArg T (funext fun a => Fin.ext (by
        obtain rfl : a = 0 := Subsingleton.elim a 0
        exact congrFun (off_eq i) 0))
    exact (dif_pos hin).trans (hT (pf 6))
  have e5 : pf.atD 5 (k0_off4 i) = pf 5 (tix i) := by
    have hin : ∀ a, k0_off4 i a + 1 ≤ S88.size a := fun a => by
      obtain rfl : a = 0 := Subsingleton.elim a 0
      exact k0_off4_inb i 0
    have hT : ∀ T : S88.Idx → Elt F .i32, T (fun a => ⟨k0_off4 i a, hin a⟩) = T (tix i) := fun T =>
      congrArg T (funext fun a => Fin.ext (by
        obtain rfl : a = 0 := Subsingleton.elim a 0
        exact congrFun (off_eq i) 0))
    exact (dif_pos hin).trans (hT (pf 5))
  show (!(k0_cond1 (pf.atD 6 (k0_off1 i)) == 1#1 && k0_cond4 (pf.atD 5 (k0_off4 i)) == 1#1)) = _
  rw [show k0_cond1 (pf.atD 6 (k0_off1 i)) = k0_cond1 (pf 6 (tix i)) from congrArg k0_cond1 e6,
    show k0_cond4 (pf.atD 5 (k0_off4 i)) = k0_cond4 (pf 5 (tix i)) from congrArg k0_cond4 e5]
  by_cases h : (i 0).val < nI
  · rw [(hP.cond1 i).2 h, show pf 5 (tix i) = _ from hP.w5 i h, decide_eq_true h]
    cases lastB nI blk (i 0).val <;> rfl
  · rw [show pf 6 (tix i) = _ from hP.w6 i, if_neg h, decide_eq_false h]
    rfl

end Plan

end Cert.Experts

end
-- ==== Proof.Data.lean ====
module

public import proofs.«01_k».proof.Proof.Plan

/-! The contents of the buffers along the grid: what each input block holds, what the running sum of a block of rows is
after each point, and what the body leaves in the output's buffer. -/

@[expose] public section

set_option maxRecDepth 4000

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

/-- The one coordinate of a grid point is its number. -/
theorem coord_val (t : Fin grid0.N) : (grid0.coords t 0).val = t.val := by revert t; decide

variable (a : (pcfg0 (F := F)).Adm) (V : (c : Dev nD) → (b : Ref sig .tc) → Buf (Elt F) ((c.tc : Thread nD τ).loc b))
  (nI : ℕ) (blk cls : ℕ → ℕ)

/-- The block of window `w`'s array that point `t` works on. -/
def blkOf (c : Dev nD) (w : Fin 8) (t : Fin grid0.N) : ((win0 a w).xblock (grid0.coords t)).Idx → Elt F (win0 a w).elt :=
  ((win0 a w).blk t).view.read (Elt F) (V c (Pipeline.arrRef spec0 w))

/-- What item `t` contributes to its block of rows. -/
def item (c : Dev nD) (t : Fin grid0.N) : S256x1024.Idx → Elt F .f32 :=
  itemOut (blkOf a V c 0 t) (a.1 1 (tix (grid0.coords t))) (blkOf a V c 1 t) (blkOf a V c 2 t) (blkOf a V c 3 t)
    (blkOf a V c 4 t) (blkOf a V c 5 t) (blkOf a V c 6 t)

/-- The running sum after the first `n` points. -/
def accAt (c : Dev nD) : ℕ → S256x1024.Idx → Elt F .f32
  | 0 => fun _ => Classical.arbitrary _
  | n + 1 => if h : n < nI ∧ n < grid0.N then accNext (firstB blk n) (accAt c n) (item a V c ⟨n, h.2⟩) else accAt c n

theorem accAt_item (c : Dev nD) (t : Fin grid0.N) (h : t.val < nI) :
    accAt a V nI blk c (t.val + 1) = accNext (firstB blk t.val) (accAt a V nI blk c t.val) (item a V c t) := by
  show (if h : t.val < nI ∧ t.val < grid0.N then accNext (firstB blk t.val) (accAt a V nI blk c t.val) (item a V c ⟨t.val, h.2⟩)
    else accAt a V nI blk c t.val) = _
  rw [dif_pos ⟨h, t.isLt⟩]

theorem accAt_rest (c : Dev nD) (n : ℕ) (h : nI ≤ n) : accAt a V nI blk c (n + 1) = accAt a V nI blk c n := by
  show (if h : n < nI ∧ n < grid0.N then accNext (firstB blk n) (accAt a V nI blk c n) (item a V c ⟨n, h.2⟩)
    else accAt a V nI blk c n) = _
  rw [dif_neg (by omega)]

/-- After the last item the running sum stays. -/
theorem accAt_stays (c : Dev nD) (n : ℕ) : accAt a V nI blk c (nI + n) = accAt a V nI blk c nI := by
  induction n with
  | zero => rfl
  | succ n ih => rw [← ih]; exact accAt_rest a V nI blk c (nI + n) (by omega)

/-- The invariant before point `n`: the running sum in its buffer (before the first point: anything), the generator's
register and the control tables. -/
def inv (c : Dev nD) (n : ℕ) : sProp 𝕄 :=
  iprop((∃ f : S256x1024.Idx → Elt F .f32, ⌜n ≠ 0 → f = accAt a V nI blk c n⌝ ∗ scrPt c cc0_scratch0 f)
    ∗ (∃ r, prngReg c r) ∗ Pipeline.ΦT pre0 a.1 c)

/-- The proof data of the call on core `c`. -/
def dats (c : Dev nD) : Dat τ (Elt F) Unit ℕ (UR sig nD τ) ℕ (cfg0 a) c where
  A w := V c (Pipeline.arrRef spec0 w)
  after := fun
    | 0 => fun t => blkOf a V c 0 t
    | 1 => fun t => blkOf a V c 1 t
    | 2 => fun t => blkOf a V c 2 t
    | 3 => fun t => blkOf a V c 3 t
    | 4 => fun t => blkOf a V c 4 t
    | 5 => fun t => blkOf a V c 5 t
    | 6 => fun t => blkOf a V c 6 t
    | 7 => fun t => layout (accAt a V nI blk c (t.val + 1))
    | ⟨_ + 8, h⟩ => absurd h (Nat.not_lt.2 (Nat.le_add_left _ _))
  Φ t := inv a V nI blk c t.val
  q w := Pipeline.shareOf spec0 w
  owed _ := 0

theorem before_in (c : Dev nD) (w : Fin 8) (hw : w ≠ 7) (t : Fin grid0.N) (d) :
    (dats a V nI blk c).before w t d = blkOf a V c w t := by
  match w, hw with
  | 0, _ => exact (dats a V nI blk c).before_in_eq_fetched 0 rfl (fun _ => rfl) (fun _ _ _ => rfl) (fun _ => rfl) t d
  | 1, _ => exact (dats a V nI blk c).before_in_eq_fetched 1 rfl (fun _ => rfl) (fun _ _ _ => rfl) (fun _ => rfl) t d
  | 2, _ => exact (dats a V nI blk c).before_in_eq_fetched 2 rfl (fun _ => rfl) (fun _ _ _ => rfl) (fun _ => rfl) t d
  | 3, _ => exact (dats a V nI blk c).before_in_eq_fetched 3 rfl (fun _ => rfl) (fun _ _ _ => rfl) (fun _ => rfl) t d
  | 4, _ => exact (dats a V nI blk c).before_in_eq_fetched 4 rfl (fun _ => rfl) (fun _ _ _ => rfl) (fun _ => rfl) t d
  | 5, _ => exact (dats a V nI blk c).before_in_eq_fetched 5 rfl (fun _ => rfl) (fun _ _ _ => rfl) (fun _ => rfl) t d
  | 6, _ => exact (dats a V nI blk c).before_in_eq_fetched 6 rfl (fun _ => rfl) (fun _ _ _ => rfl) (fun _ => rfl) t d
  | 7, h => exact absurd rfl h
  | ⟨_ + 8, h⟩, _ => exact absurd h (Nat.not_lt.2 (Nat.le_add_left _ _))

variable (hP : Plan a.1 nI blk cls)
include hP

theorem index7 (t : Fin grid0.N) : (win0 a 7).index t = ![blk t.val, 0] := by
  have h := hP.tr7 (grid0.coords t)
  rw [coord_val] at h
  exact h

theorem idle7_eq (t : Fin grid0.N) : (cfg0 a).idle 7 (grid0.coords t) = !(decide (t.val < nI) && lastB nI blk t.val) := by
  have h := hP.idle7 (grid0.coords t)
  rw [coord_val] at h
  exact h

/-- The output's block is written back only where its last item is done, and at the last point. -/
theorem flush7_imp (t : Fin grid0.N) (h : (win0 a 7).flush t = true) : (t.val < nI ∧ lastB nI blk t.val = true) ∨ t.val = 87 := by
  have hN : grid0.N = 88 := N_0
  unfold Pipeline.Window.flush at h
  simp only [Bool.and_eq_true, Bool.or_eq_true, decide_eq_true_eq] at h
  rcases h.2 with h | ⟨hlt, hne⟩
  · right; omega
  · rw [index7 a nI blk cls hP, index7 a nI blk cls hP] at hne
    have hne' : blk (t.val + 1) ≠ blk t.val := fun e => hne (by rw [e])
    by_cases hn : t.val < nI
    · left; exact ⟨hn, by unfold lastB; exact decide_eq_true (.inr hne')⟩
    · exact absurd ((hP.tail _ (by omega)).trans (hP.tail _ (by omega)).symm) hne'

theorem flush7_false (t : Fin grid0.N) (h87 : t.val ≠ 87) (h : t.val < nI → lastB nI blk t.val = false) :
    (win0 a 7).flush t = false := by
  rcases Bool.eq_false_or_eq_true ((win0 a 7).flush t) with hf | hf
  · rcases flush7_imp a nI blk cls hP t hf with ⟨h1, h2⟩ | h1
    · rw [h h1] at h2; exact absurd h2 (by decide)
    · exact absurd h1 h87
  · exact hf

/-- What the output's buffer holds at a point past the items: what the last item left. -/
theorem before_rest (c : Dev nD) (d) (n : ℕ) (h : nI + n < grid0.N) :
    (dats a V nI blk c).before 7 ⟨nI + n, h⟩ d = layout (accAt a V nI blk c nI) := by
  have hN : grid0.N = 88 := N_0
  have hpos := hP.pos
  have hle := hP.le
  induction n with
  | zero =>
    have hlt : nI - 1 < grid0.N := by omega
    rw [(dats a V nI blk c).before_of_pos 7 ⟨nI + 0, h⟩ (by show nI + 0 ≠ 0; omega) rfl d]
    have hf : (win0 a 7).flush ⟨nI - 1, hlt⟩ = false := by
      rcases Bool.eq_false_or_eq_true ((win0 a 7).flush ⟨nI - 1, hlt⟩) with hf | hf
      · exfalso
        unfold Pipeline.Window.flush at hf
        simp only [Bool.and_eq_true, Bool.or_eq_true, decide_eq_true_eq] at hf
        rcases hf.2 with e | ⟨hl, hne⟩
        · omega
        · rw [index7 a nI blk cls hP, index7 a nI blk cls hP] at hne
          refine hne (congrArg (fun n => ![n, 0]) ?_)
          show blk (nI - 1 + 1) = blk (nI - 1)
          exact hP.tail _ (by omega)
      · exact hf
    have hi : (cfg0 a).idle 7 (grid0.coords ⟨nI - 1, hlt⟩) = false := by
      rw [idle7_eq a nI blk cls hP, decide_eq_true (show nI - 1 < nI by omega)]
      unfold lastB
      rw [decide_eq_true (.inl (show nI - 1 + 1 = nI by omega))]; rfl
    show (if (win0 a 7).flush ⟨nI + 0 - 1, _⟩ = true then d else (dats a V nI blk c).left 7 ⟨nI + 0 - 1, _⟩ d) = _
    refine (if_neg (fun e => Bool.false_ne_true (hf.symm.trans e))).trans ?_
    unfold Dat.left
    rw [show (cfg0 a).idle 7 ((cfg0 a).grid.coords ⟨nI + 0 - 1, Nat.lt_of_le_of_lt (Nat.sub_le _ _) h⟩) = false from hi]
    show layout (accAt a V nI blk c (nI - 1 + 1)) = _
    rw [show nI - 1 + 1 = nI by omega]
  | succ n ih =>
    have hlt : nI + n < grid0.N := by omega
    rw [(dats a V nI blk c).before_of_pos 7 ⟨nI + (n + 1), h⟩ (by show nI + (n + 1) ≠ 0; omega) rfl d]
    have hf : (win0 a 7).flush ⟨nI + n, hlt⟩ = false :=
      flush7_false a nI blk cls hP _ (by show nI + n ≠ 87; omega) (fun e => absurd e (by show ¬ nI + n < nI; omega))
    have hi : (cfg0 a).idle 7 (grid0.coords ⟨nI + n, hlt⟩) = true := by
      rw [idle7_eq a nI blk cls hP, decide_eq_false (show ¬ nI + n < nI by omega)]; rfl
    show (if (win0 a 7).flush ⟨nI + n, _⟩ = true then d else (dats a V nI blk c).left 7 ⟨nI + n, _⟩ d) = _
    refine (if_neg (fun e => Bool.false_ne_true (hf.symm.trans e))).trans ?_
    unfold Dat.left
    rw [show (cfg0 a).idle 7 ((cfg0 a).grid.coords ⟨nI + n, hlt⟩) = true from hi]
    exact ih hlt

end Cert.Experts

end
-- ==== Proof.Run.lean ====
module

public import proofs.«01_k».proof.Proof.Data

/-! The body at every grid point, and the run of the whole program over any value type. -/

@[expose] public section

set_option maxRecDepth 4000

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

theorem rep_whole (c : Dev nD) {sp : Space} {sh : Shape} {e : EltTy} (m : Memref sig .tc sp sh e) (h : m.IsWhole) (X : sh.Idx → Elt F e) :
    (owns (c : Thread nD τ) m fullShare X : sProp 𝕄) = (m.view.loc (c : Thread nD τ) ↦{fullShare} m.view.rep X) := by
  rw [owns_eq_rep, h.set_eq_univ]

/-- A work item, each buffer named by what it holds. -/
theorem point_valid (c : Dev nD) (i : grid0.Coords) (pf : pre0.Contents (Elt F))
    (a8 : Memref sig .tc .vmem S2048x128 .i32) (h8 : a8.IsWhole)
    (a9 a10 : Memref sig .tc .vmem S1x1x1024x256 .f32) (h9 : a9.IsWhole) (h10 : a10.IsWhole)
    (a11 : Memref sig .tc .vmem S1x1x256x1024 .f32) (h11 : a11.IsWhole)
    (a12 a13 : Memref sig .tc .vmem S1x1x1024x256 .f32) (h12 : a12.IsWhole) (h13 : a13.IsWhole)
    (a14 : Memref sig .tc .vmem S1x1x256x1024 .f32) (h14 : a14.IsWhole)
    (a15 : Memref sig .tc .vmem S2048x128 .f32) (h15 : a15.IsWhole)
    (X8 : S2048x128.Idx → Elt F .i32) (X9 X10 : S1x1x1024x256.Idx → Elt F .f32) (X11 : S1x1x256x1024.Idx → Elt F .f32)
    (X12 X13 : S1x1x1024x256.Idx → Elt F .f32) (X14 : S1x1x256x1024.Idx → Elt F .f32) (X15 : S2048x128.Idx → Elt F .f32)
    (A : S256x1024.Idx → Elt F .f32) (first last : Bool)
    (hv : k0_cond1 (pf 6 (tix i)) = 1#1)
    (hf : pf 4 (tix i) = if first then 1#32 else 0#32) (hl : pf 5 (tix i) = if last then 1#32 else 0#32)
    (K : PUnit → sProp 𝕄) :
    iprop((tabPt c main_v34 (pf 1) ∗ tabPt c main_v88 (pf 4) ∗ tabPt c main_v90 (pf 5) ∗ tabPt c main_v91 (pf 6)
        ∗ owns (c : Thread nD τ) a8 fullShare X8
        ∗ owns (c : Thread nD τ) a9 fullShare X9
        ∗ owns (c : Thread nD τ) a10 fullShare X10
        ∗ owns (c : Thread nD τ) a11 fullShare X11
        ∗ owns (c : Thread nD τ) a12 fullShare X12
        ∗ owns (c : Thread nD τ) a13 fullShare X13
        ∗ owns (c : Thread nD τ) a14 fullShare X14
        ∗ owns (c : Thread nD τ) a15 fullShare X15
        ∗ scrPt c cc0_scratch0 A)
      ∗ ((tabPt c main_v34 (pf 1) ∗ tabPt c main_v88 (pf 4) ∗ tabPt c main_v90 (pf 5) ∗ tabPt c main_v91 (pf 6)
        ∗ owns (c : Thread nD τ) a8 fullShare X8
        ∗ owns (c : Thread nD τ) a9 fullShare X9
        ∗ owns (c : Thread nD τ) a10 fullShare X10
        ∗ owns (c : Thread nD τ) a11 fullShare X11
        ∗ owns (c : Thread nD τ) a12 fullShare X12
        ∗ owns (c : Thread nD τ) a13 fullShare X13
        ∗ owns (c : Thread nD τ) a14 fullShare X14
        ∗ owns (c : Thread nD τ) a15 fullShare (if last then layout (accNext first A (itemOut X8 (pf 1 (tix i)) X9 X10 X11 X12 X13 X14)) else X15)
        ∗ scrPt c cc0_scratch0 (accNext first A (itemOut X8 (pf 1 (tix i)) X9 X10 X11 X12 X13 X14)))
        -∗ K ⟨⟩))
      ⊢ wp frame (wpE (defs₀ (F := F)) Variants.none c none) Set.univ
          (bodyOf i a8 h8 a9 h9 a10 h10 a11 h11 a12 h12 a13 h13 a14 h14 a15 h15) K := by
  have h := run_valid c i pf a8 h8 a9 a10 h9 h10 a11 h11 a12 a13 h12 h13 a14 h14 a15 h15 X8 X9 X10 X11 X12 X13 X14 X15 A first last hv hf hl K
  rw [← rep_whole c a8 h8 X8, ← rep_whole c a9 h9 X9, ← rep_whole c a10 h10 X10, ← rep_whole c a11 h11 X11, ← rep_whole c a12 h12 X12,
    ← rep_whole c a13 h13 X13, ← rep_whole c a14 h14 X14, ← rep_whole c a15 h15 X15, owns_whole] at h
  exact h

variable (a : (pcfg0 (F := F)).Adm) (V : (c : Dev nD) → (b : Ref sig .tc) → Buf (Elt F) ((c.tc : Thread nD τ).loc b))
  (nI : ℕ) (blk cls : ℕ → ℕ)

/-- The staging buffer of window `w` at point `t`. -/
abbrev stg (w : Fin 8) (t : Fin grid0.N) := ((cfg0 a).win w).stage ((cfg0 a).slots t w)

/-- The body at point `t`, on the buffers it is called with. -/
def bodyAt (t : Fin grid0.N) : Prog (TpuEff nD τ sig (Elt F) Λ₀ .tc) PUnit :=
  bodyOf (grid0.coords t)
    (stg a 0 t) (hstage0_0 (((cfg0 a).slots t 0).cast nbuf0_0)) (stg a 1 t) (hstage0_1 (((cfg0 a).slots t 1).cast nbuf0_1))
    (stg a 2 t) (hstage0_2 (((cfg0 a).slots t 2).cast nbuf0_2)) (stg a 3 t) (hstage0_3 (((cfg0 a).slots t 3).cast nbuf0_3))
    (stg a 4 t) (hstage0_4 (((cfg0 a).slots t 4).cast nbuf0_4)) (stg a 5 t) (hstage0_5 (((cfg0 a).slots t 5).cast nbuf0_5))
    (stg a 6 t) (hstage0_6 (((cfg0 a).slots t 6).cast nbuf0_6)) (stg a 7 t) (hstage0_7 (((cfg0 a).slots t 7).cast nbuf0_7))

theorem defs₀_row (t : Fin grid0.N) : defs₀ (F := F) .tc (cfg0 a).body ((cfg0 a).bodyArgs t ((cfg0 a).slots t)) = bodyAt a t := by
  unfold defs₀; rw [Defs.onTc_tc]; rfl

/-- What the body leaves in the output's buffer, as the pipeline asks for it. -/
def leave7 (c : Dev nD) (t : Fin grid0.N) : sProp 𝕄 :=
  match (cfg0 a).idle 7 (grid0.coords t) with
  | true =>
    match ((cfg0 a).win 7).flush t with
    | false => iprop(∃ d, owns (c : Thread nD τ) (stg a 7 t) fullShare ((dats a V nI blk c).before 7 t d))
    | true => owns (c : Thread nD τ) (stg a 7 t) fullShare ((dats a V nI blk c).after 7 t)
  | false => owns (c : Thread nD τ) (stg a 7 t) fullShare ((dats a V nI blk c).after 7 t)

/-- What the body leaves in an input's buffer. -/
abbrev leaveIn (c : Dev nD) (w : Fin 8) (t : Fin grid0.N) : sProp 𝕄 :=
  owns (c : Thread nD τ) (stg a w t) fullShare ((dats a V nI blk c).after w t)
/-- What the body finds in a buffer. -/
abbrev find (c : Dev nD) (w : Fin 8) (t : Fin grid0.N) : sProp 𝕄 :=
  iprop(∃ d, owns (c : Thread nD τ) (stg a w t) fullShare ((dats a V nI blk c).before w t d))

def bodyPre (c : Dev nD) (t : Fin grid0.N) : sProp 𝕄 :=
  iprop((dats a V nI blk c).Φ t.castSucc ∗ (dats a V nI blk c).owesAt () t.castSucc
    ∗ find a V nI blk c 0 t ∗ find a V nI blk c 1 t ∗ find a V nI blk c 2 t ∗ find a V nI blk c 3 t
    ∗ find a V nI blk c 4 t ∗ find a V nI blk c 5 t ∗ find a V nI blk c 6 t ∗ find a V nI blk c 7 t)
def bodyPost (c : Dev nD) (t : Fin grid0.N) : sProp 𝕄 :=
  iprop((dats a V nI blk c).Φ t.succ ∗ (dats a V nI blk c).owesAt () t.succ
    ∗ leaveIn a V nI blk c 0 t ∗ leaveIn a V nI blk c 1 t ∗ leaveIn a V nI blk c 2 t ∗ leaveIn a V nI blk c 3 t
    ∗ leaveIn a V nI blk c 4 t ∗ leaveIn a V nI blk c 5 t ∗ leaveIn a V nI blk c 6 t ∗ leave7 a V nI blk c t)

theorem tables_eq (c : Dev nD) (pf : pre0.Contents (Elt F)) :
    (Pipeline.ΦT pre0 pf c : sProp 𝕄)
      = iprop(tabPt c main_v50 (pf 0) ∗ tabPt c main_v34 (pf 1) ∗ tabPt c main_v76 (pf 2) ∗ tabPt c main_v86 (pf 3)
        ∗ tabPt c main_v88 (pf 4) ∗ tabPt c main_v90 (pf 5) ∗ tabPt c main_v91 (pf 6)) :=
  bigSep_univ_eq_bigSepL [(0 : Fin 7), (1 : Fin 7), (2 : Fin 7), (3 : Fin 7), (4 : Fin 7), (5 : Fin 7), (6 : Fin 7)] (by decide) (by decide) _

variable (hP : Plan a.1 nI blk cls)
include hP

/-- What is left of the output's buffer at a work item. -/
theorem leave7_item (c : Dev nD) (t : Fin grid0.N) (h : t.val < nI) (d) :
    (owns (c : Thread nD τ) (stg a 7 t) fullShare
      (if lastB nI blk t.val then layout (accAt a V nI blk c (t.val + 1)) else (dats a V nI blk c).before 7 t d) : sProp 𝕄)
      ⊢ leave7 a V nI blk c t := by
  unfold leave7
  rw [idle7_eq a nI blk cls hP, decide_eq_true h]
  cases hl : lastB nI blk t.val
  · rw [show ((cfg0 a).win 7).flush t = false from flush7_false a nI blk cls hP t (by have := hP.le; omega) (fun _ => hl)]
    show _ ⊢ iprop(∃ d, owns (c : Thread nD τ) (stg a 7 t) fullShare ((dats a V nI blk c).before 7 t d))
    iintro H
    iexists d
    iexact H
  · exact .rfl

/-- What is left of it at a point past the items. -/
theorem leave7_rest (c : Dev nD) (t : Fin grid0.N) (h : ¬ t.val < nI) (d) :
    (owns (c : Thread nD τ) (stg a 7 t) fullShare ((dats a V nI blk c).before 7 t d) : sProp 𝕄) ⊢ leave7 a V nI blk c t := by
  have e : (dats a V nI blk c).before 7 t d = (dats a V nI blk c).after 7 t := by
    obtain ⟨n, hn⟩ : ∃ n, t.val = nI + n := ⟨t.val - nI, by omega⟩
    have ht : t = ⟨nI + n, hn ▸ t.isLt⟩ := Fin.ext hn
    rw [ht, before_rest a V nI blk cls hP c d n _]
    show _ = layout (accAt a V nI blk c (nI + n + 1))
    rw [accAt_rest a V nI blk c _ (by omega), accAt_stays]
  unfold leave7
  rw [idle7_eq a nI blk cls hP, decide_eq_false h]
  cases ((cfg0 a).win 7).flush t
  · show _ ⊢ iprop(∃ d, owns (c : Thread nD τ) (stg a 7 t) fullShare ((dats a V nI blk c).before 7 t d))
    iintro H
    iexists d
    iexact H
  · rw [e]; exact .rfl

/-- The body at every point. -/
theorem sound_body (c : Dev nD) (t : Fin grid0.N) :
    bodyPre a V nI blk c t ⊢ wp frame (wpE (defs₀ (F := F)) Variants.none c none) Set.univ (bodyAt a t)
      (fun _ => bodyPost a V nI blk c t) := by
  unfold bodyPre bodyPost bodyAt
  rw [show (dats a V nI blk c).owesAt () t.succ = (dats a V nI blk c).owesAt () t.castSucc from rfl,
    show (dats a V nI blk c).Φ t.castSucc = inv a V nI blk c t.val from rfl,
    show (dats a V nI blk c).Φ t.succ = inv a V nI blk c (t.val + 1) from rfl]
  unfold inv
  rw [tables_eq]
  by_cases h : t.val < nI
  · have hi : (grid0.coords t 0).val < nI := by rw [coord_val]; exact h
    have hv := (hP.cond1 (grid0.coords t)).2 hi
    have hf := hP.w4 (grid0.coords t) hi
    have hl := hP.w5 (grid0.coords t) hi
    rw [coord_val] at hf hl
    iintro ⟨⟨⟨%A, %hA, S⟩, G, T0, T1, T2, T3, T4, T5, T6⟩, HO, ⟨%d0, B0⟩, ⟨%d1, B1⟩, ⟨%d2, B2⟩, ⟨%d3, B3⟩, ⟨%d4, B4⟩, ⟨%d5, B5⟩, ⟨%d6, B6⟩, ⟨%d7, B7⟩⟩
    rw [before_in a V nI blk c 0 (by decide), before_in a V nI blk c 1 (by decide), before_in a V nI blk c 2 (by decide),
      before_in a V nI blk c 3 (by decide), before_in a V nI blk c 4 (by decide), before_in a V nI blk c 5 (by decide),
      before_in a V nI blk c 6 (by decide)]
    have hacc : accNext (firstB blk t.val) A (item a V c t) = accAt a V nI blk c (t.val + 1) := by
      rw [accAt_item a V nI blk c t h]
      by_cases h0 : t.val = 0
      · have : firstB blk t.val = true := by unfold firstB; exact decide_eq_true (.inl h0)
        rw [this]; rfl
      · rw [hA h0]
    iapply (point_valid c (grid0.coords t) a.1 _ _ _ _ _ _ _ _ _ _ _ _ _ _ _ _ (blkOf a V c 0 t) (blkOf a V c 1 t) (blkOf a V c 2 t)
      (blkOf a V c 3 t) (blkOf a V c 4 t) (blkOf a V c 5 t) (blkOf a V c 6 t) ((dats a V nI blk c).before 7 t d7) A
      (firstB blk t.val) (lastB nI blk t.val) hv hf hl _)
    isplitl [T1 T4 T5 T6 B0 B1 B2 B3 B4 B5 B6 B7 S]
    · isplitl [T1]; · iexact T1
      isplitl [T4]; · iexact T4
      isplitl [T5]; · iexact T5
      isplitl [T6]; · iexact T6
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      iexact S
    · rw [show itemOut (blkOf a V c 0 t) (a.1 1 (tix (grid0.coords t))) (blkOf a V c 1 t) (blkOf a V c 2 t) (blkOf a V c 3 t)
        (blkOf a V c 4 t) (blkOf a V c 5 t) (blkOf a V c 6 t) = item a V c t from rfl, hacc]
      iintro ⟨T1, T4, T5, T6, B0, B1, B2, B3, B4, B5, B6, B7, S⟩
      isplitl [S G T0 T1 T2 T3 T4 T5 T6]
      · isplitl [S]
        · iexists _
          isplitr
          · ipureintro; exact fun _ => rfl
          · iexact S
        isplitl [G]; · iexact G
        isplitl [T0]; · iexact T0
        isplitl [T1]; · iexact T1
        isplitl [T2]; · iexact T2
        isplitl [T3]; · iexact T3
        isplitl [T4]; · iexact T4
        isplitl [T5]; · iexact T5
        iexact T6
      isplitl [HO]; · iexact HO
      isplitl [B0]; · iexact B0
      isplitl [B1]; · iexact B1
      isplitl [B2]; · iexact B2
      isplitl [B3]; · iexact B3
      isplitl [B4]; · iexact B4
      isplitl [B5]; · iexact B5
      isplitl [B6]; · iexact B6
      iapply (leave7_item a V nI blk cls hP c t h d7)
      iexact B7
  · have hi : ¬ (grid0.coords t 0).val < nI := by rw [coord_val]; exact h
    have hv : ¬ k0_cond1 (a.1 6 (tix (grid0.coords t))) = 1#1 := fun e => hi ((hP.cond1 (grid0.coords t)).1 e)
    have hpos := hP.pos
    iintro ⟨⟨⟨%A, %hA, S⟩, G, T0, T1, T2, T3, T4, T5, T6⟩, HO, ⟨%d0, B0⟩, ⟨%d1, B1⟩, ⟨%d2, B2⟩, ⟨%d3, B3⟩, ⟨%d4, B4⟩, ⟨%d5, B5⟩, ⟨%d6, B6⟩, ⟨%d7, B7⟩⟩
    rw [before_in a V nI blk c 0 (by decide), before_in a V nI blk c 1 (by decide), before_in a V nI blk c 2 (by decide),
      before_in a V nI blk c 3 (by decide), before_in a V nI blk c 4 (by decide), before_in a V nI blk c 5 (by decide),
      before_in a V nI blk c 6 (by decide)]
    have hacc : A = accAt a V nI blk c (t.val + 1) := by
      rw [accAt_rest a V nI blk c _ (by omega)]
      exact hA (by omega)
    iapply (run_invalid c (grid0.coords t) a.1 _ _ _ _ _ _ _ _ _ _ _ _ _ _ _ _ hv _)
    isplitl [T6]; · iexact T6
    iintro T6
    isplitl [S G T0 T1 T2 T3 T4 T5 T6]
    · isplitl [S]
      · iexists _
        isplitr
        · ipureintro; exact fun _ => hacc
        · iexact S
      isplitl [G]; · iexact G
      isplitl [T0]; · iexact T0
      isplitl [T1]; · iexact T1
      isplitl [T2]; · iexact T2
      isplitl [T3]; · iexact T3
      isplitl [T4]; · iexact T4
      isplitl [T5]; · iexact T5
      iexact T6
    isplitl [HO]; · iexact HO
    isplitl [B0]; · iexact B0
    isplitl [B1]; · iexact B1
    isplitl [B2]; · iexact B2
    isplitl [B3]; · iexact B3
    isplitl [B4]; · iexact B4
    isplitl [B5]; · iexact B5
    isplitl [B6]; · iexact B6
    iapply (leave7_rest a V nI blk cls hP c t h d7)
    iexact B7

/-- The obligation of the pipeline. -/
theorem body_obligation (c : Dev nD) :
    BodyObligationLoose (dats a V nI blk c) (defs₀ (F := F)) Variants.none () Set.univ := fun t => by
  rw [bigSep_W0, bigSep_W0, defs₀_row]
  exact triple_restated (sound_body a V nI blk cls hP c t) rfl .rfl fun _ => .rfl

end Cert.Experts

end
-- ==== Proof.Launched.lean ====
module

public import proofs.«01_k».proof.Proof.Run

/-! The run of the whole program, host code and call, over any value type. -/

@[expose] public section

set_option maxRecDepth 4000

noncomputable section

namespace Cert.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

/-! ## The launch -/

/-- The host operations before the call, in order. -/
abbrev hostSegs : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19]

/-- The buffers of core `c` as the host code leaves them. -/
def hostV (m : (ℓ : Loc nD τ sig) → Buf (Elt F) ℓ) (c : Dev nD) (b : Ref sig .tc) : Buf (Elt F) ((c.tc : Thread nD τ).loc b) :=
  StableHlo.after (hostSegs (F := F)).flatten (fun b => m (c, b)) b

theorem hmain (m : (ℓ : Loc nD τ sig) → Buf (Elt F) ℓ) :
    Pipeline.HMainP (Ix := Unit) (Name := ℕ) (U := UR sig nD τ) (Lvl := ℕ) (pcfgs (F := F)) 0 defs₀ Variants.none m main (hostV m) :=
  Pipeline.hmainP_prefixes (pcfgs (F := F)) 0 defs₀ Variants.none m main hostSegs
    ⟨hostOps0_sub, hostOps0_1_sub, hostOps0_2_sub, hostOps0_3_sub, hostOps0_4_sub, hostOps0_5_sub, hostOps0_6_sub, hostOps0_7_sub,
      hostOps0_8_sub, hostOps0_9_sub, hostOps0_10_sub, hostOps0_11_sub, hostOps0_12_sub, hostOps0_13_sub, hostOps0_14_sub,
      hostOps0_15_sub, hostOps0_16_sub, hostOps0_17_sub, hostOps0_18_sub, hostOps0_19_sub⟩
    (by repeat' first | exact trivial | exact rfl | apply And.intro)
    (fun c => (main_chain c).trans rfl)

variable (nI : ℕ) (blk cls : ℕ → ℕ) (m : (ℓ : Loc nD τ sig) → Buf (Elt F) ℓ) (ρ : Dev nD → PrngReg)

/-- The control tables as the host code leaves them. -/
def tabs : pre0.Contents (Elt F) := fun k => hostV m 0 (pre0.ref k)

section Abstract
variable (a : (pcfg0 (F := F)).Adm) (V : (c : Dev nD) → (b : Ref sig .tc) → Buf (Elt F) ((c.tc : Thread nD τ).loc b))

theorem enter (c : Dev nD) : iprop(Pipeline.ΦA spec0 c ∗ Pipeline.ΦT pre0 a.1 c) ⊢ inv a V nI blk c 0 := by
  unfold inv Pipeline.ΦA
  rw [scopedRest0_eq]
  iintro ⟨⟨⟨%f, S⟩, G⟩, T⟩
  isplitl [S]
  · iexists f
    isplitr
    · ipureintro; exact fun e => absurd rfl e
    · iexact S
  isplitl [G]; · iexact G
  iexact T

theorem leave (c : Dev nD) (n : ℕ) : inv a V nI blk c n ⊢ (Pipeline.ΦA spec0 c : sProp 𝕄) := by
  unfold inv Pipeline.ΦA
  rw [scopedRest0_eq]
  iintro ⟨⟨%f, -, S⟩, G, -⟩
  isplitl [S]
  · iexists f; iexact S
  iexact G

set_option backward.isDefEq.respectTransparency.types false in
/-- The run from any contents `V` that the host code leaves, the tables being `a`. -/
theorem run_from (hP : Plan a.1 nI blk cls)
    (hm : Pipeline.HMainP (Ix := Unit) (Name := ℕ) (U := UR sig nD τ) (Lvl := ℕ) (pcfgs (F := F)) 0 defs₀ Variants.none m main V)
    (hpf : ∀ c k, V c (pre0.ref k) = a.1 k) :
    θ_run defs (onTc (τ := τ) (main (F := F))) (s₀ m ρ)
      (fun r => Pipeline.FramePost (Pipeline.pin (pcfgs (F := F)) (fun _ => a))
        (fun _ c => dats a V nI blk c) 0 V r ∧ r.2.sem = fun _ => 0) :=
  Pipeline.θ_run_frameP_track_shared (Q' := _) (pcfgs (F := F)) (fun _ => a)
    (fun _ c => dats a V nI blk c) (0 : Fin 1) launch₀0 defs₀ Variants.none m ρ main
    (hbody := fun c => body_obligation a V nI blk cls hP c)
    (hq := fun _ _ _ => rfl) (howed := fun _ _ => rfl) (V := V) (hmain := hm) (hA := fun _ _ => rfl)
    (hpf := hpf) (hin := fun c => enter nI blk a V c) (hout := fun c => leave nI blk a V c _)

end Abstract

theorem tabs_eq (c : Dev nD) (k : Fin 7) : hostV m c (pre0.ref k) = tabs m k := by
  obtain rfl : c = 0 := Subsingleton.elim c 0
  rfl

/-- The run: if the tables hold a schedule, every execution ends, and at its end every buffer of the call holds what the
proof data says and every other what the host code left. -/
theorem run_main (hT : Plan (tabs m) nI blk cls) :
    θ_run defs (onTc (τ := τ) (main (F := F))) (s₀ m ρ)
      (fun r => Pipeline.FramePost (Pipeline.pin (pcfgs (F := F)) (fun _ => ⟨tabs m, hT.ok⟩))
        (fun _ c => dats ⟨tabs m, hT.ok⟩ (hostV m) nI blk c) 0 (hostV m) r ∧ r.2.sem = fun _ => 0) :=
  run_from nI blk cls m ρ ⟨tabs m, hT.ok⟩ (hostV m) hT (hmain m) (tabs_eq m)

end Cert.Experts

end
-- ==== Proof.Ssa.lean ====
module

public import proofs.«01_k».proof.Proof.Launched
public import Idealize.ShloMosaic.Lib.StableHlo.RunRead

/-! A straight line of host operations in which no buffer is written twice, read as equations between its final buffers. -/

@[expose] public section

namespace Cert.Experts

open Cert.KernelIdeal Cert.KernelIdeal.Gen
open Idealize.ShloMosaic Idealize.ShloMosaic.StableHlo

section
variable {Val : EltTy → Type} {ops : List (HloOp τ sig Val)} {Ws : List (Ref sig .tc)}
  (hW : ops.map HloOp.writes = Ws.map fun w => {Proc.devRef (τ := τ) .tc w}) (i : ℕ) (V : Valuation τ sig Val)

include hW in
/-- A buffer that nothing from position `i` on writes has its final contents before position `i` already. -/
theorem upto_final (x : Ref sig .tc) (hx : x ∉ Ws.drop i) :
    upto ops V i (Proc.devRef .tc x) = after ops V (Proc.devRef .tc x) := by
  have h := StableHlo.after_append (ops.take i) (ops.drop i) V
  rw [List.take_append_drop] at h
  rw [h]
  exact (after_unwritten (Ws.drop i) (by rw [List.map_drop, hW, List.map_drop]) hx _).symm

include hW in
theorem final_of (op : HloOp τ sig Val) (y : Ref sig .tc) (h : ops[i]? = some op) (hy : y ∉ Ws.drop (i + 1)) :
    after ops V (Proc.devRef .tc y) = op.result (upto ops V i) (Proc.devRef .tc y) := by
  obtain ⟨hi, e⟩ := List.getElem?_eq_some_iff.1 h
  exact after_last_write (Ws.drop (i + 1)) ((List.drop_eq_getElem_cons hi).trans (by rw [e]))
    (by rw [List.map_drop, hW, List.map_drop]) hy V

include hW in
theorem ssa0 (y : Ref sig .tc) (v : y.ty.Contents Val) (hy) (h : ops[i]? = some (nullary y v hy)) (hyW : y ∉ Ws.drop (i + 1)) :
    after ops V (Proc.devRef .tc y) = v :=
  (final_of hW i V _ y h hyW).trans (nullary_result y v hy _)

include hW in
theorem ssa1 (x y : Ref sig .tc) (f : x.ty.Contents Val → y.ty.Contents Val) (hx hy) (h : ops[i]? = some (unary x y f hx hy))
    (hyW : y ∉ Ws.drop (i + 1)) (hxW : x ∉ Ws.drop i) :
    after ops V (Proc.devRef .tc y) = f (after ops V (Proc.devRef .tc x)) :=
  ((final_of hW i V _ y h hyW).trans (unary_result x y f hx hy _)).trans (congrArg f (upto_final hW i V x hxW))

include hW in
theorem ssa2 (a b y : Ref sig .tc) (f : a.ty.Contents Val → b.ty.Contents Val → y.ty.Contents Val) (ha hb hy)
    (h : ops[i]? = some (binary a b y f ha hb hy))
    (hyW : y ∉ Ws.drop (i + 1)) (haW : a ∉ Ws.drop i) (hbW : b ∉ Ws.drop i) :
    after ops V (Proc.devRef .tc y) = f (after ops V (Proc.devRef .tc a)) (after ops V (Proc.devRef .tc b)) :=
  ((final_of hW i V _ y h hyW).trans (binary_result a b y f ha hb hy _)).trans
    (congrArg₂ f (upto_final hW i V a haW) (upto_final hW i V b hbW))

include hW in
theorem ssa3 (c a b y : Ref sig .tc) (f : c.ty.Contents Val → a.ty.Contents Val → b.ty.Contents Val → y.ty.Contents Val) (hc ha hb hy)
    (h : ops[i]? = some (ternary c a b y f hc ha hb hy))
    (hyW : y ∉ Ws.drop (i + 1)) (hcW : c ∉ Ws.drop i) (haW : a ∉ Ws.drop i) (hbW : b ∉ Ws.drop i) :
    after ops V (Proc.devRef .tc y)
      = f (after ops V (Proc.devRef .tc c)) (after ops V (Proc.devRef .tc a)) (after ops V (Proc.devRef .tc b)) :=
  ((final_of hW i V _ y h hyW).trans (ternary_result c a b y f hc ha hb hy _)).trans (by
    rw [upto_final hW i V c hcW, upto_final hW i V a haW, upto_final hW i V b hbW])

include hW in
theorem ssaR (x y : Ref sig .tc) (he hn hx hy) (h : ops[i]? = some (reshape x y he hn hx hy))
    (hyW : y ∉ Ws.drop (i + 1)) (hxW : x ∉ Ws.drop i) :
    after ops V (Proc.devRef .tc y) = fun j => he ▸ shapeCast y.ty.shape (after ops V (Proc.devRef .tc x)) hn j :=
  ((final_of hW i V _ y h hyW).trans (reshape_result x y he hn hx hy _)).trans (by rw [upto_final hW i V x hxW])

end

end Cert.Experts
-- ==== Proof.HostEqs.lean ====
module

public import proofs.«01_k».proof.Proof.Ssa

/-! The buffers that the host code computes before the call, each with the equation of the operation that writes it. -/

@[expose] public section

set_option maxRecDepth 10000

noncomputable section

namespace Cert.Experts

open Cert.KernelIdeal Cert.KernelIdeal.Gen
open Idealize.ShloMosaic

variable {F : FTy → Type} [FloatOps F] [∀ e, Nonempty (Elt F e)] (m : (ℓ : Loc nD τ sig) → Buf (Elt F) ℓ)

/-- What the host operations write, in order. -/
noncomputable def written : List (Ref sig .tc) :=
  [main_c, main_c_0, main_v0, main_v1, main_v2, main_call0_call0_c, main_call0_call0_v0, main_v3, main_v4, main_v5, main_c_1, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v6, main_c_2, main_v7, main_v8, main_c_3, main_v9, main_v10, main_c_4, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v11, main_v12, main_c_5, main_v13, main_v14, main_c_6, main_call3_v0, main_call3_v1, main_v15, main_call4_call0_c, main_call4_call0_v0, main_v16, main_v17, main_v18, main_v19, main_v20, main_v21, main_v22, main_v23, main_v24, main_c_7, main_v25, main_v26, main_v27, main_v28, main_v29, main_v30, main_v31, main_v32, main_v33, main_c_8, main_v34, main_v35, main_v36, main_v37, main_v38, main_v39, main_c_9, main_call5_v0, main_call5_v1, main_call5_v2, main_v40, main_c_10, main_v41, main_v42, main_v43, main_v44, main_v45, main_v46, main_c_11, main_call6_v0, main_call6_v1, main_call6_v2, main_v47, main_c_12, main_v48, main_v49, main_v50, main_c_13, main_v51, main_v52, main_v53, main_v54, main_v55, main_v56, main_v57, main_v58, main_v59, main_v60, main_v61, main_v62, main_c_14, main_v63, main_v64, main_v65, main_c_15, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v66, main_c_16, main_v67, main_v68, main_v69, main_v70, main_v71, main_v72, main_v73, main_c_17, main_call8_v0, main_call8_v1, main_call8_v2, main_v74, main_c_18, main_v75, main_v76, main_c_19, main_v77, main_v78, main_v79, main_v80, main_v81, main_v82, main_v83, main_c_20, main_call9_v0, main_call9_v1, main_call9_v2, main_v84, main_c_21, main_v85, main_v86, main_v87, main_v88, main_v89, main_v90, main_v91]

theorem written_map : ((hostSegs (F := F)).flatten).map HloOp.writes
    = written.map fun w => {Proc.devRef (τ := τ) .tc w} := rfl

def T_arg0 : FVec F S128x1 .f32 := hostV m 0 main_arg0
def T_c : IVec S24 32 := hostV m 0 main_c
def T_c_0 : IVec S24 32 := hostV m 0 main_c_0
def T_v0 : FVec F S24x1 .f32 := hostV m 0 main_v0
def T_v1 : FVec F S24 .f32 := hostV m 0 main_v1
def T_v2 : IVec S24 32 := hostV m 0 main_v2
def T_call0_call0_c : IVec S_ 32 := hostV m 0 main_call0_call0_c
def T_call0_call0_v0 : IVec S_ 32 := hostV m 0 main_call0_call0_v0
def T_v3 : IVec S24 32 := hostV m 0 main_v3
def T_v4 : IVec S24 32 := hostV m 0 main_v4
def T_v5 : IVec S24 32 := hostV m 0 main_v5
def T_c_1 : IVec S_ 32 := hostV m 0 main_c_1
def T_call1_v0 : IVec S_ 32 := hostV m 0 main_call1_v0
def T_call1_v1 : IVec S24 32 := hostV m 0 main_call1_v1
def T_call1_v2 : IVec S24 32 := hostV m 0 main_call1_v2
def T_call1_v3 : IVec S24 32 := hostV m 0 main_call1_v3
def T_call1_v4 : IVec S_ 32 := hostV m 0 main_call1_v4
def T_call1_v5 : IVec S24 32 := hostV m 0 main_call1_v5
def T_call1_v6 : IVec S24 1 := hostV m 0 main_call1_v6
def T_call1_v7 : IVec S24 32 := hostV m 0 main_call1_v7
def T_call1_v8 : IVec S24 32 := hostV m 0 main_call1_v8
def T_call1_c : IVec S_ 32 := hostV m 0 main_call1_c
def T_call1_v9 : IVec S24 32 := hostV m 0 main_call1_v9
def T_call1_v10 : IVec S24 1 := hostV m 0 main_call1_v10
def T_call1_v11 : IVec S24 1 := hostV m 0 main_call1_v11
def T_call1_c_0 : IVec S_ 32 := hostV m 0 main_call1_c_0
def T_call1_v12 : IVec S24 32 := hostV m 0 main_call1_v12
def T_call1_v13 : IVec S24 32 := hostV m 0 main_call1_v13
def T_v6 : IVec S24 32 := hostV m 0 main_v6
def T_c_2 : IVec S_ 32 := hostV m 0 main_c_2
def T_v7 : IVec S24 32 := hostV m 0 main_v7
def T_v8 : IVec S24 1 := hostV m 0 main_v8
def T_c_3 : IVec S_ 32 := hostV m 0 main_c_3
def T_v9 : IVec S24 32 := hostV m 0 main_v9
def T_v10 : IVec S24 32 := hostV m 0 main_v10
def T_c_4 : IVec S_ 32 := hostV m 0 main_c_4
def T_call2_v0 : IVec S_ 32 := hostV m 0 main_call2_v0
def T_call2_v1 : IVec S24 32 := hostV m 0 main_call2_v1
def T_call2_v2 : IVec S24 32 := hostV m 0 main_call2_v2
def T_call2_v3 : IVec S24 32 := hostV m 0 main_call2_v3
def T_call2_v4 : IVec S_ 32 := hostV m 0 main_call2_v4
def T_call2_v5 : IVec S24 32 := hostV m 0 main_call2_v5
def T_call2_v6 : IVec S24 1 := hostV m 0 main_call2_v6
def T_call2_v7 : IVec S24 32 := hostV m 0 main_call2_v7
def T_call2_v8 : IVec S24 32 := hostV m 0 main_call2_v8
def T_call2_c : IVec S_ 32 := hostV m 0 main_call2_c
def T_call2_v9 : IVec S24 32 := hostV m 0 main_call2_v9
def T_call2_v10 : IVec S24 1 := hostV m 0 main_call2_v10
def T_call2_v11 : IVec S24 1 := hostV m 0 main_call2_v11
def T_call2_c_0 : IVec S_ 32 := hostV m 0 main_call2_c_0
def T_call2_v12 : IVec S24 32 := hostV m 0 main_call2_v12
def T_call2_v13 : IVec S24 32 := hostV m 0 main_call2_v13
def T_v11 : IVec S24 32 := hostV m 0 main_v11
def T_v12 : IVec S24 32 := hostV m 0 main_v12
def T_c_5 : IVec S_ 32 := hostV m 0 main_c_5
def T_v13 : IVec S24 32 := hostV m 0 main_v13
def T_v14 : IVec S24 32 := hostV m 0 main_v14
def T_c_6 : IVec S_ 32 := hostV m 0 main_c_6
def T_call3_v0 : IVec S_ 32 := hostV m 0 main_call3_v0
def T_call3_v1 : IVec S24 32 := hostV m 0 main_call3_v1
def T_v15 : IVec S24 32 := hostV m 0 main_v15
def T_call4_call0_c : IVec S_ 32 := hostV m 0 main_call4_call0_c
def T_call4_call0_v0 : IVec S_ 32 := hostV m 0 main_call4_call0_v0
def T_v16 : IVec S24 32 := hostV m 0 main_v16
def T_v17 : IVec S24 32 := hostV m 0 main_v17
def T_v18 : IVec S88 32 := hostV m 0 main_v18
def T_v19 : IVec S1 32 := hostV m 0 main_v19
def T_v20 : IVec S_ 32 := hostV m 0 main_v20
def T_v21 : IVec S88 32 := hostV m 0 main_v21
def T_v22 : IVec S88 1 := hostV m 0 main_v22
def T_v23 : IVec S1 32 := hostV m 0 main_v23
def T_v24 : IVec S_ 32 := hostV m 0 main_v24
def T_c_7 : IVec S_ 32 := hostV m 0 main_c_7
def T_v25 : IVec S_ 32 := hostV m 0 main_v25
def T_v26 : IVec S88 32 := hostV m 0 main_v26
def T_v27 : IVec S88 32 := hostV m 0 main_v27
def T_v28 : IVec S1x24 32 := hostV m 0 main_v28
def T_v29 : IVec S88x1 32 := hostV m 0 main_v29
def T_v30 : IVec S88x24 32 := hostV m 0 main_v30
def T_v31 : IVec S88x24 32 := hostV m 0 main_v31
def T_v32 : IVec S88x24 1 := hostV m 0 main_v32
def T_v33 : IVec S88x24 32 := hostV m 0 main_v33
def T_c_8 : IVec S_ 32 := hostV m 0 main_c_8
def T_v34 : IVec S88 32 := hostV m 0 main_v34
def T_v35 : IVec S88x1 32 := hostV m 0 main_v35
def T_v36 : IVec S1x24 32 := hostV m 0 main_v36
def T_v37 : IVec S88x24 32 := hostV m 0 main_v37
def T_v38 : IVec S88x24 32 := hostV m 0 main_v38
def T_v39 : IVec S88x24 1 := hostV m 0 main_v39
def T_c_9 : IVec S_ 32 := hostV m 0 main_c_9
def T_call5_v0 : IVec S_ 32 := hostV m 0 main_call5_v0
def T_call5_v1 : IVec S88x24 32 := hostV m 0 main_call5_v1
def T_call5_v2 : IVec S88x24 32 := hostV m 0 main_call5_v2
def T_v40 : IVec S88x24 32 := hostV m 0 main_v40
def T_c_10 : IVec S_ 32 := hostV m 0 main_c_10
def T_v41 : IVec S88 32 := hostV m 0 main_v41
def T_v42 : IVec S88x1 32 := hostV m 0 main_v42
def T_v43 : IVec S1x24 32 := hostV m 0 main_v43
def T_v44 : IVec S88x24 32 := hostV m 0 main_v44
def T_v45 : IVec S88x24 32 := hostV m 0 main_v45
def T_v46 : IVec S88x24 1 := hostV m 0 main_v46
def T_c_11 : IVec S_ 32 := hostV m 0 main_c_11
def T_call6_v0 : IVec S_ 32 := hostV m 0 main_call6_v0
def T_call6_v1 : IVec S88x24 32 := hostV m 0 main_call6_v1
def T_call6_v2 : IVec S88x24 32 := hostV m 0 main_call6_v2
def T_v47 : IVec S88x24 32 := hostV m 0 main_v47
def T_c_12 : IVec S_ 32 := hostV m 0 main_c_12
def T_v48 : IVec S88 32 := hostV m 0 main_v48
def T_v49 : IVec S88 32 := hostV m 0 main_v49
def T_v50 : IVec S88 32 := hostV m 0 main_v50
def T_c_13 : IVec S_ 32 := hostV m 0 main_c_13
def T_v51 : IVec S1 32 := hostV m 0 main_v51
def T_v52 : IVec S87 32 := hostV m 0 main_v52
def T_v53 : IVec S87 32 := hostV m 0 main_v53
def T_v54 : IVec S87 1 := hostV m 0 main_v54
def T_v55 : IVec S87 32 := hostV m 0 main_v55
def T_v56 : IVec S88 32 := hostV m 0 main_v56
def T_v57 : IVec S87 32 := hostV m 0 main_v57
def T_v58 : IVec S87 32 := hostV m 0 main_v58
def T_v59 : IVec S87 1 := hostV m 0 main_v59
def T_v60 : IVec S87 1 := hostV m 0 main_v60
def T_v61 : IVec S87 1 := hostV m 0 main_v61
def T_v62 : IVec S87 1 := hostV m 0 main_v62
def T_c_14 : IVec S_ 1 := hostV m 0 main_c_14
def T_v63 : IVec S1 1 := hostV m 0 main_v63
def T_v64 : IVec S88 1 := hostV m 0 main_v64
def T_v65 : IVec S88 32 := hostV m 0 main_v65
def T_c_15 : IVec S_ 32 := hostV m 0 main_c_15
def T_call7_v0 : IVec S_ 32 := hostV m 0 main_call7_v0
def T_call7_v1 : IVec S88 32 := hostV m 0 main_call7_v1
def T_call7_v2 : IVec S88 32 := hostV m 0 main_call7_v2
def T_call7_v3 : IVec S88 32 := hostV m 0 main_call7_v3
def T_call7_v4 : IVec S_ 32 := hostV m 0 main_call7_v4
def T_call7_v5 : IVec S88 32 := hostV m 0 main_call7_v5
def T_call7_v6 : IVec S88 1 := hostV m 0 main_call7_v6
def T_call7_v7 : IVec S88 32 := hostV m 0 main_call7_v7
def T_call7_v8 : IVec S88 32 := hostV m 0 main_call7_v8
def T_call7_c : IVec S_ 32 := hostV m 0 main_call7_c
def T_call7_v9 : IVec S88 32 := hostV m 0 main_call7_v9
def T_call7_v10 : IVec S88 1 := hostV m 0 main_call7_v10
def T_call7_v11 : IVec S88 1 := hostV m 0 main_call7_v11
def T_call7_c_0 : IVec S_ 32 := hostV m 0 main_call7_c_0
def T_call7_v12 : IVec S88 32 := hostV m 0 main_call7_v12
def T_call7_v13 : IVec S88 32 := hostV m 0 main_call7_v13
def T_v66 : IVec S88 32 := hostV m 0 main_v66
def T_c_16 : IVec S_ 32 := hostV m 0 main_c_16
def T_v67 : IVec S88 32 := hostV m 0 main_v67
def T_v68 : IVec S88 32 := hostV m 0 main_v68
def T_v69 : IVec S88x1 32 := hostV m 0 main_v69
def T_v70 : IVec S1x24 32 := hostV m 0 main_v70
def T_v71 : IVec S88x24 32 := hostV m 0 main_v71
def T_v72 : IVec S88x24 32 := hostV m 0 main_v72
def T_v73 : IVec S88x24 1 := hostV m 0 main_v73
def T_c_17 : IVec S_ 32 := hostV m 0 main_c_17
def T_call8_v0 : IVec S_ 32 := hostV m 0 main_call8_v0
def T_call8_v1 : IVec S88x24 32 := hostV m 0 main_call8_v1
def T_call8_v2 : IVec S88x24 32 := hostV m 0 main_call8_v2
def T_v74 : IVec S88x24 32 := hostV m 0 main_v74
def T_c_18 : IVec S_ 32 := hostV m 0 main_c_18
def T_v75 : IVec S88 32 := hostV m 0 main_v75
def T_v76 : IVec S88 32 := hostV m 0 main_v76
def T_c_19 : IVec S_ 32 := hostV m 0 main_c_19
def T_v77 : IVec S88 32 := hostV m 0 main_v77
def T_v78 : IVec S88 32 := hostV m 0 main_v78
def T_v79 : IVec S88x1 32 := hostV m 0 main_v79
def T_v80 : IVec S1x24 32 := hostV m 0 main_v80
def T_v81 : IVec S88x24 32 := hostV m 0 main_v81
def T_v82 : IVec S88x24 32 := hostV m 0 main_v82
def T_v83 : IVec S88x24 1 := hostV m 0 main_v83
def T_c_20 : IVec S_ 32 := hostV m 0 main_c_20
def T_call9_v0 : IVec S_ 32 := hostV m 0 main_call9_v0
def T_call9_v1 : IVec S88x24 32 := hostV m 0 main_call9_v1
def T_call9_v2 : IVec S88x24 32 := hostV m 0 main_call9_v2
def T_v84 : IVec S88x24 32 := hostV m 0 main_v84
def T_c_21 : IVec S_ 32 := hostV m 0 main_c_21
def T_v85 : IVec S88 32 := hostV m 0 main_v85
def T_v86 : IVec S88 32 := hostV m 0 main_v86
def T_v87 : IVec S88 32 := hostV m 0 main_v87
def T_v88 : IVec S88 32 := hostV m 0 main_v88
def T_v89 : IVec S88 32 := hostV m 0 main_v89
def T_v90 : IVec S88 32 := hostV m 0 main_v90
def T_v91 : IVec S88 32 := hostV m 0 main_v91

/-- The running sum of a vector of 24. -/
def runSum (x : IVec S24 32) (v : IVec S_ 32) : IVec S24 32 :=
  Host.reduceWindow IntOp.addi ![24] ![1] ![23] ![0] x v reduceWindows_S24_S24_w24s1p23_0 h_S_

theorem T_c_eq : T_c m
    = (fun i => lit0 (S24.rowMajor i)) :=
  ssa0 (written_map (F := F)) 0 _ main_c _ _ rfl (by decide)
theorem T_c_0_eq : T_c_0 m
    = (fun i => lit1 (S24.rowMajor i)) :=
  ssa0 (written_map (F := F)) 1 _ main_c_0 _ _ rfl (by decide)
theorem T_v0_eq : T_v0 m
    = ((extractStridedSlice S24x1 ![0, 0] · slices_S128x1_S24x1_0_0)) (T_arg0 m) :=
  ssa1 (written_map (F := F)) 2 _ main_arg0 main_v0 _ _ _ rfl (by decide) (by decide)
theorem T_v1_eq : T_v1 m
    = shapeCast S24 (T_v0 m) shapeCasts_S24x1_S24 :=
  ssaR (written_map (F := F)) 3 _ main_v0 main_v1 _ _ _ _ rfl (by decide) (by decide)
theorem T_v2_eq : T_v2 m
    = (fptosi 32) (T_v1 m) :=
  ssa1 (written_map (F := F)) 4 _ main_v1 main_v2 _ _ _ rfl (by decide) (by decide)
theorem T_call0_call0_c_eq : T_call0_call0_c m
    = (constantI S_ 32 0#32) :=
  ssa0 (written_map (F := F)) 5 _ main_call0_call0_c _ _ rfl (by decide)
theorem T_call0_call0_v0_eq : T_call0_call0_v0 m
    = (broadcastInDim S_ ![] bcast_S_S_) (T_call0_call0_c m) :=
  ssa1 (written_map (F := F)) 6 _ main_call0_call0_c main_call0_call0_v0 _ _ _ rfl (by decide) (by decide)
theorem plain_7 (g : IVec S24 32 → IVec S_ 32 → IVec S24 32) :
    StableHlo.TRef.binary (τ := τ) (Val := Elt F) (.of main_v2 : StableHlo.TRef sig ⟨S24, .i32⟩) (.of main_call0_call0_v0 : StableHlo.TRef sig ⟨S_, .i32⟩)
        (.of main_v3 : StableHlo.TRef sig ⟨S24, .i32⟩) g
      = StableHlo.binary main_v2 main_call0_call0_v0 main_v3 g := rfl
theorem op_7 : (hostSegs (F := F)).flatten[7]? = some (StableHlo.TRef.binary (.of main_v2 : StableHlo.TRef sig ⟨S24, .i32⟩)
        (.of main_call0_call0_v0 : StableHlo.TRef sig ⟨S_, .i32⟩) (.of main_v3 : StableHlo.TRef sig ⟨S24, .i32⟩)
        (fun x v => Host.reduceWindow IntOp.addi ![24] ![1] ![23] ![0] x v reduceWindows_S24_S24_w24s1p23_0 h_S_)) := rfl
theorem op_7_plain : (hostSegs (F := F)).flatten[7]? = some (StableHlo.binary main_v2 main_call0_call0_v0 main_v3 runSum) :=
  op_7.trans (congrArg some (plain_7 _))
theorem T_v3_eq : T_v3 m
    = runSum (T_v2 m) (T_call0_call0_v0 m) :=
  ssa2 (written_map (F := F)) 7 _ main_v2 main_call0_call0_v0 main_v3 runSum _ _ _ op_7_plain (by decide) (by decide) (by decide)
theorem T_v4_eq : T_v4 m
    = (subi) (T_v3 m) (T_v2 m) :=
  ssa2 (written_map (F := F)) 8 _ main_v3 main_v2 main_v4 _ _ _ _ rfl (by decide) (by decide) (by decide)
theorem T_v5_eq : T_v5 m
    = (iotaInDim S24 32 0) :=
  ssa0 (written_map (F := F)) 9 _ main_v5 _ _ rfl (by decide)
theorem T_c_1_eq : T_c_1 m
    = (constantI S_ 32 256#32) :=
  ssa0 (written_map (F := F)) 10 _ main_c_1 _ _ rfl (by decide)
theorem T_call1_v0_eq : T_call1_v0 m
    = id (T_c_1 m) :=
  ssa1 (written_map (F := F)) 11 _ main_c_1 main_call1_v0 _ _ _ rfl (by decide) (by decide)
theorem T_call1_v1_eq : T_call1_v1 m
    = (broadcastInDim S24 ![] bcast_S_S24) (T_call1_v0 m) :=
  ssa1 (written_map (F := F)) 12 _ main_call1_v0 main_call1_v1 _ _ _ rfl (by decide) (by decide)
theorem T_call1_v2_eq : T_call1_v2 m
    = Host.divsi (T_v4 m) (T_call1_v1 m) :=
  ssa2 (written_map (F := F)) 13 _ main_v4 main_call1_v1 main_call1_v2 _ _ _ _ rfl (by decide) (by decide) (by decide)
theorem T_call1_v3_eq : T_call1_v3 m
    = signi (T_v4 m) :=
  ssa1 (written_map (F := F)) 14 _ main_v4 main_call1_v3 _ _ _ rfl (by decide) (by decide)
theorem T_call1_v4_eq : T_call1_v4 m
    = signi (T_call1_v0 m) :=
  ssa1 (written_map (F := F)) 15 _ main_call1_v0 main_call1_v4 _ _ _ rfl (by decide) (by decide)
theorem T_call1_v5_eq : T_call1_v5 m
    = (broadcastInDim S24 ![] bcast_S_S24) (T_call1_v4 m) :=
  ssa1 (written_map (F := F)) 16 _ main_call1_v4 main_call1_v5 _ _ _ rfl (by decide) (by decide)
theorem T_call1_v6_eq : T_call1_v6 m
    = (cmpi .ne) (T_call1_v3 m) (T_call1_v5 m) :=
  ssa2 (written_map (F := F)) 17 _ main_call1_v3 main_call1_v5 main_call1_v6 _ _ _ _ rfl (by decide) (by decide) (by decide)
theorem T_call1_v7_eq : T_call1_v7 m
    = (broadcastInDim S24 ![] bcast_S_S24) (T_call1_v0 m) :=
  ssa1 (written_map (F := F)) 18 _ main_call1_v0 main_call1_v7 _ _ _ rfl (by decide) (by decide)
theorem T_call1_v8_eq : T_call1_v8 m
    = Host.remsi (T_v4 m) (T_call1_v7 m) :=
  ssa2 (written_map (F := F)) 19 _ main_v4 main_call1_v7 main_call1_v8 _ _ _ _ rfl (by decide) (by decide) (by decide)
theorem T_call1_c_eq : T_call1_c m
    = (constantI S_ 32 0#32) :=
  ssa0 (written_map (F := F)) 20 _ main_call1_c _ _ rfl (by decide)
theorem T_call1_v9_eq : T_call1_v9 m
    = (broadcastInDim S24 ![] bcast_S_S24) (T_call1_c m) :=
  ssa1 (written_map (F := F)) 21 _ main_call1_c main_call1_v9 _ _ _ rfl (by decide) (by decide)
theorem T_call1_v10_eq : T_call1_v10 m
    = (cmpi .ne) (T_call1_v8 m) (T_call1_v9 m) :=
  ssa2 (written_map (F := F)) 22 _ main_call1_v8 main_call1_v9 main_call1_v10 _ _ _ _ rfl (by decide) (by decide) (by decide)
theorem T_call1_v11_eq : T_call1_v11 m
    = andi (T_call1_v6 m) (T_call1_v10 m) :=
  ssa2 (written_map (F := F)) 23 _ main_call1_v6 main_call1_v10 main_call1_v11 _ _ _ _ rfl (by decide) (by decide) (by decide)
theorem T_call1_c_0_eq : T_call1_c_0 m
    = (constantI S_ 32 1#32) :=
  ssa0 (written_map (F := F)) 24 _ main_call1_c_0 _ _ rfl (by decide)
theorem T_call1_v12_eq : T_call1_v12 m
    = (broadcastInDim S24 ![] bcast_S_S24) (T_call1_c_0 m) :=
  ssa1 (written_map (F := F)) 25 _ main_call1_c_0 main_call1_v12 _ _ _ rfl (by decide) (by decide)
theorem T_call1_v13_eq : T_call1_v13 m
    = subi (T_call1_v2 m) (T_call1_v12 m) :=
  ssa2 (written_map (F := F)) 26 _ main_call1_v2 main_call1_v12 main_call1_v13 _ _ _ _ rfl (by decide) (by decide) (by decide)
theorem T_v6_eq : T_v6 m
    = select (T_call1_v11 m) (T_call1_v13 m) (T_call1_v2 m) :=
  ssa3 (written_map (F := F)) 27 _ main_call1_v11 main_call1_v13 main_call1_v2 main_v6 _ _ _ _ _ rfl (by decide) (by decide) (by decide) (by decide)
theorem T_c_2_eq : T_c_2 m
    = (constantI S_ 32 0#32) :=
  ssa0 (written_map (F := F)) 28 _ main_c_2 _ _ rfl (by decide)
theorem T_v7_eq : T_v7 m
    = (broadcastInDim S24 ![] bcast_S_S24) (T_c_2 m) :=
  ssa1 (written_map (F := F)) 29 _ main_c_2 main_v7 _ _ _ rfl (by decide) (by decide)
theorem T_v8_eq : T_v8 m
    = (cmpi .sgt) (T_v2 m) (T_v7 m) :=
  ssa2 (written_map (F := F)) 30 _ main_v2 main_v7 main_v8 _ _ _ _ rfl (by decide) (by decide) (by decide)
theorem T_c_3_eq : T_c_3 m
    = (constantI S_ 32 1#32) :=
  ssa0 (written_map (F := F)) 31 _ main_c_3 _ _ rfl (by decide)
theorem T_v9_eq : T_v9 m
    = (broadcastInDim S24 ![] bcast_S_S24) (T_c_3 m) :=
  ssa1 (written_map (F := F)) 32 _ main_c_3 main_v9 _ _ _ rfl (by decide) (by decide)
theorem T_v10_eq : T_v10 m
    = (subi) (T_v3 m) (T_v9 m) :=
  ssa2 (written_map (F := F)) 33 _ main_v3 main_v9 main_v10 _ _ _ _ rfl (by decide) (by decide) (by decide)
theorem T_c_4_eq : T_c_4 m
    = (constantI S_ 32 256#32) :=
  ssa0 (written_map (F := F)) 34 _ main_c_4 _ _ rfl (by decide)
theorem T_call2_v0_eq : T_call2_v0 m
    = id (T_c_4 m) :=
  ssa1 (written_map (F := F)) 35 _ main_c_4 main_call2_v0 _ _ _ rfl (by decide) (by decide)
theorem T_call2_v1_eq : T_call2_v1 m
    = (broadcastInDim S24 ![] bcast_S_S24) (T_call2_v0 m) :=
  ssa1 (written_map (F := F)) 36 _ main_call2_v0 main_call2_v1 _ _ _ rfl (by decide) (by decide)
theorem T_call2_v2_eq : T_call2_v2 m
    = Host.divsi (T_v10 m) (T_call2_v1 m) :=
  ssa2 (written_map (F := F)) 37 _ main_v10 main_call2_v1 main_call2_v2 _ _ _ _ rfl (by decide) (by decide) (by decide)
theorem T_call2_v3_eq : T_call2_v3 m
    = signi (T_v10 m) :=
  ssa1 (written_map (F := F)) 38 _ main_v10 main_call2_v3 _ _ _ rfl (by decide) (by decide)
theorem T_call2_v4_eq : T_call2_v4 m
    = signi (T_call2_v0 m) :=
  ssa1 (written_map (F := F)) 39 _ main_call2_v0 main_call2_v4 _ _ _ rfl (by decide) (by decide)
theorem T_call2_v5_eq : T_call2_v5 m
    = (broadcastInDim S24 ![] bcast_S_S24) (T_call2_v4 m) :=
  ssa1 (written_map (F := F)) 40 _ main_call2_v4 main_call2_v5 _ _ _ rfl (by decide) (by decide)
theorem T_call2_v6_eq : T_call2_v6 m
    = (cmpi .ne) (T_call2_v3 m) (T_call2_v5 m) :=
  ssa2 (written_map (F := F)) 41 _ main_call2_v3 main_call2_v5 main_call2_v6 _ _ _ _ rfl (by decide) (by decide) (by decide)
theorem T_call2_v7_eq : T_call2_v7 m
    = (broadcastInDim S24 ![] bcast_S_S24) (T_call2_v0 m) :=
  ssa1 (written_map (F := F)) 42 _ main_call2_v0 main_call2_v7 _ _ _ rfl (by decide) (by decide)
theorem T_call2_v8_eq : T_call2_v8 m
    = Host.remsi (T_v10 m) (T_call2_v7 m) :=
  ssa2 (written_map (F := F)) 43 _ main_v10 main_call2_v7 main_call2_v8 _ _ _ _ rfl (by decide) (by decide) (by decide)
theorem T_call2_c_eq : T_call2_c m
    = (constantI S_ 32 0#32) :=
  ssa0 (written_map (F := F)) 44 _ main_call2_c _ _ rfl (by decide)
theorem T_call2_v9_eq : T_call2_v9 m
    = (broadcastInDim S24 ![] bcast_S_S24) (T_call2_c m) :=
  ssa1 (written_map (F := F)) 45 _ main_call2_c main_call2_v9 _ _ _ rfl (by decide) (by decide)
theorem T_call2_v10_eq : T_call2_v10 m
    = (cmpi .ne) (T_call2_v8 m) (T_call2_v9 m) :=
  ssa2 (written_map (F := F)) 46 _ main_call2_v8 main_call2_v9 main_call2_v10 _ _ _ _ rfl (by decide) (by decide) (by decide)
theorem T_call2_v11_eq : T_call2_v11 m
    = andi (T_call2_v6 m) (T_call2_v10 m) :=
  ssa2 (written_map (F := F)) 47 _ main_call2_v6 main_call2_v10 main_call2_v11 _ _ _ _ rfl (by decide) (by decide) (by decide)
theorem T_call2_c_0_eq : T_call2_c_0 m
    = (constantI S_ 32 1#32) :=
  ssa0 (written_map (F := F)) 48 _ main_call2_c_0 _ _ rfl (by decide)
theorem T_call2_v12_eq : T_call2_v12 m
    = (broadcastInDim S24 ![] bcast_S_S24) (T_call2_c_0 m) :=
  ssa1 (written_map (F := F)) 49 _ main_call2_c_0 main_call2_v12 _ _ _ rfl (by decide) (by decide)
theorem T_call2_v13_eq : T_call2_v13 m
    = subi (T_call2_v2 m) (T_call2_v12 m) :=
  ssa2 (written_map (F := F)) 50 _ main_call2_v2 main_call2_v12 main_call2_v13 _ _ _ _ rfl (by decide) (by decide) (by decide)
theorem T_v11_eq : T_v11 m
    = select (T_call2_v11 m) (T_call2_v13 m) (T_call2_v2 m) :=
  ssa3 (written_map (F := F)) 51 _ main_call2_v11 main_call2_v13 main_call2_v2 main_v11 _ _ _ _ _ rfl (by decide) (by decide) (by decide) (by decide)
theorem T_v12_eq : T_v12 m
    = (subi) (T_v11 m) (T_v6 m) :=
  ssa2 (written_map (F := F)) 52 _ main_v11 main_v6 main_v12 _ _ _ _ rfl (by decide) (by decide) (by decide)
theorem T_c_5_eq : T_c_5 m
    = (constantI S_ 32 1#32) :=
  ssa0 (written_map (F := F)) 53 _ main_c_5 _ _ rfl (by decide)
theorem T_v13_eq : T_v13 m
    = (broadcastInDim S24 ![] bcast_S_S24) (T_c_5 m) :=
  ssa1 (written_map (F := F)) 54 _ main_c_5 main_v13 _ _ _ rfl (by decide) (by decide)
theorem T_v14_eq : T_v14 m
    = (addi) (T_v12 m) (T_v13 m) :=
  ssa2 (written_map (F := F)) 55 _ main_v12 main_v13 main_v14 _ _ _ _ rfl (by decide) (by decide) (by decide)
theorem T_c_6_eq : T_c_6 m
    = (constantI S_ 32 0#32) :=
  ssa0 (written_map (F := F)) 56 _ main_c_6 _ _ rfl (by decide)
theorem T_call3_v0_eq : T_call3_v0 m
    = id (T_c_6 m) :=
  ssa1 (written_map (F := F)) 57 _ main_c_6 main_call3_v0 _ _ _ rfl (by decide) (by decide)
theorem T_call3_v1_eq : T_call3_v1 m
    = (broadcastInDim S24 ![] bcast_S_S24) (T_call3_v0 m) :=
  ssa1 (written_map (F := F)) 58 _ main_call3_v0 main_call3_v1 _ _ _ rfl (by decide) (by decide)
theorem T_v15_eq : T_v15 m
    = select (T_v8 m) (T_v14 m) (T_call3_v1 m) :=
  ssa3 (written_map (F := F)) 59 _ main_v8 main_v14 main_call3_v1 main_v15 _ _ _ _ _ rfl (by decide) (by decide) (by decide) (by decide)
theorem T_call4_call0_c_eq : T_call4_call0_c m
    = (constantI S_ 32 0#32) :=
  ssa0 (written_map (F := F)) 60 _ main_call4_call0_c _ _ rfl (by decide)
theorem T_call4_call0_v0_eq : T_call4_call0_v0 m
    = (broadcastInDim S_ ![] bcast_S_S_) (T_call4_call0_c m) :=
  ssa1 (written_map (F := F)) 61 _ main_call4_call0_c main_call4_call0_v0 _ _ _ rfl (by decide) (by decide)
theorem plain_62 (g : IVec S24 32 → IVec S_ 32 → IVec S24 32) :
    StableHlo.TRef.binary (τ := τ) (Val := Elt F) (.of main_v15 : StableHlo.TRef sig ⟨S24, .i32⟩) (.of main_call4_call0_v0 : StableHlo.TRef sig ⟨S_, .i32⟩)
        (.of main_v16 : StableHlo.TRef sig ⟨S24, .i32⟩) g
      = StableHlo.binary main_v15 main_call4_call0_v0 main_v16 g := rfl
theorem op_62 : (hostSegs (F := F)).flatten[62]? = some (StableHlo.TRef.binary (.of main_v15 : StableHlo.TRef sig ⟨S24, .i32⟩)
        (.of main_call4_call0_v0 : StableHlo.TRef sig ⟨S_, .i32⟩) (.of main_v16 : StableHlo.TRef sig ⟨S24, .i32⟩)
        (fun x v => Host.reduceWindow IntOp.addi ![24] ![1] ![23] ![0] x v reduceWindows_S24_S24_w24s1p23_0 h_S_)) := rfl
theorem op_62_plain : (hostSegs (F := F)).flatten[62]? = some (StableHlo.binary main_v15 main_call4_call0_v0 main_v16 runSum) :=
  op_62.trans (congrArg some (plain_62 _))
theorem T_v16_eq : T_v16 m
    = runSum (T_v15 m) (T_call4_call0_v0 m) :=
  ssa2 (written_map (F := F)) 62 _ main_v15 main_call4_call0_v0 main_v16 runSum _ _ _ op_62_plain (by decide) (by decide) (by decide)
theorem T_v17_eq : T_v17 m
    = (subi) (T_v16 m) (T_v15 m) :=
  ssa2 (written_map (F := F)) 63 _ main_v16 main_v15 main_v17 _ _ _ _ rfl (by decide) (by decide) (by decide)
theorem T_v18_eq : T_v18 m
    = (iotaInDim S88 32 0) :=
  ssa0 (written_map (F := F)) 64 _ main_v18 _ _ rfl (by decide)
theorem T_v19_eq : T_v19 m
    = ((extractStridedSlice S1 ![23] · slices_S24_S1_23)) (T_v16 m) :=
  ssa1 (written_map (F := F)) 65 _ main_v16 main_v19 _ _ _ rfl (by decide) (by decide)
theorem T_v20_eq : T_v20 m
    = shapeCast S_ (T_v19 m) shapeCasts_S1_S_ :=
  ssaR (written_map (F := F)) 66 _ main_v19 main_v20 _ _ _ _ rfl (by decide) (by decide)
theorem T_v21_eq : T_v21 m
    = (broadcastInDim S88 ![] bcast_S_S88) (T_v20 m) :=
  ssa1 (written_map (F := F)) 67 _ main_v20 main_v21 _ _ _ rfl (by decide) (by decide)
theorem T_v22_eq : T_v22 m
    = (cmpi .slt) (T_v18 m) (T_v21 m) :=
  ssa2 (written_map (F := F)) 68 _ main_v18 main_v21 main_v22 _ _ _ _ rfl (by decide) (by decide) (by decide)
theorem T_v23_eq : T_v23 m
    = ((extractStridedSlice S1 ![23] · slices_S24_S1_23)) (T_v16 m) :=
  ssa1 (written_map (F := F)) 69 _ main_v16 main_v23 _ _ _ rfl (by decide) (by decide)
theorem T_v24_eq : T_v24 m
    = shapeCast S_ (T_v23 m) shapeCasts_S1_S_ :=
  ssaR (written_map (F := F)) 70 _ main_v23 main_v24 _ _ _ _ rfl (by decide) (by decide)
theorem T_c_7_eq : T_c_7 m
    = (constantI S_ 32 1#32) :=
  ssa0 (written_map (F := F)) 71 _ main_c_7 _ _ rfl (by decide)
theorem T_v25_eq : T_v25 m
    = (subi) (T_v24 m) (T_c_7 m) :=
  ssa2 (written_map (F := F)) 72 _ main_v24 main_c_7 main_v25 _ _ _ _ rfl (by decide) (by decide) (by decide)
theorem T_v26_eq : T_v26 m
    = (broadcastInDim S88 ![] bcast_S_S88) (T_v25 m) :=
  ssa1 (written_map (F := F)) 73 _ main_v25 main_v26 _ _ _ rfl (by decide) (by decide)
theorem T_v27_eq : T_v27 m
    = (minsi) (T_v18 m) (T_v26 m) :=
  ssa2 (written_map (F := F)) 74 _ main_v18 main_v26 main_v27 _ _ _ _ rfl (by decide) (by decide) (by decide)
theorem T_v28_eq : T_v28 m
    = (broadcastInDim S1x24 ![1] bcast_S24_S1x24_1) (T_v16 m) :=
  ssa1 (written_map (F := F)) 75 _ main_v16 main_v28 _ _ _ rfl (by decide) (by decide)
theorem T_v29_eq : T_v29 m
    = (broadcastInDim S88x1 ![0] bcast_S88_S88x1_0) (T_v27 m) :=
  ssa1 (written_map (F := F)) 76 _ main_v27 main_v29 _ _ _ rfl (by decide) (by decide)
theorem T_v30_eq : T_v30 m
    = (broadcastInDim S88x24 ![0, 1] bcast_S1x24_S88x24_0_1) (T_v28 m) :=
  ssa1 (written_map (F := F)) 77 _ main_v28 main_v30 _ _ _ rfl (by decide) (by decide)
theorem T_v31_eq : T_v31 m
    = (broadcastInDim S88x24 ![0, 1] bcast_S88x1_S88x24_0_1) (T_v29 m) :=
  ssa1 (written_map (F := F)) 78 _ main_v29 main_v31 _ _ _ rfl (by decide) (by decide)
theorem T_v32_eq : T_v32 m
    = (cmpi .sle) (T_v30 m) (T_v31 m) :=
  ssa2 (written_map (F := F)) 79 _ main_v30 main_v31 main_v32 _ _ _ _ rfl (by decide) (by decide) (by decide)
theorem T_v33_eq : T_v33 m
    = ((extui 32 · natLt_1_32)) (T_v32 m) :=
  ssa1 (written_map (F := F)) 80 _ main_v32 main_v33 _ _ _ rfl (by decide) (by decide)
theorem T_c_8_eq : T_c_8 m
    = (constantI S_ 32 0#32) :=
  ssa0 (written_map (F := F)) 81 _ main_c_8 _ _ rfl (by decide)
theorem T_v34_eq : T_v34 m
    = ((fun x v => Host.reduce IntOp.addi x v reducesTo_S88x24_S88_d1 h_S_)) (T_v33 m) (T_c_8 m) :=
  ssa2 (written_map (F := F)) 82 _ main_v33 main_c_8 main_v34 _ _ _ _ rfl (by decide) (by decide) (by decide)
theorem T_v35_eq : T_v35 m
    = (broadcastInDim S88x1 ![0] bcast_S88_S88x1_0) (T_v34 m) :=
  ssa1 (written_map (F := F)) 83 _ main_v34 main_v35 _ _ _ rfl (by decide) (by decide)
theorem T_v36_eq : T_v36 m
    = (broadcastInDim S1x24 ![1] bcast_S24_S1x24_1) (T_v5 m) :=
  ssa1 (written_map (F := F)) 84 _ main_v5 main_v36 _ _ _ rfl (by decide) (by decide)
theorem T_v37_eq : T_v37 m
    = (broadcastInDim S88x24 ![0, 1] bcast_S88x1_S88x24_0_1) (T_v35 m) :=
  ssa1 (written_map (F := F)) 85 _ main_v35 main_v37 _ _ _ rfl (by decide) (by decide)
theorem T_v38_eq : T_v38 m
    = (broadcastInDim S88x24 ![0, 1] bcast_S1x24_S88x24_0_1) (T_v36 m) :=
  ssa1 (written_map (F := F)) 86 _ main_v36 main_v38 _ _ _ rfl (by decide) (by decide)
theorem T_v39_eq : T_v39 m
    = (cmpi .eq) (T_v37 m) (T_v38 m) :=
  ssa2 (written_map (F := F)) 87 _ main_v37 main_v38 main_v39 _ _ _ _ rfl (by decide) (by decide) (by decide)
theorem T_c_9_eq : T_c_9 m
    = (constantI S_ 32 0#32) :=
  ssa0 (written_map (F := F)) 88 _ main_c_9 _ _ rfl (by decide)
theorem T_call5_v0_eq : T_call5_v0 m
    = id (T_c_9 m) :=
  ssa1 (written_map (F := F)) 89 _ main_c_9 main_call5_v0 _ _ _ rfl (by decide) (by decide)
theorem T_call5_v1_eq : T_call5_v1 m
    = (broadcastInDim S88x24 ![1] bcast_S24_S88x24_1) (T_v6 m) :=
  ssa1 (written_map (F := F)) 90 _ main_v6 main_call5_v1 _ _ _ rfl (by decide) (by decide)
theorem T_call5_v2_eq : T_call5_v2 m
    = (broadcastInDim S88x24 ![] bcast_S_S88x24) (T_call5_v0 m) :=
  ssa1 (written_map (F := F)) 91 _ main_call5_v0 main_call5_v2 _ _ _ rfl (by decide) (by decide)
theorem T_v40_eq : T_v40 m
    = select (T_v39 m) (T_call5_v1 m) (T_call5_v2 m) :=
  ssa3 (written_map (F := F)) 92 _ main_v39 main_call5_v1 main_call5_v2 main_v40 _ _ _ _ _ rfl (by decide) (by decide) (by decide) (by decide)
theorem T_c_10_eq : T_c_10 m
    = (constantI S_ 32 0#32) :=
  ssa0 (written_map (F := F)) 93 _ main_c_10 _ _ rfl (by decide)
theorem T_v41_eq : T_v41 m
    = ((fun x v => Host.reduce IntOp.addi x v reducesTo_S88x24_S88_d1 h_S_)) (T_v40 m) (T_c_10 m) :=
  ssa2 (written_map (F := F)) 94 _ main_v40 main_c_10 main_v41 _ _ _ _ rfl (by decide) (by decide) (by decide)
theorem T_v42_eq : T_v42 m
    = (broadcastInDim S88x1 ![0] bcast_S88_S88x1_0) (T_v34 m) :=
  ssa1 (written_map (F := F)) 95 _ main_v34 main_v42 _ _ _ rfl (by decide) (by decide)
theorem T_v43_eq : T_v43 m
    = (broadcastInDim S1x24 ![1] bcast_S24_S1x24_1) (T_v5 m) :=
  ssa1 (written_map (F := F)) 96 _ main_v5 main_v43 _ _ _ rfl (by decide) (by decide)
theorem T_v44_eq : T_v44 m
    = (broadcastInDim S88x24 ![0, 1] bcast_S88x1_S88x24_0_1) (T_v42 m) :=
  ssa1 (written_map (F := F)) 97 _ main_v42 main_v44 _ _ _ rfl (by decide) (by decide)
theorem T_v45_eq : T_v45 m
    = (broadcastInDim S88x24 ![0, 1] bcast_S1x24_S88x24_0_1) (T_v43 m) :=
  ssa1 (written_map (F := F)) 98 _ main_v43 main_v45 _ _ _ rfl (by decide) (by decide)
theorem T_v46_eq : T_v46 m
    = (cmpi .eq) (T_v44 m) (T_v45 m) :=
  ssa2 (written_map (F := F)) 99 _ main_v44 main_v45 main_v46 _ _ _ _ rfl (by decide) (by decide) (by decide)
theorem T_c_11_eq : T_c_11 m
    = (constantI S_ 32 0#32) :=
  ssa0 (written_map (F := F)) 100 _ main_c_11 _ _ rfl (by decide)
theorem T_call6_v0_eq : T_call6_v0 m
    = id (T_c_11 m) :=
  ssa1 (written_map (F := F)) 101 _ main_c_11 main_call6_v0 _ _ _ rfl (by decide) (by decide)
theorem T_call6_v1_eq : T_call6_v1 m
    = (broadcastInDim S88x24 ![1] bcast_S24_S88x24_1) (T_v17 m) :=
  ssa1 (written_map (F := F)) 102 _ main_v17 main_call6_v1 _ _ _ rfl (by decide) (by decide)
theorem T_call6_v2_eq : T_call6_v2 m
    = (broadcastInDim S88x24 ![] bcast_S_S88x24) (T_call6_v0 m) :=
  ssa1 (written_map (F := F)) 103 _ main_call6_v0 main_call6_v2 _ _ _ rfl (by decide) (by decide)
theorem T_v47_eq : T_v47 m
    = select (T_v46 m) (T_call6_v1 m) (T_call6_v2 m) :=
  ssa3 (written_map (F := F)) 104 _ main_v46 main_call6_v1 main_call6_v2 main_v47 _ _ _ _ _ rfl (by decide) (by decide) (by decide) (by decide)
theorem T_c_12_eq : T_c_12 m
    = (constantI S_ 32 0#32) :=
  ssa0 (written_map (F := F)) 105 _ main_c_12 _ _ rfl (by decide)
theorem T_v48_eq : T_v48 m
    = ((fun x v => Host.reduce IntOp.addi x v reducesTo_S88x24_S88_d1 h_S_)) (T_v47 m) (T_c_12 m) :=
  ssa2 (written_map (F := F)) 106 _ main_v47 main_c_12 main_v48 _ _ _ _ rfl (by decide) (by decide) (by decide)
theorem T_v49_eq : T_v49 m
    = (subi) (T_v27 m) (T_v48 m) :=
  ssa2 (written_map (F := F)) 107 _ main_v27 main_v48 main_v49 _ _ _ _ rfl (by decide) (by decide) (by decide)
theorem T_v50_eq : T_v50 m
    = (addi) (T_v41 m) (T_v49 m) :=
  ssa2 (written_map (F := F)) 108 _ main_v41 main_v49 main_v50 _ _ _ _ rfl (by decide) (by decide) (by decide)
theorem T_c_13_eq : T_c_13 m
    = (constantI S_ 32 1#32) :=
  ssa0 (written_map (F := F)) 109 _ main_c_13 _ _ rfl (by decide)
theorem T_v51_eq : T_v51 m
    = (broadcastInDim S1 ![] bcast_S_S1) (T_c_13 m) :=
  ssa1 (written_map (F := F)) 110 _ main_c_13 main_v51 _ _ _ rfl (by decide) (by decide)
theorem T_v52_eq : T_v52 m
    = ((extractStridedSlice S87 ![1] · slices_S88_S87_1)) (T_v50 m) :=
  ssa1 (written_map (F := F)) 111 _ main_v50 main_v52 _ _ _ rfl (by decide) (by decide)
theorem T_v53_eq : T_v53 m
    = ((extractStridedSlice S87 ![0] · slices_S88_S87_0)) (T_v50 m) :=
  ssa1 (written_map (F := F)) 112 _ main_v50 main_v53 _ _ _ rfl (by decide) (by decide)
theorem T_v54_eq : T_v54 m
    = (cmpi .ne) (T_v52 m) (T_v53 m) :=
  ssa2 (written_map (F := F)) 113 _ main_v52 main_v53 main_v54 _ _ _ _ rfl (by decide) (by decide) (by decide)
theorem T_v55_eq : T_v55 m
    = ((extui 32 · natLt_1_32)) (T_v54 m) :=
  ssa1 (written_map (F := F)) 114 _ main_v54 main_v55 _ _ _ rfl (by decide) (by decide)
theorem T_v56_eq : T_v56 m
    = ((fun a b => concatenate S88 0 [⟨S1, a⟩, ⟨S87, b⟩] concatenates_S1_S87_S88_d0)) (T_v51 m) (T_v55 m) :=
  ssa2 (written_map (F := F)) 115 _ main_v51 main_v55 main_v56 _ _ _ _ rfl (by decide) (by decide) (by decide)
theorem T_v57_eq : T_v57 m
    = ((extractStridedSlice S87 ![1] · slices_S88_S87_1)) (T_v50 m) :=
  ssa1 (written_map (F := F)) 116 _ main_v50 main_v57 _ _ _ rfl (by decide) (by decide)
theorem T_v58_eq : T_v58 m
    = ((extractStridedSlice S87 ![0] · slices_S88_S87_0)) (T_v50 m) :=
  ssa1 (written_map (F := F)) 117 _ main_v50 main_v58 _ _ _ rfl (by decide) (by decide)
theorem T_v59_eq : T_v59 m
    = (cmpi .ne) (T_v57 m) (T_v58 m) :=
  ssa2 (written_map (F := F)) 118 _ main_v57 main_v58 main_v59 _ _ _ _ rfl (by decide) (by decide) (by decide)
theorem T_v60_eq : T_v60 m
    = ((extractStridedSlice S87 ![1] · slices_S88_S87_1)) (T_v22 m) :=
  ssa1 (written_map (F := F)) 119 _ main_v22 main_v60 _ _ _ rfl (by decide) (by decide)
theorem T_v61_eq : T_v61 m
    = (noti) (T_v60 m) :=
  ssa1 (written_map (F := F)) 120 _ main_v60 main_v61 _ _ _ rfl (by decide) (by decide)
theorem T_v62_eq : T_v62 m
    = (ori) (T_v59 m) (T_v61 m) :=
  ssa2 (written_map (F := F)) 121 _ main_v59 main_v61 main_v62 _ _ _ _ rfl (by decide) (by decide) (by decide)
theorem T_c_14_eq : T_c_14 m
    = (constantI S_ 1 1#1) :=
  ssa0 (written_map (F := F)) 122 _ main_c_14 _ _ rfl (by decide)
theorem T_v63_eq : T_v63 m
    = (broadcastInDim S1 ![] bcast_S_S1) (T_c_14 m) :=
  ssa1 (written_map (F := F)) 123 _ main_c_14 main_v63 _ _ _ rfl (by decide) (by decide)
theorem T_v64_eq : T_v64 m
    = ((fun a b => concatenate S88 0 [⟨S87, a⟩, ⟨S1, b⟩] concatenates_S87_S1_S88_d0)) (T_v62 m) (T_v63 m) :=
  ssa2 (written_map (F := F)) 124 _ main_v62 main_v63 main_v64 _ _ _ _ rfl (by decide) (by decide) (by decide)
theorem T_v65_eq : T_v65 m
    = ((extui 32 · natLt_1_32)) (T_v64 m) :=
  ssa1 (written_map (F := F)) 125 _ main_v64 main_v65 _ _ _ rfl (by decide) (by decide)
theorem T_c_15_eq : T_c_15 m
    = (constantI S_ 32 6#32) :=
  ssa0 (written_map (F := F)) 126 _ main_c_15 _ _ rfl (by decide)
theorem T_call7_v0_eq : T_call7_v0 m
    = id (T_c_15 m) :=
  ssa1 (written_map (F := F)) 127 _ main_c_15 main_call7_v0 _ _ _ rfl (by decide) (by decide)
theorem T_call7_v1_eq : T_call7_v1 m
    = (broadcastInDim S88 ![] bcast_S_S88) (T_call7_v0 m) :=
  ssa1 (written_map (F := F)) 128 _ main_call7_v0 main_call7_v1 _ _ _ rfl (by decide) (by decide)
theorem T_call7_v2_eq : T_call7_v2 m
    = Host.divsi (T_v34 m) (T_call7_v1 m) :=
  ssa2 (written_map (F := F)) 129 _ main_v34 main_call7_v1 main_call7_v2 _ _ _ _ rfl (by decide) (by decide) (by decide)
theorem T_call7_v3_eq : T_call7_v3 m
    = signi (T_v34 m) :=
  ssa1 (written_map (F := F)) 130 _ main_v34 main_call7_v3 _ _ _ rfl (by decide) (by decide)
theorem T_call7_v4_eq : T_call7_v4 m
    = signi (T_call7_v0 m) :=
  ssa1 (written_map (F := F)) 131 _ main_call7_v0 main_call7_v4 _ _ _ rfl (by decide) (by decide)
theorem T_call7_v5_eq : T_call7_v5 m
    = (broadcastInDim S88 ![] bcast_S_S88) (T_call7_v4 m) :=
  ssa1 (written_map (F := F)) 132 _ main_call7_v4 main_call7_v5 _ _ _ rfl (by decide) (by decide)
theorem T_call7_v6_eq : T_call7_v6 m
    = (cmpi .ne) (T_call7_v3 m) (T_call7_v5 m) :=
  ssa2 (written_map (F := F)) 133 _ main_call7_v3 main_call7_v5 main_call7_v6 _ _ _ _ rfl (by decide) (by decide) (by decide)
theorem T_call7_v7_eq : T_call7_v7 m
    = (broadcastInDim S88 ![] bcast_S_S88) (T_call7_v0 m) :=
  ssa1 (written_map (F := F)) 134 _ main_call7_v0 main_call7_v7 _ _ _ rfl (by decide) (by decide)
theorem T_call7_v8_eq : T_call7_v8 m
    = Host.remsi (T_v34 m) (T_call7_v7 m) :=
  ssa2 (written_map (F := F)) 135 _ main_v34 main_call7_v7 main_call7_v8 _ _ _ _ rfl (by decide) (by decide) (by decide)
theorem T_call7_c_eq : T_call7_c m
    = (constantI S_ 32 0#32) :=
  ssa0 (written_map (F := F)) 136 _ main_call7_c _ _ rfl (by decide)
theorem T_call7_v9_eq : T_call7_v9 m
    = (broadcastInDim S88 ![] bcast_S_S88) (T_call7_c m) :=
  ssa1 (written_map (F := F)) 137 _ main_call7_c main_call7_v9 _ _ _ rfl (by decide) (by decide)
theorem T_call7_v10_eq : T_call7_v10 m
    = (cmpi .ne) (T_call7_v8 m) (T_call7_v9 m) :=
  ssa2 (written_map (F := F)) 138 _ main_call7_v8 main_call7_v9 main_call7_v10 _ _ _ _ rfl (by decide) (by decide) (by decide)
theorem T_call7_v11_eq : T_call7_v11 m
    = andi (T_call7_v6 m) (T_call7_v10 m) :=
  ssa2 (written_map (F := F)) 139 _ main_call7_v6 main_call7_v10 main_call7_v11 _ _ _ _ rfl (by decide) (by decide) (by decide)
theorem T_call7_c_0_eq : T_call7_c_0 m
    = (constantI S_ 32 1#32) :=
  ssa0 (written_map (F := F)) 140 _ main_call7_c_0 _ _ rfl (by decide)
theorem T_call7_v12_eq : T_call7_v12 m
    = (broadcastInDim S88 ![] bcast_S_S88) (T_call7_c_0 m) :=
  ssa1 (written_map (F := F)) 141 _ main_call7_c_0 main_call7_v12 _ _ _ rfl (by decide) (by decide)
theorem T_call7_v13_eq : T_call7_v13 m
    = subi (T_call7_v2 m) (T_call7_v12 m) :=
  ssa2 (written_map (F := F)) 142 _ main_call7_v2 main_call7_v12 main_call7_v13 _ _ _ _ rfl (by decide) (by decide) (by decide)
theorem T_v66_eq : T_v66 m
    = select (T_call7_v11 m) (T_call7_v13 m) (T_call7_v2 m) :=
  ssa3 (written_map (F := F)) 143 _ main_call7_v11 main_call7_v13 main_call7_v2 main_v66 _ _ _ _ _ rfl (by decide) (by decide) (by decide) (by decide)
theorem T_c_16_eq : T_c_16 m
    = (constantI S_ 32 4#32) :=
  ssa0 (written_map (F := F)) 144 _ main_c_16 _ _ rfl (by decide)
theorem T_v67_eq : T_v67 m
    = (broadcastInDim S88 ![] bcast_S_S88) (T_c_16 m) :=
  ssa1 (written_map (F := F)) 145 _ main_c_16 main_v67 _ _ _ rfl (by decide) (by decide)
theorem T_v68_eq : T_v68 m
    = (muli) (T_v66 m) (T_v67 m) :=
  ssa2 (written_map (F := F)) 146 _ main_v66 main_v67 main_v68 _ _ _ _ rfl (by decide) (by decide) (by decide)
theorem T_v69_eq : T_v69 m
    = (broadcastInDim S88x1 ![0] bcast_S88_S88x1_0) (T_v34 m) :=
  ssa1 (written_map (F := F)) 147 _ main_v34 main_v69 _ _ _ rfl (by decide) (by decide)
theorem T_v70_eq : T_v70 m
    = (broadcastInDim S1x24 ![1] bcast_S24_S1x24_1) (T_v5 m) :=
  ssa1 (written_map (F := F)) 148 _ main_v5 main_v70 _ _ _ rfl (by decide) (by decide)
theorem T_v71_eq : T_v71 m
    = (broadcastInDim S88x24 ![0, 1] bcast_S88x1_S88x24_0_1) (T_v69 m) :=
  ssa1 (written_map (F := F)) 149 _ main_v69 main_v71 _ _ _ rfl (by decide) (by decide)
theorem T_v72_eq : T_v72 m
    = (broadcastInDim S88x24 ![0, 1] bcast_S1x24_S88x24_0_1) (T_v70 m) :=
  ssa1 (written_map (F := F)) 150 _ main_v70 main_v72 _ _ _ rfl (by decide) (by decide)
theorem T_v73_eq : T_v73 m
    = (cmpi .eq) (T_v71 m) (T_v72 m) :=
  ssa2 (written_map (F := F)) 151 _ main_v71 main_v72 main_v73 _ _ _ _ rfl (by decide) (by decide) (by decide)
theorem T_c_17_eq : T_c_17 m
    = (constantI S_ 32 0#32) :=
  ssa0 (written_map (F := F)) 152 _ main_c_17 _ _ rfl (by decide)
theorem T_call8_v0_eq : T_call8_v0 m
    = id (T_c_17 m) :=
  ssa1 (written_map (F := F)) 153 _ main_c_17 main_call8_v0 _ _ _ rfl (by decide) (by decide)
theorem T_call8_v1_eq : T_call8_v1 m
    = (broadcastInDim S88x24 ![1] bcast_S24_S88x24_1) (T_c m) :=
  ssa1 (written_map (F := F)) 154 _ main_c main_call8_v1 _ _ _ rfl (by decide) (by decide)
theorem T_call8_v2_eq : T_call8_v2 m
    = (broadcastInDim S88x24 ![] bcast_S_S88x24) (T_call8_v0 m) :=
  ssa1 (written_map (F := F)) 155 _ main_call8_v0 main_call8_v2 _ _ _ rfl (by decide) (by decide)
theorem T_v74_eq : T_v74 m
    = select (T_v73 m) (T_call8_v1 m) (T_call8_v2 m) :=
  ssa3 (written_map (F := F)) 156 _ main_v73 main_call8_v1 main_call8_v2 main_v74 _ _ _ _ _ rfl (by decide) (by decide) (by decide) (by decide)
theorem T_c_18_eq : T_c_18 m
    = (constantI S_ 32 0#32) :=
  ssa0 (written_map (F := F)) 157 _ main_c_18 _ _ rfl (by decide)
theorem T_v75_eq : T_v75 m
    = ((fun x v => Host.reduce IntOp.addi x v reducesTo_S88x24_S88_d1 h_S_)) (T_v74 m) (T_c_18 m) :=
  ssa2 (written_map (F := F)) 158 _ main_v74 main_c_18 main_v75 _ _ _ _ rfl (by decide) (by decide) (by decide)
theorem T_v76_eq : T_v76 m
    = (addi) (T_v68 m) (T_v75 m) :=
  ssa2 (written_map (F := F)) 159 _ main_v68 main_v75 main_v76 _ _ _ _ rfl (by decide) (by decide) (by decide)
theorem T_c_19_eq : T_c_19 m
    = (constantI S_ 32 4#32) :=
  ssa0 (written_map (F := F)) 160 _ main_c_19 _ _ rfl (by decide)
theorem T_v77_eq : T_v77 m
    = (broadcastInDim S88 ![] bcast_S_S88) (T_c_19 m) :=
  ssa1 (written_map (F := F)) 161 _ main_c_19 main_v77 _ _ _ rfl (by decide) (by decide)
theorem T_v78_eq : T_v78 m
    = (muli) (T_v66 m) (T_v77 m) :=
  ssa2 (written_map (F := F)) 162 _ main_v66 main_v77 main_v78 _ _ _ _ rfl (by decide) (by decide) (by decide)
theorem T_v79_eq : T_v79 m
    = (broadcastInDim S88x1 ![0] bcast_S88_S88x1_0) (T_v34 m) :=
  ssa1 (written_map (F := F)) 163 _ main_v34 main_v79 _ _ _ rfl (by decide) (by decide)
theorem T_v80_eq : T_v80 m
    = (broadcastInDim S1x24 ![1] bcast_S24_S1x24_1) (T_v5 m) :=
  ssa1 (written_map (F := F)) 164 _ main_v5 main_v80 _ _ _ rfl (by decide) (by decide)
theorem T_v81_eq : T_v81 m
    = (broadcastInDim S88x24 ![0, 1] bcast_S88x1_S88x24_0_1) (T_v79 m) :=
  ssa1 (written_map (F := F)) 165 _ main_v79 main_v81 _ _ _ rfl (by decide) (by decide)
theorem T_v82_eq : T_v82 m
    = (broadcastInDim S88x24 ![0, 1] bcast_S1x24_S88x24_0_1) (T_v80 m) :=
  ssa1 (written_map (F := F)) 166 _ main_v80 main_v82 _ _ _ rfl (by decide) (by decide)
theorem T_v83_eq : T_v83 m
    = (cmpi .eq) (T_v81 m) (T_v82 m) :=
  ssa2 (written_map (F := F)) 167 _ main_v81 main_v82 main_v83 _ _ _ _ rfl (by decide) (by decide) (by decide)
theorem T_c_20_eq : T_c_20 m
    = (constantI S_ 32 0#32) :=
  ssa0 (written_map (F := F)) 168 _ main_c_20 _ _ rfl (by decide)
theorem T_call9_v0_eq : T_call9_v0 m
    = id (T_c_20 m) :=
  ssa1 (written_map (F := F)) 169 _ main_c_20 main_call9_v0 _ _ _ rfl (by decide) (by decide)
theorem T_call9_v1_eq : T_call9_v1 m
    = (broadcastInDim S88x24 ![1] bcast_S24_S88x24_1) (T_c_0 m) :=
  ssa1 (written_map (F := F)) 170 _ main_c_0 main_call9_v1 _ _ _ rfl (by decide) (by decide)
theorem T_call9_v2_eq : T_call9_v2 m
    = (broadcastInDim S88x24 ![] bcast_S_S88x24) (T_call9_v0 m) :=
  ssa1 (written_map (F := F)) 171 _ main_call9_v0 main_call9_v2 _ _ _ rfl (by decide) (by decide)
theorem T_v84_eq : T_v84 m
    = select (T_v83 m) (T_call9_v1 m) (T_call9_v2 m) :=
  ssa3 (written_map (F := F)) 172 _ main_v83 main_call9_v1 main_call9_v2 main_v84 _ _ _ _ _ rfl (by decide) (by decide) (by decide) (by decide)
theorem T_c_21_eq : T_c_21 m
    = (constantI S_ 32 0#32) :=
  ssa0 (written_map (F := F)) 173 _ main_c_21 _ _ rfl (by decide)
theorem T_v85_eq : T_v85 m
    = ((fun x v => Host.reduce IntOp.addi x v reducesTo_S88x24_S88_d1 h_S_)) (T_v84 m) (T_c_21 m) :=
  ssa2 (written_map (F := F)) 174 _ main_v84 main_c_21 main_v85 _ _ _ _ rfl (by decide) (by decide) (by decide)
theorem T_v86_eq : T_v86 m
    = (addi) (T_v78 m) (T_v85 m) :=
  ssa2 (written_map (F := F)) 175 _ main_v78 main_v85 main_v86 _ _ _ _ rfl (by decide) (by decide) (by decide)
theorem T_v87_eq : T_v87 m
    = ((extui 32 · natLt_1_32)) (T_v22 m) :=
  ssa1 (written_map (F := F)) 176 _ main_v22 main_v87 _ _ _ rfl (by decide) (by decide)
theorem T_v88_eq : T_v88 m
    = (muli) (T_v56 m) (T_v87 m) :=
  ssa2 (written_map (F := F)) 177 _ main_v56 main_v87 main_v88 _ _ _ _ rfl (by decide) (by decide) (by decide)
theorem T_v89_eq : T_v89 m
    = ((extui 32 · natLt_1_32)) (T_v22 m) :=
  ssa1 (written_map (F := F)) 178 _ main_v22 main_v89 _ _ _ rfl (by decide) (by decide)
theorem T_v90_eq : T_v90 m
    = (muli) (T_v65 m) (T_v89 m) :=
  ssa2 (written_map (F := F)) 179 _ main_v65 main_v89 main_v90 _ _ _ _ rfl (by decide) (by decide) (by decide)
theorem T_v91_eq : T_v91 m
    = ((extui 32 · natLt_1_32)) (T_v22 m) :=
  ssa1 (written_map (F := F)) 180 _ main_v22 main_v91 _ _ _ rfl (by decide) (by decide)

end Cert.Experts
-- ==== Proof.Plain.lean ====
module

public import proofs.«01_k».proof.Proof.Plan
public import Idealize.ShloMosaic.Lib.Routing.Words

/-! The list of work items in plain numbers.

Classes `0 … 23` with row counts `n` lie one after the other; the rows are cut into blocks of 256; an item is a pair
of a class and a block it touches, in order. -/

@[expose] public section

namespace Cert.Experts

variable (n : ℕ → ℕ)

/-- The rows of the classes before `c`. -/
def startOf (c : ℕ) : ℕ := ((List.range c).map n).sum

/-- The number of items of class `c`. -/
def itemsOf (c : ℕ) : ℕ :=
  if 0 < n c then (startOf n (c + 1) - 1) / 256 - startOf n c / 256 + 1 else 0

/-- The items of the classes before `c`. -/
def itemStart (c : ℕ) : ℕ := startOf (itemsOf n) c

/-- The number of items. -/
abbrev nItems : ℕ := itemStart n 24

/-- The class of item `k`: the number of classes that end at or before it. -/
def clsAt (k : ℕ) : ℕ := Nat.count (fun c => itemStart n (c + 1) ≤ k) 24

/-- Item `k`, the last one standing in beyond the end. -/
def clampK (k : ℕ) : ℕ := min k (nItems n - 1)

/-- The class at table entry `k`. -/
def clsNat (k : ℕ) : ℕ := clsAt n (clampK n k)

/-- The block at table entry `k`. -/
def blkNat (k : ℕ) : ℕ := startOf n (clsNat n k) / 256 + (clampK n k - itemStart n (clsNat n k))

theorem startOf_succ (c : ℕ) : startOf n (c + 1) = startOf n c + n c := by
  unfold startOf; rw [List.range_succ, List.map_append, List.sum_append]; simp

theorem startOf_zero : startOf n 0 = 0 := rfl

theorem itemStart_succ (c : ℕ) : itemStart n (c + 1) = itemStart n c + itemsOf n c := startOf_succ _ c

theorem startOf_mono {a b : ℕ} (h : a ≤ b) : startOf n a ≤ startOf n b := by
  induction h with
  | refl => exact le_rfl
  | step _ ih => rw [Nat.succ_eq_add_one, startOf_succ]; omega

theorem itemStart_mono {a b : ℕ} (h : a ≤ b) : itemStart n a ≤ itemStart n b := startOf_mono _ h

/-- An item `k` below the total lies in a class `c`: between its first item and the next class's. -/
theorem clsAt_spec {k : ℕ} (hk : k < nItems n) :
    clsAt n k < 24 ∧ itemStart n (clsAt n k) ≤ k ∧ k < itemStart n (clsAt n k + 1) := by
  have hdown : ∀ c, c < 24 → (c < clsAt n k ↔ itemStart n (c + 1) ≤ k) := by
    have aux : ∀ N c, c < N → (c < Nat.count (fun c => itemStart n (c + 1) ≤ k) N ↔ itemStart n (c + 1) ≤ k) := by
      intro N
      induction N with
      | zero => intro c hc; omega
      | succ N ih =>
        intro c hc
        rw [Nat.count_succ]
        by_cases hN : itemStart n (N + 1) ≤ k
        · have hall : Nat.count (fun c => itemStart n (c + 1) ≤ k) N = N := by
            rw [Nat.count_iff_forall]
            intro d hd
            exact (itemStart_mono n (by omega)).trans hN
          rw [hall, if_pos hN]
          exact ⟨fun _ => (itemStart_mono n (by omega)).trans hN, fun _ => hc⟩
        · rw [if_neg hN, Nat.add_zero]
          rcases Nat.lt_or_ge c N with h | h
          · exact ih c h
          · obtain rfl : c = N := by omega
            refine ⟨fun hh => absurd (Nat.count_le (p := fun c => itemStart n (c + 1) ≤ k) (n := c)) (by omega), fun hh => absurd hh hN⟩
    exact fun c hc => aux 24 c hc
  have hle : clsAt n k ≤ 24 := Nat.count_le _
  have hlt : clsAt n k < 24 := by
    rcases Nat.lt_or_ge (clsAt n k) 24 with h | h
    · exact h
    · have h23 : itemStart n 24 ≤ k := (hdown 23 (by omega)).1 (by omega)
      exact absurd hk (Nat.not_lt.2 h23)
  refine ⟨hlt, ?_, ?_⟩
  · rcases Nat.eq_zero_or_pos (clsAt n k) with h | h
    · rw [h]; exact Nat.zero_le _
    · have := (hdown (clsAt n k - 1) (by omega)).1 (by omega)
      rwa [show clsAt n k - 1 + 1 = clsAt n k by omega] at this
  · have := (hdown (clsAt n k) hlt)
    omega

/-- The class of an item is the only one that holds it. -/
theorem clsAt_eq {k c : ℕ} (hc : c < 24) (h0 : itemStart n c ≤ k) (h1 : k < itemStart n (c + 1)) : clsAt n k = c := by
  have hk : k < nItems n := h1.trans_le (itemStart_mono n (by omega))
  obtain ⟨a, b, d⟩ := clsAt_spec n hk
  rcases lt_trichotomy (clsAt n k) c with h | h | h
  · have := itemStart_mono n (show clsAt n k + 1 ≤ c by omega); omega
  · exact h
  · have := itemStart_mono n (show c + 1 ≤ clsAt n k by omega); omega

/-- What there is to know of an item: its class is not empty, and its block is one the class touches. -/
theorem item_spec {k : ℕ} (hk : k < nItems n) :
    0 < n (clsAt n k) ∧ itemStart n (clsAt n k) ≤ k
      ∧ startOf n (clsAt n k) / 256 + (k - itemStart n (clsAt n k)) ≤ (startOf n (clsAt n k + 1) - 1) / 256 := by
  obtain ⟨a, b, d⟩ := clsAt_spec n hk
  rw [itemStart_succ] at d
  unfold itemsOf at d
  have hs := startOf_succ n (clsAt n k)
  split at d
  · have : startOf n (clsAt n k) / 256 ≤ (startOf n (clsAt n k + 1) - 1) / 256 := Nat.div_le_div_right (by omega)
    refine ⟨by assumption, b, by omega⟩
  · omega

theorem blkNat_of_lt {k : ℕ} (hk : k < nItems n) :
    clsNat n k = clsAt n k ∧ blkNat n k = startOf n (clsAt n k) / 256 + (k - itemStart n (clsAt n k)) := by
  have : clampK n k = k := by unfold clampK; omega
  unfold blkNat clsNat
  rw [this]
  exact ⟨rfl, rfl⟩

/-- The count of the items is bounded by the blocks reached and the classes passed. -/
theorem items_bound (c : ℕ) :
    (startOf n c = 0 → itemStart n c = 0) ∧ (0 < startOf n c → itemStart n c + 1 ≤ (startOf n c - 1) / 256 + 1 + c) := by
  induction c with
  | zero => exact ⟨fun _ => rfl, fun h => absurd h (by rw [startOf_zero]; omega)⟩
  | succ c ih =>
    have hs := startOf_succ n c
    have hi := itemStart_succ n c
    unfold itemsOf at hi
    split at hi
    · refine ⟨fun h => by omega, fun h => ?_⟩
      rcases Nat.eq_zero_or_pos (startOf n c) with h0 | h0
      · have := ih.1 h0
        rw [h0] at hi
        omega
      · have := ih.2 h0
        have : (startOf n c - 1) / 256 ≤ startOf n c / 256 := Nat.div_le_div_right (by omega)
        have : startOf n c / 256 ≤ (startOf n (c + 1) - 1) / 256 := Nat.div_le_div_right (by omega)
        omega
    · have e : startOf n (c + 1) = startOf n c := by omega
      rw [e]
      refine ⟨fun h => by have := ih.1 h; omega, fun h => by have := ih.2 h; omega⟩

section Total
variable (hT : startOf n 24 = 16384)
include hT

theorem nItems_le : nItems n ≤ 87 := by
  have := (items_bound n 24).2 (by omega)
  unfold nItems
  rw [hT] at this
  omega

theorem exists_class {r : ℕ} (hr : r < 16384) : ∃ c, c < 24 ∧ startOf n c ≤ r ∧ r < startOf n (c + 1) := by
  by_contra hcon
  have : ∀ c, c ≤ 24 → startOf n c ≤ r := by
    intro c
    induction c with
    | zero => intro _; exact Nat.zero_le _
    | succ c ih =>
      intro h
      by_contra h2
      exact hcon ⟨c, by omega, ih (by omega), by omega⟩
  have := this 24 le_rfl
  omega

/-- Each row of a class is in an item of that class. -/
theorem exists_item {r c : ℕ} (hc : c < 24) (h0 : startOf n c ≤ r) (h1 : r < startOf n (c + 1)) :
    ∃ k, k < nItems n ∧ clsAt n k = c ∧ blkNat n k = r / 256 := by
  have hs := startOf_succ n c
  have hi := itemStart_succ n c
  unfold itemsOf at hi
  rw [if_pos (by omega)] at hi
  have d0 : startOf n c / 256 ≤ r / 256 := Nat.div_le_div_right h0
  have d1 : r / 256 ≤ (startOf n (c + 1) - 1) / 256 := Nat.div_le_div_right (by omega)
  have hk : itemStart n c + (r / 256 - startOf n c / 256) < nItems n :=
    lt_of_lt_of_le (by omega) (itemStart_mono n (show c + 1 ≤ 24 by omega))
  have hcl := clsAt_eq n (k := itemStart n c + (r / 256 - startOf n c / 256)) hc (by omega) (by omega)
  refine ⟨_, hk, hcl, ?_⟩
  rw [(blkNat_of_lt n hk).2, hcl]
  omega

theorem nItems_pos : 0 < nItems n := by
  obtain ⟨c, hc, h0, h1⟩ := exists_class n hT (r := 0) (by omega)
  obtain ⟨k, hk, _⟩ := exists_item n hT hc h0 h1
  omega

theorem clampK_lt (k : ℕ) : clampK n k < nItems n := by
  have := nItems_pos n hT
  unfold clampK
  omega

theorem clsNat_lt (k : ℕ) : clsNat n k < 24 := (clsAt_spec n (clampK_lt n hT k)).1

theorem blkNat_lt (k : ℕ) : blkNat n k < 64 := by
  have h := item_spec n (clampK_lt n hT k)
  have hc := clsNat_lt n hT k
  have hm := startOf_mono n (show clsNat n k + 1 ≤ 24 by omega)
  unfold blkNat
  unfold clsNat at *
  have : (startOf n (clsAt n (clampK n k) + 1) - 1) / 256 ≤ (16384 - 1) / 256 := Nat.div_le_div_right (by omega)
  omega

omit hT in
theorem blkNat_tail (k : ℕ) (h : nItems n ≤ k) : blkNat n k = blkNat n (nItems n - 1) := by
  have : clampK n k = clampK n (nItems n - 1) := by unfold clampK; omega
  unfold blkNat clsNat
  rw [this]

end Total

end Cert.Experts
-- ==== Proof.Classes.lean ====
module

public import proofs.«01_k».proof.Proof.HostEqs
public import proofs.«01_k».proof.Proof.Plain

/-! The host code's values per class, and the class and block of each table entry, read as plain numbers. -/

@[expose] public section

set_option maxRecDepth 4000

noncomputable section

namespace Cert.Experts

open Cert.KernelIdeal Cert.KernelIdeal.Gen
open Idealize.ShloMosaic Idealize.ShloMosaic.ValueIdx Idealize.ShloMosaic.WordCmp
open Idealize.ShloMosaic.Routing (cumsum1 reduce_count ofNat32_sub pyDiv pyDiv_ap shape0)

theorem one_idx (a b : S1.Idx) : a = b := by
  funext d
  match d with
  | ⟨0, _⟩ => exact Subsingleton.elim (α := Fin 1) _ _

theorem reduces_rows : S88x24.Reduces [1] S88 := by decide

theorem lift_row (i : Fin 88) (q : Fin 24) : reduces_rows.lift (ix1 i) q = ix2 i q := by
  funext a
  match a with
  | ⟨0, _⟩ => exact Fin.ext rfl
  | ⟨1, _⟩ => exact Fin.ext rfl

/-- A fold of word sums over entries that are all zero. -/
theorem fold_zero {ι : Type} [DecidableEq ι] (S : Finset ι) (g : ι → BitVec 32) (h : ∀ q ∈ S, g q = 0#32) :
    S.fold IntOp.addi (0#32) g = 0#32 := by
  induction S using Finset.induction_on with
  | empty => rfl
  | insert a S ha ih =>
    rw [Finset.fold_insert ha, ih fun q hq => h q (Finset.mem_insert_of_mem hq), h a (Finset.mem_insert_self a S)]
    rfl

theorem fold_onehot (g : Fin 24 → BitVec 32) (c : Fin 24) (h : ∀ q, q ≠ c → g q = 0#32) :
    (Finset.univ : Finset (Fin 24)).fold IntOp.addi (0#32) g = g c := by
  rw [← Finset.insert_erase (Finset.mem_univ c), Finset.fold_insert (Finset.notMem_erase _ _),
    fold_zero _ g fun q hq => h q (Finset.ne_of_mem_erase hq)]
  exact BitVec.add_zero _

/-- A row sum of a row that is zero but at one column. -/
theorem row_onehot (x : IVec S88x24 32) (init : IVec S_ 32) (hinit : ∀ j, init j = 0#32) (i : Fin 88) (c : Fin 24)
    (hx : ∀ q, q ≠ c → x (ix2 i q) = 0#32) :
    Host.reduce IntOp.addi x init reducesTo_S88x24_S88_d1 h_S_ (ix1 i) = x (ix2 i c) := by
  rw [Host.reduce_eq_fold_single IntOp.addi x init reducesTo_S88x24_S88_d1 reduces_rows h_S_ (ix1 i), hinit]
  exact (fold_onehot (fun q => x (reduces_rows.lift (ix1 i) q)) c fun q hq => (congrArg x (lift_row i q)).trans (hx q hq)).trans
    (congrArg x (lift_row i c))

variable {F : FTy → Type} [FloatOps F] [∀ e, Nonempty (Elt F e)] (m : (ℓ : Loc nD τ sig) → Buf (Elt F) ℓ) (n : ℕ → ℕ)

section
variable (hn : ∀ c : Fin 24, T_v2 m (ix1 c) = BitVec.ofNat 32 (n c.val)) (hT : startOf n 24 = 16384)

include hn in
theorem v3_at (c : Fin 24) : T_v3 m (ix1 c) = BitVec.ofNat 32 (startOf n (c.val + 1)) := by
  rw [T_v3_eq]
  unfold runSum
  exact cumsum1 (N := 24) (Nm1 := 23) rfl (T_v2 m) n hn _ (by rw [T_call0_call0_v0_eq, T_call0_call0_c_eq]; rfl) _ _ c

include hn in
theorem v4_at (c : Fin 24) : T_v4 m (ix1 c) = BitVec.ofNat 32 (startOf n c.val) := by
  rw [T_v4_eq]
  show T_v3 m (ix1 c) - T_v2 m (ix1 c) = _
  rw [v3_at m n hn, hn, ofNat32_sub (by rw [startOf_succ]; omega), startOf_succ, Nat.add_sub_cancel]

theorem v6_py : T_v6 m = pyDiv bcast_S_S24 (T_v4 m) (constantI S_ 32 256#32) := by
  rw [T_v6_eq, T_call1_v13_eq, T_call1_v12_eq, T_call1_c_0_eq, T_call1_v11_eq, T_call1_v10_eq, T_call1_v9_eq, T_call1_c_eq,
    T_call1_v8_eq, T_call1_v7_eq, T_call1_v6_eq, T_call1_v5_eq, T_call1_v4_eq, T_call1_v3_eq, T_call1_v2_eq, T_call1_v1_eq,
    T_call1_v0_eq, T_c_1_eq]
  rfl

theorem v11_py : T_v11 m = pyDiv bcast_S_S24 (T_v10 m) (constantI S_ 32 256#32) := by
  rw [T_v11_eq, T_call2_v13_eq, T_call2_v12_eq, T_call2_c_0_eq, T_call2_v11_eq, T_call2_v10_eq, T_call2_v9_eq, T_call2_c_eq,
    T_call2_v8_eq, T_call2_v7_eq, T_call2_v6_eq, T_call2_v5_eq, T_call2_v4_eq, T_call2_v3_eq, T_call2_v2_eq, T_call2_v1_eq,
    T_call2_v0_eq, T_c_4_eq]
  rfl

theorem v66_py : T_v66 m = pyDiv bcast_S_S88 (T_v34 m) (constantI S_ 32 6#32) := by
  rw [T_v66_eq, T_call7_v13_eq, T_call7_v12_eq, T_call7_c_0_eq, T_call7_v11_eq, T_call7_v10_eq, T_call7_v9_eq, T_call7_c_eq,
    T_call7_v8_eq, T_call7_v7_eq, T_call7_v6_eq, T_call7_v5_eq, T_call7_v4_eq, T_call7_v3_eq, T_call7_v2_eq, T_call7_v1_eq,
    T_call7_v0_eq, T_c_15_eq]
  rfl

include hT in
theorem startOf_le {c : ℕ} (h : c ≤ 24) : startOf n c ≤ 16384 := hT ▸ startOf_mono n h

include hn hT in
theorem v6_at (c : Fin 24) : T_v6 m (ix1 c) = BitVec.ofNat 32 (startOf n c.val / 256) := by
  have := startOf_le n hT (show c.val ≤ 24 from c.isLt.le)
  rw [v6_py]
  exact pyDiv_ap bcast_S_S24 (T_v4 m) (constantI S_ 32 256#32) (ix1 c) (v4_at m n hn c) (b := 256) rfl (by omega) (by decide) (by decide)

theorem v8_at (c : Fin 24) : T_v8 m (ix1 c) = IntOp.cmpi .sgt (T_v2 m (ix1 c)) 0#32 := by
  rw [T_v8_eq, T_v7_eq, T_c_2_eq]
  rfl

include hn hT in
theorem v15_at (c : Fin 24) : T_v15 m (ix1 c) = BitVec.ofNat 32 (itemsOf n c.val) := by
  have h1 := startOf_le n hT (show c.val + 1 ≤ 24 from c.isLt)
  have hs := startOf_succ n c.val
  have e : T_v15 m (ix1 c) = Scalar.select (T_v8 m (ix1 c)) (T_v11 m (ix1 c) - T_v6 m (ix1 c) + 1#32) 0#32 := by
    rw [T_v15_eq, T_v14_eq, T_v13_eq, T_c_5_eq, T_v12_eq, T_call3_v1_eq, T_call3_v0_eq, T_c_6_eq]
    rfl
  rw [e, v8_at, hn, show (0#32 : BitVec 32) = BitVec.ofNat 32 0 from rfl, cmpi_sgt_ofNat (w := 32) (by omega) (by decide)]
  unfold itemsOf
  by_cases h0 : 0 < n c.val
  · rw [if_pos h0, decide_eq_true h0]
    have e10 : T_v10 m (ix1 c) = BitVec.ofNat 32 (startOf n (c.val + 1) - 1) := by
      rw [T_v10_eq, T_v9_eq, T_c_3_eq]
      show T_v3 m (ix1 c) - BitVec.ofNat 32 1 = _
      rw [v3_at m n hn, ofNat32_sub (by omega)]
    have e11 : T_v11 m (ix1 c) = BitVec.ofNat 32 ((startOf n (c.val + 1) - 1) / 256) := by
      rw [v11_py]
      exact pyDiv_ap bcast_S_S24 (T_v10 m) (constantI S_ 32 256#32) (ix1 c) e10 (b := 256) rfl (by omega) (by decide) (by decide)
    show T_v11 m (ix1 c) - T_v6 m (ix1 c) + BitVec.ofNat 32 1 = _
    rw [e11, v6_at m n hn hT, ofNat32_sub (Nat.div_le_div_right (by omega)), ← BitVec.ofNat_add]
  · rw [if_neg h0, decide_eq_false h0]
    rfl

include hn hT in
theorem v16_at (c : Fin 24) : T_v16 m (ix1 c) = BitVec.ofNat 32 (itemStart n (c.val + 1)) := by
  rw [T_v16_eq]
  unfold runSum
  exact cumsum1 (N := 24) (Nm1 := 23) rfl (T_v15 m) (itemsOf n) (v15_at m n hn hT) _
    (by rw [T_call4_call0_v0_eq, T_call4_call0_c_eq]; rfl) _ _ c

include hn hT in
theorem v17_at (c : Fin 24) : T_v17 m (ix1 c) = BitVec.ofNat 32 (itemStart n c.val) := by
  rw [T_v17_eq]
  show T_v16 m (ix1 c) - T_v15 m (ix1 c) = _
  rw [v16_at m n hn hT, v15_at m n hn hT, ofNat32_sub (by rw [itemStart_succ]; omega), itemStart_succ, Nat.add_sub_cancel]

/-- The last entry of a vector of 24, as the host code takes it. -/
theorem last_at (x : IVec S24 32) (j : S_.Idx) :
    shapeCast S_ (extractStridedSlice S1 ![23] x slices_S24_S1_23) shapeCasts_S1_S_ j = x (ix1 (23 : Fin 24)) := by
  refine (congrArg (extractStridedSlice S1 ![23] x slices_S24_S1_23) (one_idx _ (ix1 (0 : Fin 1)))).trans ?_
  refine congrArg x (funext fun a => ?_)
  match a with
  | ⟨0, _⟩ => exact Fin.ext rfl

include hn hT in
theorem v20_at (j : S_.Idx) : T_v20 m j = BitVec.ofNat 32 (nItems n) := by
  rw [T_v20_eq, T_v19_eq, last_at]
  exact v16_at m n hn hT 23

include hn hT in
theorem v22_at (k : Fin 88) : T_v22 m (ix1 k) = BitVec.ofBool (decide (k.val < nItems n)) := by
  have := nItems_le n hT
  rw [T_v22_eq, T_v18_eq, T_v21_eq]
  show IntOp.cmpi .slt (BitVec.ofNat 32 k.val) (T_v20 m _) = _
  rw [v20_at m n hn hT, cmpi_slt_ofNat (w := 32) (by omega) (by omega)]

include hn hT in
theorem v27_at (k : Fin 88) : T_v27 m (ix1 k) = BitVec.ofNat 32 (clampK n k.val) := by
  have := nItems_le n hT
  have hp := nItems_pos n hT
  have e25 : ∀ j, T_v25 m j = BitVec.ofNat 32 (nItems n - 1) := by
    intro j
    rw [T_v25_eq, T_v24_eq, T_v23_eq, T_c_7_eq]
    show shapeCast S_ (extractStridedSlice S1 ![23] (T_v16 m) slices_S24_S1_23) shapeCasts_S1_S_ j - BitVec.ofNat 32 1 = _
    rw [last_at, v16_at m n hn hT]
    exact ofNat32_sub hp
  rw [T_v27_eq, T_v18_eq, T_v26_eq]
  show IntOp.minsi (BitVec.ofNat 32 k.val) (T_v25 m _) = _
  rw [e25]
  unfold IntOp.minsi clampK
  rw [Routing.slt_ofNat32 (by omega) (by omega)]
  by_cases h : k.val < nItems n - 1
  · rw [decide_eq_true h, Nat.min_eq_left h.le]; rfl
  · rw [decide_eq_false h, Nat.min_eq_right (by omega)]; rfl

include hn hT in
theorem v34_at (k : Fin 88) : T_v34 m (ix1 k) = BitVec.ofNat 32 (clsNat n k.val) := by
  have := nItems_le n hT
  rw [T_v34_eq, T_c_8_eq, T_v33_eq]
  refine reduce_count (by decide) (T_v32 m) natLt_1_32 _ _ k (fun c => itemStart n (c + 1) ≤ clampK n k.val) fun q => ?_
  rw [T_v32_eq, T_v30_eq, T_v31_eq, T_v28_eq, T_v29_eq]
  show IntOp.cmpi .sle (T_v16 m _) (T_v27 m _) = 1#1 ↔ _
  have hk := clampK_lt n hT k.val
  have hq := itemStart_mono n (show q.val + 1 ≤ 24 from q.isLt)
  rw [← cmpi_sle_ofNat_eq_one_iff (w := 32) (a := itemStart n (q.val + 1)) (b := clampK n k.val) (by unfold nItems at *; omega) (by omega),
    ← v16_at m n hn hT, ← v27_at m n hn hT]
  refine iff_of_eq (congrArg₂ (fun a b => IntOp.cmpi .sle (T_v16 m a) (T_v27 m b) = 1#1) ?_ ?_)
  · exact (eq_ix1 _).trans (congrArg ix1 (Fin.ext rfl))
  · exact (eq_ix1 _).trans (congrArg ix1 (Fin.ext rfl))

end

end Cert.Experts
-- ==== Proof.Tables.lean ====
module

public import proofs.«01_k».proof.Proof.Classes
public import Idealize.ShloMosaic.Lib.Pointwise.SelectCore

/-! The control tables that the host code computes are those of a plan. -/

@[expose] public section

set_option maxRecDepth 4000

noncomputable section

namespace Cert.Experts

open Cert.KernelIdeal Cert.KernelIdeal.Gen
open Idealize.ShloMosaic hiding ix1 ix2 eq_ix1 eq_ix2
open Idealize.ShloMosaic.ValueIdx Idealize.ShloMosaic.WordCmp
open Idealize.ShloMosaic.Routing (ofNat32_sub pyDiv pyDiv_ap shape0)

section Cat
variable {α : Type}

theorem cat_head (a : S1.Idx → α) (b : S87.Idx → α) (k : Fin 88) (hk : k.val = 0) :
    concatenate S88 0 [⟨S1, a⟩, ⟨S87, b⟩] concatenates_S1_S87_S88_d0 (ix1 k) = a (ix1 (0 : Fin 1)) := by
  refine (concatenate_pair_apply _ _ _ _ _).trans ((dif_pos (show k.val < 1 by omega)).trans ?_)
  exact congrArg a (one_idx _ _)

theorem cat_body (a : S1.Idx → α) (b : S87.Idx → α) (k : Fin 88) (j : Fin 87) (hk : k.val = j.val + 1) :
    concatenate S88 0 [⟨S1, a⟩, ⟨S87, b⟩] concatenates_S1_S87_S88_d0 (ix1 k) = b (ix1 j) := by
  refine (concatenate_pair_apply _ _ _ _ _).trans ((dif_neg (show ¬ k.val < 1 by omega)).trans ?_)
  refine congrArg b (funext fun d => ?_)
  match d with
  | ⟨0, _⟩ => exact Fin.ext (show k.val - 1 = j.val by omega)

theorem cat_front (a : S87.Idx → α) (b : S1.Idx → α) (k : Fin 88) (j : Fin 87) (hk : k.val = j.val) :
    concatenate S88 0 [⟨S87, a⟩, ⟨S1, b⟩] concatenates_S87_S1_S88_d0 (ix1 k) = a (ix1 j) := by
  refine (concatenate_pair_apply _ _ _ _ _).trans ((dif_pos (show k.val < 87 by omega)).trans ?_)
  refine congrArg a (funext fun d => ?_)
  match d with
  | ⟨0, _⟩ => exact Fin.ext hk

end Cat

variable {F : FTy → Type} [FloatOps F] [∀ e, Nonempty (Elt F e)] (m : (ℓ : Loc nD τ sig) → Buf (Elt F) ℓ) (n : ℕ → ℕ)

variable (hn : ∀ c : Fin 24, T_v2 m (ix1 c) = BitVec.ofNat 32 (n c.val)) (hT : startOf n 24 = 16384)

/-- The comparison of an entry's class with a column. -/
theorem eq_col (a b : ℕ) (ha : a < 24) (hb : b < 24) :
    IntOp.cmpi .eq (BitVec.ofNat 32 a) (BitVec.ofNat 32 b) = BitVec.ofBool (decide (a = b)) :=
  cmpi_eq_ofNat (w := 32) (by omega) (by omega)

include hn hT

/-- A table of the classes looked up at the entries' classes by a sum over all classes. -/
theorem lookup_at (mask : IVec S88x24 1) (x : IVec S24 32) (zero : IVec S_ 32) (init : IVec S_ 32)
    (hz : ∀ j, zero j = 0#32) (hi : ∀ j, init j = 0#32)
    (hm : ∀ (i : Fin 88) (q : Fin 24), mask (ix2 i q) = IntOp.cmpi .eq (T_v34 m (ix1 i)) (T_v5 m (ix1 q)))
    (k : Fin 88) :
    Host.reduce IntOp.addi (select mask (broadcastInDim S88x24 ![1] bcast_S24_S88x24_1 x) (broadcastInDim S88x24 ![] bcast_S_S88x24 zero))
      init reducesTo_S88x24_S88_d1 h_S_ (ix1 k) = x (ix1 ⟨clsNat n k.val, clsNat_lt n hT _⟩) := by
  have hmask : ∀ q : Fin 24, mask (ix2 k q) = BitVec.ofBool (decide (clsNat n k.val = q.val)) := fun q => by
    rw [hm, v34_at m n hn hT, T_v5_eq]
    exact eq_col _ _ (clsNat_lt n hT _) q.isLt
  have hsel : ∀ q : Fin 24, select mask (broadcastInDim S88x24 ![1] bcast_S24_S88x24_1 x) (broadcastInDim S88x24 ![] bcast_S_S88x24 zero) (ix2 k q)
      = Scalar.select (mask (ix2 k q)) (x (ix1 q)) 0#32 := fun q => by
    show Scalar.select (mask (ix2 k q)) (x _) (zero _) = _
    rw [hz]
    exact congrArg (fun j => Scalar.select (mask (ix2 k q)) (x j) 0#32) ((eq_ix1 _).trans (congrArg ix1 (Fin.ext rfl)))
  rw [row_onehot _ _ hi k ⟨clsNat n k.val, clsNat_lt n hT _⟩ fun q hq => ?_]
  · rw [hsel, hmask, decide_eq_true (by rfl)]
    rfl
  · rw [hsel, hmask, decide_eq_false (fun h => hq (Fin.ext h.symm))]
    rfl

theorem v41_at (k : Fin 88) : T_v41 m (ix1 k) = BitVec.ofNat 32 (startOf n (clsNat n k.val) / 256) := by
  rw [T_v41_eq, T_c_10_eq, T_v40_eq, T_call5_v2_eq, T_call5_v1_eq, T_call5_v0_eq, T_c_9_eq]
  refine (lookup_at m n hn hT (T_v39 m) (T_v6 m) _ _ (fun _ => rfl) (fun _ => rfl) (fun i q => ?_) k).trans (v6_at m n hn hT _)
  rw [T_v39_eq, T_v38_eq, T_v37_eq, T_v36_eq, T_v35_eq]
  exact congrArg₂ (fun a b => IntOp.cmpi .eq (T_v34 m a) (T_v5 m b)) ((eq_ix1 _).trans (congrArg ix1 (Fin.ext rfl)))
    ((eq_ix1 _).trans (congrArg ix1 (Fin.ext rfl)))

theorem v48_at (k : Fin 88) : T_v48 m (ix1 k) = BitVec.ofNat 32 (itemStart n (clsNat n k.val)) := by
  rw [T_v48_eq, T_c_12_eq, T_v47_eq, T_call6_v2_eq, T_call6_v1_eq, T_call6_v0_eq, T_c_11_eq]
  refine (lookup_at m n hn hT (T_v46 m) (T_v17 m) _ _ (fun _ => rfl) (fun _ => rfl) (fun i q => ?_) k).trans (v17_at m n hn hT _)
  rw [T_v46_eq, T_v45_eq, T_v44_eq, T_v43_eq, T_v42_eq]
  exact congrArg₂ (fun a b => IntOp.cmpi .eq (T_v34 m a) (T_v5 m b)) ((eq_ix1 _).trans (congrArg ix1 (Fin.ext rfl)))
    ((eq_ix1 _).trans (congrArg ix1 (Fin.ext rfl)))

theorem v50_at (k : Fin 88) : T_v50 m (ix1 k) = BitVec.ofNat 32 (blkNat n k.val) := by
  have hs : itemStart n (clsNat n k.val) ≤ clampK n k.val := (clsAt_spec n (clampK_lt n hT k.val)).2.1
  rw [T_v50_eq, T_v49_eq]
  show T_v41 m (ix1 k) + (T_v27 m (ix1 k) - T_v48 m (ix1 k)) = _
  rw [v41_at m n hn hT, v48_at m n hn hT, v27_at m n hn hT, ofNat32_sub hs, ← BitVec.ofNat_add]
  rfl

theorem v54_at (j : Fin 87) : T_v54 m (ix1 j) = BitVec.ofBool (decide (blkNat n (j.val + 1) ≠ blkNat n j.val)) := by
  have h1 := blkNat_lt n hT (j.val + 1)
  have h2 := blkNat_lt n hT j.val
  have e1 : T_v52 m (ix1 j) = BitVec.ofNat 32 (blkNat n (j.val + 1)) := by
    rw [T_v52_eq]
    exact (congrArg (T_v50 m) ((eq_ix1 _).trans (congrArg ix1 (Fin.ext (Nat.add_comm 1 j.val))))).trans
      (v50_at m n hn hT ⟨j.val + 1, by omega⟩)
  have e2 : T_v53 m (ix1 j) = BitVec.ofNat 32 (blkNat n j.val) := by
    rw [T_v53_eq]
    exact (congrArg (T_v50 m) ((eq_ix1 _).trans (congrArg ix1 (Fin.ext (Nat.zero_add j.val))))).trans
      (v50_at m n hn hT ⟨j.val, by omega⟩)
  rw [T_v54_eq]
  show IntOp.cmpi .ne (T_v52 m (ix1 j)) (T_v53 m (ix1 j)) = _
  rw [e1, e2]
  exact cmpi_ne_ofNat (w := 32) (by omega) (by omega)

omit hn hT in
theorem v59_same : T_v59 m = T_v54 m := by
  rw [T_v59_eq, T_v58_eq, T_v57_eq, T_v54_eq, T_v53_eq, T_v52_eq]

omit hn hT in
theorem or_not_bool (p q : Bool) :
    (BitVec.ofBool p ||| ~~~ BitVec.ofBool q).setWidth 32 = if (p || !q) then 1#32 else 0#32 := by
  cases p <;> cases q <;> rfl

omit hn hT in
theorem ext_bool (p : Prop) [Decidable p] : (BitVec.ofBool (decide p)).setWidth 32 = if p then 1#32 else 0#32 := by
  by_cases h : p <;> simp [h]

theorem v87_at (k : Fin 88) : T_v87 m (ix1 k) = if k.val < nItems n then 1#32 else 0#32 := by
  rw [T_v87_eq]
  show (T_v22 m (ix1 k)).setWidth 32 = _
  rw [v22_at m n hn hT]
  exact ext_bool _

theorem v91_at (k : Fin 88) : T_v91 m (ix1 k) = if k.val < nItems n then 1#32 else 0#32 := by
  rw [T_v91_eq, ← v87_at m n hn hT k, T_v87_eq]

theorem v89_at (k : Fin 88) : T_v89 m (ix1 k) = if k.val < nItems n then 1#32 else 0#32 := by
  rw [T_v89_eq, ← v87_at m n hn hT k, T_v87_eq]

theorem v88_at (k : Fin 88) (hk : k.val < nItems n) : T_v88 m (ix1 k) = if firstB (blkNat n) k.val then 1#32 else 0#32 := by
  have e : T_v56 m (ix1 k) = if firstB (blkNat n) k.val then 1#32 else 0#32 := by
    rw [T_v56_eq]
    rcases Nat.eq_zero_or_pos k.val with h0 | h0
    · refine (cat_head (T_v51 m) (T_v55 m) k h0).trans ?_
      rw [T_v51_eq, T_c_13_eq, h0]
      rfl
    · refine (cat_body (T_v51 m) (T_v55 m) k ⟨k.val - 1, by omega⟩ (by show _ = k.val - 1 + 1; omega)).trans ?_
      rw [T_v55_eq]
      show (T_v54 m (ix1 ⟨k.val - 1, _⟩)).setWidth 32 = _
      rw [v54_at m n hn hT, ext_bool]
      show (if blkNat n (k.val - 1 + 1) ≠ blkNat n (k.val - 1) then _ else _) = _
      rw [Nat.sub_add_cancel h0]
      unfold firstB
      by_cases hb : blkNat n k.val ≠ blkNat n (k.val - 1)
      · rw [if_pos hb, decide_eq_true (Or.inr hb)]; rfl
      · rw [if_neg hb, decide_eq_false (by rintro (h | h); exact absurd h (by omega); exact hb h)]; rfl
  rw [T_v88_eq]
  show T_v56 m (ix1 k) * T_v87 m (ix1 k) = _
  rw [e, v87_at m n hn hT, if_pos hk, BitVec.mul_one]

theorem v90_at (k : Fin 88) (hk : k.val < nItems n) : T_v90 m (ix1 k) = if lastB (nItems n) (blkNat n) k.val then 1#32 else 0#32 := by
  have hle := nItems_le n hT
  have e : T_v65 m (ix1 k) = if lastB (nItems n) (blkNat n) k.val then 1#32 else 0#32 := by
    rw [T_v65_eq]
    show (T_v64 m (ix1 k)).setWidth 32 = _
    rw [T_v64_eq]
    refine (congrArg (BitVec.setWidth 32) (cat_front (T_v62 m) (T_v63 m) k ⟨k.val, by omega⟩ rfl)).trans ?_
    rw [T_v62_eq, T_v61_eq, T_v60_eq]
    show (T_v59 m (ix1 ⟨k.val, _⟩) ||| ~~~ (T_v22 m _)).setWidth 32 = _
    have e22 : extractStridedSlice S87 ![1] (T_v22 m) slices_S88_S87_1 (ix1 ⟨k.val, by omega⟩)
        = BitVec.ofBool (decide (k.val + 1 < nItems n)) :=
      (congrArg (T_v22 m) ((eq_ix1 _).trans (congrArg ix1 (Fin.ext (Nat.add_comm 1 k.val))))).trans
        (v22_at m n hn hT ⟨k.val + 1, by omega⟩)
    have e59 : T_v59 m (ix1 (⟨k.val, by omega⟩ : Fin 87)) = BitVec.ofBool (decide (blkNat n (k.val + 1) ≠ blkNat n k.val)) := by
      rw [v59_same]; exact v54_at m n hn hT _
    refine (congrArg₂ (fun a b : BitVec 1 => (a ||| ~~~ b).setWidth 32) e59 e22).trans ?_
    refine (or_not_bool _ _).trans (congrArg (fun b : Bool => if b then 1#32 else 0#32) ?_)
    unfold lastB
    by_cases hb : blkNat n (k.val + 1) ≠ blkNat n k.val
    · rw [decide_eq_true hb, decide_eq_true (Or.inr hb)]; rfl
    · by_cases hl : k.val + 1 = nItems n
      · rw [decide_eq_false hb, decide_eq_false (show ¬ k.val + 1 < nItems n by omega), decide_eq_true (Or.inl hl)]; rfl
      · rw [decide_eq_false hb, decide_eq_true (show k.val + 1 < nItems n by omega), decide_eq_false (fun h => h.elim hl hb)]; rfl
  rw [T_v90_eq]
  show T_v65 m (ix1 k) * T_v89 m (ix1 k) = _
  rw [e, v89_at m n hn hT, if_pos hk, BitVec.mul_one]

omit hn hT in
theorem lit_lo (c : Fin 24) : BitVec.ofNat 32 (c.val / 6 * 4) + lit0 c = BitVec.ofNat 32 (loOf c.val) := by
  revert c; decide

omit hn hT in
theorem lit_hi (c : Fin 24) : BitVec.ofNat 32 (c.val / 6 * 4) + lit1 c = BitVec.ofNat 32 (hiOf c.val) := by
  revert c; decide

omit hn hT in
theorem pos_row (c : Fin 24) : S24.rowMajor (ix1 c) = c :=
  (Equiv.symm_apply_eq _).1 (Routing.symm1 (N := 24) c) |>.symm

theorem v66_at (k : Fin 88) : T_v66 m (ix1 k) = BitVec.ofNat 32 (clsNat n k.val / 6) := by
  have := clsNat_lt n hT k.val
  rw [v66_py]
  exact pyDiv_ap bcast_S_S88 (T_v34 m) (constantI S_ 32 6#32) (ix1 k) (v34_at m n hn hT k) (b := 6) rfl (by omega) (by decide) (by decide)

theorem v76_at (k : Fin 88) : T_v76 m (ix1 k) = BitVec.ofNat 32 (loOf (clsNat n k.val)) := by
  have e75 : T_v75 m (ix1 k) = lit0 ⟨clsNat n k.val, clsNat_lt n hT _⟩ := by
    rw [T_v75_eq, T_c_18_eq, T_v74_eq, T_call8_v2_eq, T_call8_v1_eq, T_call8_v0_eq, T_c_17_eq]
    refine (lookup_at m n hn hT (T_v73 m) (T_c m) _ _ (fun _ => rfl) (fun _ => rfl) (fun i q => ?_) k).trans ?_
    · rw [T_v73_eq, T_v72_eq, T_v71_eq, T_v70_eq, T_v69_eq]
      exact congrArg₂ (fun a b => IntOp.cmpi .eq (T_v34 m a) (T_v5 m b)) ((eq_ix1 _).trans (congrArg ix1 (Fin.ext rfl)))
        ((eq_ix1 _).trans (congrArg ix1 (Fin.ext rfl)))
    · rw [T_c_eq]
      exact congrArg lit0 (pos_row _)
  rw [T_v76_eq, T_v68_eq, T_v67_eq, T_c_16_eq]
  show T_v66 m (ix1 k) * BitVec.ofNat 32 4 + T_v75 m (ix1 k) = _
  rw [e75, v66_at m n hn hT, ← BitVec.ofNat_mul]
  exact lit_lo ⟨clsNat n k.val, clsNat_lt n hT _⟩

theorem v86_at (k : Fin 88) : T_v86 m (ix1 k) = BitVec.ofNat 32 (hiOf (clsNat n k.val)) := by
  have e85 : T_v85 m (ix1 k) = lit1 ⟨clsNat n k.val, clsNat_lt n hT _⟩ := by
    rw [T_v85_eq, T_c_21_eq, T_v84_eq, T_call9_v2_eq, T_call9_v1_eq, T_call9_v0_eq, T_c_20_eq]
    refine (lookup_at m n hn hT (T_v83 m) (T_c_0 m) _ _ (fun _ => rfl) (fun _ => rfl) (fun i q => ?_) k).trans ?_
    · rw [T_v83_eq, T_v82_eq, T_v81_eq, T_v80_eq, T_v79_eq]
      exact congrArg₂ (fun a b => IntOp.cmpi .eq (T_v34 m a) (T_v5 m b)) ((eq_ix1 _).trans (congrArg ix1 (Fin.ext rfl)))
        ((eq_ix1 _).trans (congrArg ix1 (Fin.ext rfl)))
    · rw [T_c_0_eq]
      exact congrArg lit1 (pos_row _)
  rw [T_v86_eq, T_v78_eq, T_v77_eq, T_c_19_eq]
  show T_v66 m (ix1 k) * BitVec.ofNat 32 4 + T_v85 m (ix1 k) = _
  rw [e85, v66_at m n hn hT, ← BitVec.ofNat_mul]
  exact lit_hi ⟨clsNat n k.val, clsNat_lt n hT _⟩

/-- The tables of the call are those of the plan that the counts `n` make. -/
theorem plan_tabs : Plan (tabs m) (nItems n) (blkNat n) (clsNat n) where
  pos := nItems_pos n hT
  le := nItems_le n hT
  blk_lt := blkNat_lt n hT
  cls_lt := clsNat_lt n hT
  tail := blkNat_tail n
  w0 i := (congrArg (T_v50 m) (eq_ix1 _)).trans (v50_at m n hn hT _)
  w1 i := (congrArg (T_v34 m) (eq_ix1 _)).trans (v34_at m n hn hT _)
  w2 i := (congrArg (T_v76 m) (eq_ix1 _)).trans (v76_at m n hn hT _)
  w3 i := (congrArg (T_v86 m) (eq_ix1 _)).trans (v86_at m n hn hT _)
  w4 i hi := (congrArg (T_v88 m) (eq_ix1 _)).trans (v88_at m n hn hT _ hi)
  w5 i hi := (congrArg (T_v90 m) (eq_ix1 _)).trans (v90_at m n hn hT _ hi)
  w6 i := (congrArg (T_v91 m) (eq_ix1 _)).trans (v91_at m n hn hT _)

end Cert.Experts
-- ==== Proof.Given.lean ====
module

public import proofs.«01_k».proof.Proof.Tables
public import proofs.«01_k».proof.Pre_sorted_by_class

/-! What the precondition says of the counts. -/

@[expose] public section

set_option maxRecDepth 4000

noncomputable section

namespace Cert.Experts

open Cert.KernelIdeal Cert.KernelIdeal.Gen
open Idealize.ShloMosaic hiding ix1 ix2 eq_ix1 eq_ix2
open Idealize.ShloMosaic.ValueIdx Idealize.ShloMosaic.WordCmp

theorem and_one {a b : BitVec 1} : IntOp.andi a b = 1#1 ↔ a = 1#1 ∧ b = 1#1 := by revert a b; decide

section
variable {F : FTy → Type} [FloatOps F] [hP : Cert.Pre_sorted_by_class.Facts]
  (a0 : FVec F S128x1 .f32) (a1 : IVec S131072x128 32) (a2 a3 : FVec F S2x16x1024x256 .f32) (a4 : FVec F S2x16x256x1024 .f32)

/-- The counts of the classes as words. -/
def cntW : IVec S24 32 := fptosi 32 (shapeCast S24 (extractStridedSlice S24x1 ![0, 0] a0 slices_S128x1_S24x1_0_0) shapeCasts_S24x1_S24)
/-- Where the classes end, as words. -/
def endW : IVec S24 32 := runSum (cntW a0) (broadcastInDim S_ ![] bcast_S_S_ (constantI S_ 32 0#32))
/-- Where the classes start, as words. -/
def startW : IVec S24 32 := subi (endW a0) (cntW a0)
/-- The class of each row, a float. -/
def clsW : FVec F Cert.Pre_sorted_by_class.S16384x1 .f32 :=
  bitcastToFloat .f32 (shapeCast Cert.Pre_sorted_by_class.S16384x1
    (extractStridedSlice Cert.Pre_sorted_by_class.S16384x1x1 ![0, 4, 0]
      (shapeCast Cert.Pre_sorted_by_class.S16384x8x128 a1 hP.shapeCasts_S131072x128_S16384x8x128)
      hP.slices_S16384x8x128_S16384x1x1_0_4_0) hP.shapeCasts_S16384x1x1_S16384x1)

/-- The precondition over the counts, the ends and the rows' classes. -/
def body (N E : IVec S24 32) (C : FVec F Cert.Pre_sorted_by_class.S16384x1 .f32) : IVec Cert.Pre_sorted_by_class.S16384x24 1 :=
  let v6 : IVec Cert.Pre_sorted_by_class.S16384x1 32 := broadcastInDim Cert.Pre_sorted_by_class.S16384x1 ![0] hP.bcast_S16384_S16384x1_0 (iotaInDim Cert.Pre_sorted_by_class.S16384 32 0)
  let v13 : FVec F Cert.Pre_sorted_by_class.S1x24 .f32 :=
    broadcastInDim Cert.Pre_sorted_by_class.S1x24 ![1] hP.bcast_S24_S1x24_1 (sitofp .f32 (iotaInDim S24 32 0))
  let v16 : IVec Cert.Pre_sorted_by_class.S16384x24 1 := cmpf .oeq (broadcastInDim Cert.Pre_sorted_by_class.S16384x24 ![0, 1] hP.bcast_S16384x1_S16384x24_0_1 C)
    (broadcastInDim Cert.Pre_sorted_by_class.S16384x24 ![0, 1] hP.bcast_S1x24_S16384x24_0_1 v13)
  let v17 : IVec Cert.Pre_sorted_by_class.S1x24 32 := broadcastInDim Cert.Pre_sorted_by_class.S1x24 ![1] hP.bcast_S24_S1x24_1 (subi E N)
  let v19 : IVec Cert.Pre_sorted_by_class.S16384x24 32 := broadcastInDim Cert.Pre_sorted_by_class.S16384x24 ![0, 1] hP.bcast_S16384x1_S16384x24_0_1 v6
  let v20 : IVec Cert.Pre_sorted_by_class.S16384x24 1 := cmpi .sle (broadcastInDim Cert.Pre_sorted_by_class.S16384x24 ![0, 1] hP.bcast_S1x24_S16384x24_0_1 v17) v19
  let v21 : IVec Cert.Pre_sorted_by_class.S1x24 32 := broadcastInDim Cert.Pre_sorted_by_class.S1x24 ![1] hP.bcast_S24_S1x24_1 E
  Cert.Pre_sorted_by_class.fn_part1 (F := F) N E v16 v20 v19 (broadcastInDim Cert.Pre_sorted_by_class.S16384x24 ![0, 1] hP.bcast_S1x24_S16384x24_0_1 v21)

theorem fn_body : Cert.Pre_sorted_by_class.fn a0 a1 a2 a3 a4 = body (cntW a0) (endW a0) (clsW (F := F) a1) := rfl

theorem at_row (x : IVec S24 32) (i : S24.Idx) (c : Fin 24) (h : (i 0).val = c.val) : x i = x (ix1 c) :=
  congrArg x ((eq_ix1 i).trans (congrArg ix1 (Fin.ext h)))

theorem body_at (N E : IVec S24 32) (C : FVec F Cert.Pre_sorted_by_class.S16384x1 .f32) (r : Fin 16384) (c : Fin 24)
    (h : body N E C (ix2 r c) = 1#1) :
    (IntOp.cmpi .sge (N (ix1 c)) 0#32 = 1#1 ∧ IntOp.cmpi .sle (N (ix1 c)) 16384#32 = 1#1
      ∧ IntOp.cmpi .eq (E (ix1 (23 : Fin 24))) 16384#32 = 1#1)
    ∧ IntOp.cmpi .eq (FloatOps.cmpf .oeq (C (ix2 r (0 : Fin 1))) (FloatOps.sitofp .f32 (BitVec.ofNat 32 c.val)))
        (IntOp.andi (IntOp.cmpi .sle (E (ix1 c) - N (ix1 c)) (BitVec.ofNat 32 r.val))
          (IntOp.cmpi .slt (BitVec.ofNat 32 r.val) (E (ix1 c)))) = 1#1 := by
  obtain ⟨e1, e2⟩ := and_one.1 h
  obtain ⟨e3, e4⟩ := and_one.1 e1
  obtain ⟨e5, e6⟩ := and_one.1 e3
  have k1 : ∀ i : S24.Idx, (i 0).val = c.val → i = ix1 c := fun i h => (eq_ix1 i).trans (congrArg ix1 (Fin.ext h))
  refine ⟨⟨?_, ?_, ?_⟩, ?_⟩
  · exact (congrArg (fun i => IntOp.cmpi .sge (N i) 0#32) (k1 _ (by rfl))).symm.trans e5
  · exact (congrArg (fun i => IntOp.cmpi .sle (N i) 16384#32) (k1 _ (by rfl))).symm.trans e6
  · exact (congrArg (fun i => IntOp.cmpi .eq (E i) 16384#32) ((eq_ix1 _).trans (congrArg ix1 (Fin.ext (by rfl))))).symm.trans e4
  · have hC : ∀ i : Cert.Pre_sorted_by_class.S16384x1.Idx, (i 0).val = r.val → i = ix2 r (0 : Fin 1) := fun i h => by
      funext d
      match d with
      | ⟨0, _⟩ => exact Fin.ext h
      | ⟨1, _⟩ => exact Subsingleton.elim (α := Fin 1) _ _
    exact (congrArg₂ (fun (i : S24.Idx) (j : Cert.Pre_sorted_by_class.S16384x1.Idx) =>
      IntOp.cmpi .eq (FloatOps.cmpf .oeq (C j) (FloatOps.sitofp .f32 (BitVec.ofNat 32 c.val)))
        (IntOp.andi (IntOp.cmpi .sle (E i - N i) (BitVec.ofNat 32 r.val))
          (IntOp.cmpi .slt (BitVec.ofNat 32 r.val) (E i)))) (k1 _ (by rfl)) (hC _ (by rfl))).symm.trans e2

theorem given (h : Cert.Pre_sorted_by_class.fn a0 a1 a2 a3 a4 = fun _ => 1#1) (r : Fin 16384) (c : Fin 24) :
    (IntOp.cmpi .sge (cntW a0 (ix1 c)) 0#32 = 1#1 ∧ IntOp.cmpi .sle (cntW a0 (ix1 c)) 16384#32 = 1#1
      ∧ IntOp.cmpi .eq (endW a0 (ix1 (23 : Fin 24))) 16384#32 = 1#1)
    ∧ IntOp.cmpi .eq (FloatOps.cmpf .oeq (clsW (F := F) a1 (ix2 r (0 : Fin 1))) (FloatOps.sitofp .f32 (BitVec.ofNat 32 c.val)))
        (IntOp.andi (IntOp.cmpi .sle (endW a0 (ix1 c) - cntW a0 (ix1 c)) (BitVec.ofNat 32 r.val))
          (IntOp.cmpi .slt (BitVec.ofNat 32 r.val) (endW a0 (ix1 c)))) = 1#1 :=
  body_at _ _ _ r c (congrFun ((fn_body a0 a1 a2 a3 a4).symm.trans h) (ix2 r c))

/-- The counts of the classes as numbers. -/
def cnt (c : ℕ) : ℕ := if h : c < 24 then (cntW a0 (ix1 ⟨c, h⟩)).toNat else 0

theorem cnt_word (c : Fin 24) : cntW a0 (ix1 c) = BitVec.ofNat 32 (cnt a0 c.val) := by
  unfold cnt
  rw [dif_pos c.isLt, BitVec.ofNat_toNat, BitVec.setWidth_eq]

theorem end_word (c : Fin 24) : endW a0 (ix1 c) = BitVec.ofNat 32 (startOf (cnt a0) (c.val + 1)) := by
  unfold endW runSum
  exact Routing.cumsum1 (N := 24) (Nm1 := 23) rfl (cntW a0) (cnt a0) (cnt_word a0) _ rfl _ _ c

section
variable (h : Cert.Pre_sorted_by_class.fn a0 a1 a2 a3 a4 = fun _ => 1#1)
include h

theorem cnt_le (c : ℕ) : cnt a0 c ≤ 16384 := by
  by_cases hc : c < 24
  · obtain ⟨⟨h1, h2, _⟩, _⟩ := given a0 a1 a2 a3 a4 h 0 ⟨c, hc⟩
    rw [cmpi_sge_eq] at h1
    rw [cmpi_sle_eq] at h2
    unfold cnt
    rw [dif_pos hc]
    generalize cntW a0 (ix1 ⟨c, hc⟩) = w at *
    have h1' : (0#32 : BitVec 32).toInt ≤ w.toInt := by
      by_contra hh; rw [decide_eq_false hh] at h1; exact absurd h1 (by decide)
    have h2' : w.toInt ≤ (16384#32 : BitVec 32).toInt := by
      by_contra hh; rw [decide_eq_false hh] at h2; exact absurd h2 (by decide)
    have e0 : (0#32 : BitVec 32).toInt = 0 := by decide
    have e1 : (16384#32 : BitVec 32).toInt = 16384 := by decide
    rw [e0] at h1'
    rw [e1] at h2'
    rw [BitVec.toInt_eq_toNat_cond] at h1' h2'
    have := w.isLt
    split at h1' <;> omega
  · unfold cnt; rw [dif_neg hc]; omega

theorem total : startOf (cnt a0) 24 = 16384 := by
  have hb : ∀ c, startOf (cnt a0) c ≤ c * 16384 := by
    intro c
    induction c with
    | zero => exact le_rfl
    | succ c ih => rw [startOf_succ]; have := cnt_le a0 a1 a2 a3 a4 h c; omega
  obtain ⟨⟨_, _, h3⟩, _⟩ := given a0 a1 a2 a3 a4 h 0 0
  rw [end_word, show (16384#32 : BitVec 32) = BitVec.ofNat 32 16384 from rfl] at h3
  have hb24 := hb 24
  exact (cmpi_eq_ofNat_eq_one_iff (w := 32) (a := startOf (cnt a0) 24) (b := 16384) (by omega) (by decide)).1 h3

/-- A row carries a class, as a float, exactly when it is one of the class's rows. -/
theorem row_class (r : Fin 16384) (c : Fin 24) :
    FloatOps.cmpf .oeq (clsW (F := F) a1 (ix2 r (0 : Fin 1))) (FloatOps.sitofp .f32 (BitVec.ofNat 32 c.val)) = 1#1
      ↔ startOf (cnt a0) c.val ≤ r.val ∧ r.val < startOf (cnt a0) (c.val + 1) := by
  obtain ⟨_, h4⟩ := given a0 a1 a2 a3 a4 h r c
  have hT := total a0 a1 a2 a3 a4 h
  have h1 := startOf_le (cnt a0) hT (show c.val + 1 ≤ 24 from c.isLt)
  have hs := startOf_succ (cnt a0) c.val
  have hr := r.isLt
  have h0 : endW a0 (ix1 c) - cntW a0 (ix1 c) = BitVec.ofNat 32 (startOf (cnt a0) c.val) := by
    rw [end_word, cnt_word, Routing.ofNat32_sub (by omega), hs, Nat.add_sub_cancel]
  rw [h0, end_word] at h4
  rw [← cmpi_sle_ofNat_eq_one_iff (w := 32) (a := startOf (cnt a0) c.val) (b := r.val) (by omega) (by omega),
    ← cmpi_slt_ofNat_eq_one_iff (w := 32) (a := r.val) (b := startOf (cnt a0) (c.val + 1)) (by omega) (by omega), ← and_one]
  generalize FloatOps.cmpf .oeq (clsW (F := F) a1 (ix2 r (0 : Fin 1))) (FloatOps.sitofp .f32 (BitVec.ofNat 32 c.val)) = x at *
  generalize IntOp.andi (IntOp.cmpi .sle (BitVec.ofNat 32 (startOf (cnt a0) c.val)) (BitVec.ofNat 32 r.val))
    (IntOp.cmpi .slt (BitVec.ofNat 32 r.val) (BitVec.ofNat 32 (startOf (cnt a0) (c.val + 1)))) = y at *
  revert x y
  decide

end

end

section
variable {F : FTy → Type} [FloatOps F] [∀ e, Nonempty (Elt F e)] [hP : Cert.Pre_sorted_by_class.Facts]
  (m : (ℓ : Loc nD τ sig) → Buf (Elt F) ℓ)

/-- A buffer that the host code does not write. -/
theorem hostV_kept (r : Ref sig .tc) (h : r ∉ (written : List (Ref sig .tc))) : hostV m 0 r = (m (((0 : Dev nD).tc : Thread nD τ).loc r)) :=
  StableHlo.after_unwritten (written) (written_map (F := F)) h _

theorem v2_cnt : T_v2 m = cntW (F := F) (m (((0 : Dev nD).tc : Thread nD τ).loc main_arg0)) := by
  rw [T_v2_eq, T_v1_eq, T_v0_eq]
  have e : T_arg0 m = (m (((0 : Dev nD).tc : Thread nD τ).loc main_arg0)) := hostV_kept m main_arg0 (by decide)
  rw [e]
  rfl

/-- The counts that the memory holds. -/
abbrev cntOf (m : (ℓ : Loc nD τ sig) → Buf (Elt F) ℓ) : ℕ → ℕ := cnt (F := F) (m (((0 : Dev nD).tc : Thread nD τ).loc main_arg0))

/-- Under the precondition the call's tables are those of a plan. -/
theorem plan_of_pre (h : Cert.Pre_sorted_by_class.fn (F := F) (m (((0 : Dev nD).tc : Thread nD τ).loc main_arg0)) (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4)) = fun _ => 1#1) :
    Plan (tabs m) (nItems (cntOf m)) (blkNat (cntOf m)) (clsNat (cntOf m)) :=
  plan_tabs m (cntOf m) (fun c => by rw [v2_cnt]; exact cnt_word _ c) (total _ _ _ _ _ h)

end

end Cert.Experts
-- ==== Proof.Frames.lean ====
module

public import proofs.«01_k».proof.Proof.Given
public import proofs.«01_k».proof.Defs

/-! The two kernel frames, from the one run. -/

@[expose] public section

set_option maxRecDepth 4000

noncomputable section

namespace Cert.Experts

open Cert.KernelIdeal Cert.KernelIdeal.Gen
open Idealize.ShloMosaic hiding ix1 ix2 eq_ix1 eq_ix2
open Idealize.SL Idealize.SL.Sem

section
variable {F : FTy → Type} [FloatOps F] [∀ e, Nonempty (Elt F e)] [hP : Cert.Pre_sorted_by_class.Facts]
  (m : (ℓ : Loc nD τ sig) → Buf (Elt F) ℓ)

/-- The precondition at the memory's arguments. -/
def Sorted : Prop :=
  Cert.Pre_sorted_by_class.fn (F := F) (m (((0 : Dev nD).tc : Thread nD τ).loc main_arg0))
    (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4)) = fun _ => 1#1

/-- The arguments of core `c` are as the memory `m` holds them. -/
def Kept (m : (ℓ : Loc nD τ sig) → Buf (Elt F) ℓ) (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

variable (hs : Sorted m)

/-- The tables with the proof that the call may run under them. -/
def admOf : (pcfg0 (F := F)).Adm := ⟨tabs m, (plan_of_pre m hs).ok⟩

/-- The proof data of the call. -/
def datOf (c : Dev nD) : Pipeline.Dat τ (Elt F) Unit ℕ (UR sig nD τ) ℕ (cfg0 (admOf m hs)) c :=
  dats (admOf m hs) (hostV m) (nItems (cntOf m)) (blkNat (cntOf m)) c

/-- What the call's end says of the output and of the five arguments, for any tables `a` and contents `V`. -/
theorem post_args (a : (pcfg0 (F := F)).Adm) (V : (c : Dev nD) → (b : Ref sig .tc) → Buf (Elt F) ((c.tc : Thread nD τ).loc b))
    (nI : ℕ) (blk : ℕ → ℕ) (r : PUnit × MemSt nD τ sig (Elt F))
    (h : Pipeline.FramePost (Pipeline.pin (pcfgs (F := F)) (fun _ => a)) (fun _ c => dats a V nI blk c) 0 V r) (c : Dev nD) :
    r.2.mem ((c.tc : Thread nD τ).loc main_v92) = (dats a V nI blk c).arrAt (7 : Fin 8) (cfg0 a).N
      ∧ r.2.mem ((c.tc : Thread nD τ).loc main_arg0) = V c main_arg0
      ∧ r.2.mem ((c.tc : Thread nD τ).loc main_arg1) = V c main_arg1
      ∧ r.2.mem ((c.tc : Thread nD τ).loc main_arg2) = V c main_arg2
      ∧ r.2.mem ((c.tc : Thread nD τ).loc main_arg3) = V c main_arg3
      ∧ r.2.mem ((c.tc : Thread nD τ).loc main_arg4) = V c main_arg4 := by
  obtain ⟨h1, h2⟩ := h c
  have k0 : ∀ w : Fin 8, (spec0 w).arr.view.ref ≠ main_arg0 := by decide
  exact ⟨h1 (7 : Fin 8), h2 main_arg0 (Pipeline.mem_restRefs_of main_arg0 (by decide) k0),
    (h1 (0 : Fin 8)).trans (Pipeline.Dat.arrAt_in (dats a V nI blk c) (0 : Fin 8) rfl _),
    (h1 (1 : Fin 8)).trans (Pipeline.Dat.arrAt_in (dats a V nI blk c) (1 : Fin 8) rfl _),
    (h1 (2 : Fin 8)).trans (Pipeline.Dat.arrAt_in (dats a V nI blk c) (2 : Fin 8) rfl _),
    (h1 (3 : Fin 8)).trans (Pipeline.Dat.arrAt_in (dats a V nI blk c) (3 : Fin 8) rfl _)⟩

/-- The output array at the end of the call. -/
def outOf (c : Dev nD) : Buf (Elt F) ((c.tc : Thread nD τ).loc main_v92) := (datOf m hs c).arrAt (7 : Fin 8) (cfg0 (admOf m hs)).N

/-- The run: it ends, the output array holds what the proof data says, the arguments are kept, the semaphores rest. -/
theorem run_pre (ρ : Dev nD → PrngReg) :
    θ_run defs (onTc (τ := τ) (main (F := F))) ⟨m, fun _ => 0, ρ⟩
      (fun r => (∀ c : Dev nD, r.2.mem ((c.tc : Thread nD τ).loc main_v92) = outOf m hs c ∧ Kept m r.2 c) ∧ r.2.sem = fun _ => 0) :=
  (θ_run defs _ _).mono (fun r h => ⟨fun c => by
    obtain rfl : c = 0 := Subsingleton.elim c 0
    have k0 := hostV_kept m main_arg0 (by decide)
    have k1 := hostV_kept m main_arg1 (by decide)
    have k2 := hostV_kept m main_arg2 (by decide)
    have k3 := hostV_kept m main_arg3 (by decide)
    have k4 := hostV_kept m main_arg4 (by decide)
    have q := post_args (admOf m hs) (hostV m) (nItems (cntOf m)) (blkNat (cntOf m)) r h.1 0
    exact ⟨q.1, q.2.1.trans k0, q.2.2.1.trans k1, q.2.2.2.1.trans k2, q.2.2.2.2.1.trans k3, q.2.2.2.2.2.trans k4⟩, h.2⟩)
    (run_main (nItems (cntOf m)) (blkNat (cntOf m)) (clsNat (cntOf m)) m ρ (plan_of_pre m hs))

end

variable [hP : Cert.Pre_sorted_by_class.Facts]

theorem frame_kernelIdeal : Cert.quiescent_KernelIdeal := fun m ρ hs =>
  (θ_run defs _ _).mono (fun _ h => ⟨fun c => (h.1 c).2, h.2⟩) (run_pre (F := Ideal) m (hs 0) ρ)

end Cert.Experts

end
-- ==== Proof.Same.lean ====
module

public import proofs.«01_k».proof.Proof.Frames
public import proofs.«01_k».proof.Proof.Gen.Kernel.Launch

/-! The program before and after its idealization has one text: the frame of the first from the run of the second. -/

@[expose] public section

set_option maxRecDepth 4000
set_option maxHeartbeats 1000000

noncomputable section

namespace Cert.Experts

open Idealize.ShloMosaic
open Idealize.SL Idealize.SL.Sem
open Cert.KernelIdeal.Gen Cert.Kernel.Gen

section
variable {F : FTy → Type} [FloatOps F]

theorem body_same : Cert.Kernel.defs₀ (F := F) = Cert.KernelIdeal.defs₀ (F := F) := by
  unfold Cert.Kernel.defs₀ Cert.KernelIdeal.defs₀
  refine congrArg Defs.onTc ?_
  funext p
  match p with
  | 0 => rfl

theorem calls_same : Cert.Kernel.pcfgs (F := F) = Cert.KernelIdeal.pcfgs (F := F) := rfl

theorem defs_same : Cert.Kernel.defs (F := F) = Cert.KernelIdeal.defs (F := F) :=
  congrArg (Pipeline.defs (Cert.KernelIdeal.pcfgs (F := F))) body_same

theorem main_same : Cert.Kernel.main (F := F) = Cert.KernelIdeal.main (F := F) := by
  funext c
  refine (Cert.Kernel.Gen.main_chain (F := F) c).trans (Eq.trans ?_ (Cert.KernelIdeal.Gen.main_chain (F := F) c).symm)
  exact rfl

end

end Cert.Experts

end
-- ==== Proof.First.lean ====
module

public import proofs.«01_k».proof.Proof.Same

/-! The frame of the program as it was printed. -/

@[expose] public section

set_option maxRecDepth 4000
set_option maxHeartbeats 1000000

noncomputable section

namespace Cert.Experts

open Idealize.ShloMosaic
open Idealize.SL Idealize.SL.Sem
open Cert.KernelIdeal.Gen Cert.Kernel.Gen

theorem frame_kernel [hP : Cert.Pre_sorted_by_class.Facts] : Cert.quiescent_Kernel := by
  intro m ρ hs
  rw [defs_same, main_same]
  exact (θ_run (Cert.KernelIdeal.defs (F := Bits)) (onTc (τ := Cert.KernelIdeal.τ) (Cert.KernelIdeal.main (F := Bits))) ⟨m, fun _ => 0, ρ⟩).mono
    (fun r h => ⟨fun c => (h.1 c).2, h.2⟩) (run_pre (F := Bits) m (hs 0) ρ)

end Cert.Experts

end
-- ==== Proof.Order.lean ====
/-
  The items in order: their blocks do not step back, and a block's items of one class are one item.
-/
module

public import proofs.«01_k».proof.Proof.Plain

@[expose] public section

namespace Cert.Experts

variable (n : ℕ → ℕ)

/-- The blocks of the items do not step back. -/
theorem blkNat_mono {k k' : ℕ} (h : k ≤ k') (hk : k' < nItems n) : blkNat n k ≤ blkNat n k' := by
  rw [(blkNat_of_lt n hk).2, (blkNat_of_lt n (h.trans_lt hk)).2]
  have s := item_spec n (h.trans_lt hk)
  have s' := item_spec n hk
  have q := clsAt_spec n (h.trans_lt hk)
  have q' := clsAt_spec n hk
  generalize clsAt n k = c at s q ⊢
  generalize clsAt n k' = c' at s' q' ⊢
  rcases lt_trichotomy c c' with hc | hc | hc
  · have := startOf_mono n (show c + 1 ≤ c' by omega)
    have e := startOf_succ n c
    omega
  · subst hc; omega
  · have := itemStart_mono n (show c' + 1 ≤ c by omega)
    omega

/-- Two items of one block and one class are one item. -/
theorem item_unique {k k' : ℕ} (hk : k < nItems n) (hk' : k' < nItems n) (hc : clsAt n k = clsAt n k')
    (hb : blkNat n k = blkNat n k') : k = k' := by
  rw [(blkNat_of_lt n hk).2, (blkNat_of_lt n hk').2, hc] at hb
  have s := item_spec n hk
  have s' := item_spec n hk'
  rw [hc] at s
  omega

/-- A row lies in the rows of one class. -/
theorem class_unique {r c c' : ℕ} (h0 : startOf n c ≤ r) (h1 : r < startOf n (c + 1)) (h0' : startOf n c' ≤ r)
    (h1' : r < startOf n (c' + 1)) : c = c' := by
  rcases lt_trichotomy c c' with hc | hc | hc
  · have := startOf_mono n (show c + 1 ≤ c' by omega); omega
  · exact hc
  · have := startOf_mono n (show c' + 1 ≤ c by omega); omega

end Cert.Experts
-- ==== Proof.Sum.lean ====
/-
  The running sum at a block's end, at exact values: one item of the block counts in a row, the others add zero to it.
-/
module

public import proofs.«01_k».proof.Proof.Data
public import Idealize.ShloMosaic.PureOps.Ideal

@[expose] public section

set_option maxRecDepth 4000

noncomputable section

namespace Cert.Experts

open Cert.KernelIdeal Cert.KernelIdeal.Gen
open Idealize.ShloMosaic Idealize.ShloMosaic.TcCoe

variable (a : (pcfg0 (F := Ideal)).Adm)
  (V : (c : Dev nD) → (b : Ref sig .tc) → Buf (Elt Ideal) ((c.tc : Thread nD τ).loc b))
  (nI : ℕ) (blk cls : ℕ → ℕ)

/-- The running sum in one row, while the items of block `b` are taken: the value `v` from item `k` on. -/
theorem acc_at (c : Dev nD) (i : S256x1024.Idx) (b k : ℕ) (v : EReal) (hle : nI ≤ 88) (hkb : blk k = b)
    (hmono : ∀ i j, i ≤ j → j < nI → blk i ≤ blk j)
    (hon : ∀ t : Fin grid0.N, t.val = k → item a V c t i = v)
    (hoff : ∀ t : Fin grid0.N, t.val < nI → blk t.val = b → t.val ≠ k → item a V c t i = (0 : EReal)) :
    ∀ n, n < nI → blk n = b → accAt a V nI blk c (n + 1) i = if k ≤ n then v else (0 : EReal) := by
  have hN : grid0.N = 88 := N_0
  intro n
  induction n with
  | zero =>
    intro hn hb
    have e := congrFun (accAt_item a V nI blk c ⟨0, by omega⟩ hn) i
    have hf : firstB blk 0 = true := by simp [firstB]
    refine e.trans ?_
    show accNext (firstB blk 0) _ _ i = _
    rw [hf]
    show item a V c ⟨0, _⟩ i = _
    by_cases hk : k = 0
    · rw [if_pos (by omega)]; exact hon _ hk.symm
    · rw [if_neg (by omega)]; exact hoff _ hn hb (fun h => hk h.symm)
  | succ n ih =>
    intro hn hb
    have e := congrFun (accAt_item a V nI blk c ⟨n + 1, by omega⟩ hn) i
    refine e.trans ?_
    show accNext (firstB blk (n + 1)) (accAt a V nI blk c (n + 1)) _ i = _
    have hm := hmono n (n + 1) (by omega) hn
    by_cases hp : blk (n + 1) = blk n
    · have hf : firstB blk (n + 1) = false := by simp [firstB, hp]
      rw [hf]
      show (accAt a V nI blk c (n + 1) i + item a V c ⟨n + 1, _⟩ i : EReal) = _
      rw [ih (by omega) (hp.symm.trans hb)]
      by_cases hk : n + 1 = k
      · rw [if_neg (by omega), if_pos (by omega), hon ⟨n + 1, by omega⟩ hk, zero_add]
      · rw [hoff ⟨n + 1, by omega⟩ hn hb hk, add_zero]
        by_cases hkn : k ≤ n
        · rw [if_pos hkn, if_pos (by omega)]
        · rw [if_neg hkn, if_neg (by omega)]
    · have hf : firstB blk (n + 1) = true := by simp [firstB, hp]
      rw [hf]
      show (item a V c ⟨n + 1, _⟩ i : EReal) = _
      by_cases hk : n + 1 = k
      · rw [if_pos (by omega)]; exact hon _ hk
      · rw [hoff ⟨n + 1, by omega⟩ hn hb hk]
        by_cases hkn : k ≤ n + 1
        · exfalso
          have h1 := hmono k n (by omega) (by omega)
          omega
        · rw [if_neg hkn]

variable (hP : Plan a.1 nI blk cls)
include hP

/-- Where a block is written back, the running sum's row holds the value of its one item. -/
theorem acc_flushed (c : Dev nD) (t : Fin grid0.N) (hfl : (win0 a 7).flush t = true) (i : S256x1024.Idx) (k : ℕ) (v : EReal)
    (hk : k < nI) (hkb : blk k = blk t.val)
    (hmono : ∀ i j, i ≤ j → j < nI → blk i ≤ blk j)
    (hon : ∀ t' : Fin grid0.N, t'.val = k → item a V c t' i = v)
    (hoff : ∀ t' : Fin grid0.N, t'.val < nI → blk t'.val = blk t.val → t'.val ≠ k → item a V c t' i = (0 : EReal)) :
    accAt a V nI blk c (t.val + 1) i = v := by
  have hN : grid0.N = 88 := N_0
  have hpos := hP.pos
  have hle := hP.le
  have key := acc_at a V nI blk c i (blk t.val) k v (by omega) hkb hmono hon hoff
  rcases flush7_imp a nI blk cls hP t hfl with ⟨h1, h2⟩ | h87
  · rw [key t.val h1 rfl, if_pos]
    by_contra hlt
    have h3 : t.val + 1 = nI ∨ blk (t.val + 1) ≠ blk t.val := by simpa [lastB] using h2
    rcases h3 with h3 | h3
    · omega
    · have m1 := hmono t.val (t.val + 1) (by omega) (by omega)
      have m2 := hmono (t.val + 1) k (by omega) hk
      omega
  · have hb : blk (nI - 1) = blk t.val := (hP.tail t.val (by omega)).symm
    have e1 : t.val + 1 = nI + (88 - nI) := by omega
    rw [e1, accAt_stays]
    have h := key (nI - 1) (by omega) hb
    rw [show nI - 1 + 1 = nI by omega, if_pos (by omega)] at h
    exact h

/-- Every block that an item works on is written back at some point. -/
theorem exists_flush (b k : ℕ) (hk : k < nI) (hkb : blk k = b) :
    ∃ t : Fin grid0.N, (win0 a 7).flush t = true ∧ blk t.val = b := by
  have hN : grid0.N = 88 := N_0
  have hle := hP.le
  obtain ⟨t, ht, htb, hmax⟩ : ∃ t, t < 88 ∧ blk t = b ∧ ∀ s, t < s → s < 88 → blk s ≠ b := by
    refine ⟨Nat.findGreatest (fun s => blk s = b) 87, ?_, ?_, ?_⟩
    · have := Nat.findGreatest_le (P := fun s => blk s = b) 87
      omega
    · exact Nat.findGreatest_spec (P := fun s => blk s = b) (show k ≤ 87 by omega) hkb
    · intro s h1 h2
      exact Nat.findGreatest_is_greatest (P := fun s => blk s = b) h1 (by omega)
  refine ⟨⟨t, by omega⟩, ?_, htb⟩
  unfold Pipeline.Window.flush
  simp only [Bool.and_eq_true, Bool.or_eq_true, decide_eq_true_eq]
  refine ⟨trivial, ?_⟩
  by_cases h : t + 1 = grid0.N
  · left; exact h
  · right
    refine ⟨by show t + 1 < grid0.N; omega, ?_⟩
    rw [index7 a nI blk cls hP, index7 a nI blk cls hP]
    intro e
    have e0 := congrFun e 0
    exact hmax (t + 1) (by omega) (by omega) ((show blk (t + 1) = blk t from e0).trans htb)

end Cert.Experts

end
-- ==== Proof.Spec.lean ====
/-
  What both programs are shown to compute, at exact values: the row of a token, its gates and the two experts of its class.
-/
module

public import proofs.«01_k».proof.Proof.Plan
public import Idealize.ShloMosaic.Lib.Pointwise
public import Idealize.ShloMosaic.PureOps.Ideal

@[expose] public section

noncomputable section

namespace Cert.Experts

open Idealize.ShloMosaic

/-- The eight rows of 128 words that hold one token's record. -/
abbrev Rec : Type := Fin 8 → Fin 128 → BitVec 32

/-- Component `d` of a record's token: the low halves of its first 512 words, then the high halves. -/
def tok (x : Rec) (d : Fin 1024) : Ideal .f32 :=
  if h : d.val < 512 then
    Ideal.ofBits .bf16 ((x ⟨d.val / 128, by omega⟩ ⟨d.val % 128, by omega⟩).extractLsb' 0 16)
  else
    Ideal.ofBits .bf16 ((x ⟨(d.val - 512) / 128, by omega⟩ ⟨(d.val - 512) % 128, by omega⟩).extractLsb' 16 16)

/-- The activated product of an expert's two first projections. -/
def act (a b : Ideal .f32) : Ideal .f32 := a * Ideal.div 1 (1 + Ideal.exp (-a)) * b

/-- Hidden unit `f` of one expert with first projections `p` and `q`. -/
def unit (x : Rec) (p q : Fin 1024 → Fin 256 → Ideal .f32) (f : Fin 256) : Ideal .f32 :=
  act (∑ d : Fin 1024, tok x d * p d f) (∑ d : Fin 1024, tok x d * q d f)

/-- Field `j` of a record's fifth row of words, as a number. -/
def field (x : Rec) (j : Fin 128) : Ideal .f32 := Ideal.ofBits .f32 (x 4 j)

/-- Component `d` of one expert's gated result. -/
def expert (x : Rec) (g : Ideal .f32) (p q : Fin 1024 → Fin 256 → Ideal .f32) (w : Fin 256 → Fin 1024 → Ideal .f32)
    (d : Fin 1024) : Ideal .f32 :=
  ∑ f : Fin 256, unit x p q f * g * w f d

/-- An expert whose gate is zero gives zero. -/
theorem expert_zero (x : Rec) (p q : Fin 1024 → Fin 256 → Ideal .f32) (w : Fin 256 → Fin 1024 → Ideal .f32) (d : Fin 1024) :
    expert x 0 p q w d = 0 := by
  unfold expert
  refine Finset.sum_eq_zero fun f _ => ?_
  rw [mul_zero, zero_mul]

end Cert.Experts

end
-- ==== Proof.Item.lean ====
/-
  One item of the kernel, read at a row and a component, at exact values.
-/
module

public import proofs.«01_k».proof.Proof.Body
public import proofs.«01_k».proof.Proof.Spec

@[expose] public section

set_option maxRecDepth 16384

noncomputable section

namespace Cert.Experts

open Cert.KernelIdeal Cert.KernelIdeal.Gen
open Idealize.ShloMosaic

/-- The record of row `y` in a block of records. -/
def recB (X : S2048x128.Idx → BitVec 32) (y : Fin 256) : Rec := fun j l => X (ix2 ⟨8 * y.val + j.val, by omega⟩ l)

theorem rec_eq (x : Rec) {i i' : Fin 8} {l l' : Fin 128} (hi : i.val = i'.val) (hl : l.val = l'.val) : x i l = x i' l' := by
  rw [Fin.ext hi, Fin.ext hl]

theorem part_at (X : S2048x128.Idx → BitVec 32) (y : Fin 256) (l : Fin 128) :
    part (F := Ideal) rect0 X (ix2 y l) = recB X y 0 l ∧ part (F := Ideal) rect1 X (ix2 y l) = recB X y 1 l
    ∧ part (F := Ideal) rect2 X (ix2 y l) = recB X y 2 l ∧ part (F := Ideal) rect3 X (ix2 y l) = recB X y 3 l
    ∧ part (F := Ideal) rect4 X (ix2 y l) = recB X y 4 l := by
  refine ⟨congrArg X ?_, congrArg X ?_, congrArg X ?_, congrArg X ?_, congrArg X ?_⟩ <;>
  · funext a
    apply Fin.ext
    match a with
    | 0 => simp [LoadRect.idx, ix2]; try omega
    | 1 => simp [LoadRect.idx, ix2]

/-- The token's component in the kernel's joined halves. -/
theorem hidden_at (X : S2048x128.Idx → BitVec 32) (y : Fin 256) (d : Fin 1024) :
    hidden (F := Ideal) X (ix2 y d) = tok (recB X y) d := by
  unfold hidden
  have hp := part_at X y
  generalize part (F := Ideal) rect0 X = P0 at hp ⊢
  generalize part (F := Ideal) rect1 X = P1 at hp ⊢
  generalize part (F := Ideal) rect2 X = P2 at hp ⊢
  generalize part (F := Ideal) rect3 X = P3 at hp ⊢
  generalize part (F := Ideal) rect4 X = P4 at hp ⊢
  have hd := d.isLt
  pointwise [k0_pay4, tok]
  by_cases h0 : d.val < 128
  · rw [dif_pos h0, dif_pos (show d.val < 512 by omega)]
    exact congrArg (fun w => Ideal.ofBits .bf16 (BitVec.extractLsb' 0 16 w))
      ((hp _).1.trans (rec_eq _ (show 0 = d.val / 128 by omega) (show d.val = d.val % 128 by omega)))
  rw [dif_neg h0]
  by_cases h1 : d.val - 128 < 128
  · rw [dif_pos h1, dif_pos (show d.val < 512 by omega)]
    exact congrArg (fun w => Ideal.ofBits .bf16 (BitVec.extractLsb' 0 16 w))
      ((hp _).2.1.trans (rec_eq _ (show 1 = d.val / 128 by omega) (show d.val - 128 = d.val % 128 by omega)))
  rw [dif_neg h1]
  by_cases h2 : d.val - 128 - 128 < 128
  · rw [dif_pos h2, dif_pos (show d.val < 512 by omega)]
    exact congrArg (fun w => Ideal.ofBits .bf16 (BitVec.extractLsb' 0 16 w))
      ((hp _).2.2.1.trans (rec_eq _ (show 2 = d.val / 128 by omega) (show d.val - 128 - 128 = d.val % 128 by omega)))
  rw [dif_neg h2]
  by_cases h3 : d.val - 128 - 128 - 128 < 128
  · rw [dif_pos h3, dif_pos (show d.val < 512 by omega)]
    exact congrArg (fun w => Ideal.ofBits .bf16 (BitVec.extractLsb' 0 16 w))
      ((hp _).2.2.2.1.trans (rec_eq _ (show 3 = d.val / 128 by omega) (show d.val - 128 - 128 - 128 = d.val % 128 by omega)))
  rw [dif_neg h3, dif_neg (show ¬ d.val < 512 by omega)]
  by_cases h4 : d.val - 128 - 128 - 128 - 128 < 128
  · rw [dif_pos h4]
    exact congrArg (fun w => Ideal.ofBits .bf16 (BitVec.extractLsb' 16 16 w))
      ((hp _).1.trans (rec_eq _ (show 0 = (d.val - 512) / 128 by omega)
        (show d.val - 128 - 128 - 128 - 128 = (d.val - 512) % 128 by omega)))
  rw [dif_neg h4]
  by_cases h5 : d.val - 128 - 128 - 128 - 128 - 128 < 128
  · rw [dif_pos h5]
    exact congrArg (fun w => Ideal.ofBits .bf16 (BitVec.extractLsb' 16 16 w))
      ((hp _).2.1.trans (rec_eq _ (show 1 = (d.val - 512) / 128 by omega)
        (show d.val - 128 - 128 - 128 - 128 - 128 = (d.val - 512) % 128 by omega)))
  rw [dif_neg h5]
  by_cases h6 : d.val - 128 - 128 - 128 - 128 - 128 - 128 < 128
  · rw [dif_pos h6]
    exact congrArg (fun w => Ideal.ofBits .bf16 (BitVec.extractLsb' 16 16 w))
      ((hp _).2.2.1.trans (rec_eq _ (show 2 = (d.val - 512) / 128 by omega)
        (show d.val - 128 - 128 - 128 - 128 - 128 - 128 = (d.val - 512) % 128 by omega)))
  rw [dif_neg h6]
  exact congrArg (fun w => Ideal.ofBits .bf16 (BitVec.extractLsb' 16 16 w))
    ((hp _).2.2.2.1.trans (rec_eq _ (show 3 = (d.val - 512) / 128 by omega)
      (show d.val - 128 - 128 - 128 - 128 - 128 - 128 - 128 = (d.val - 512) % 128 by omega)))

/-- The gate of an expert in an item of class word `w`: field `j` where the record is of that class, and else zero. -/
def gateAt (x : Rec) (w : BitVec 32) (j : Fin 128) : Ideal .f32 :=
  Scalar.select (FloatOps.cmpf .oeq (field x 0) (FloatOps.sitofp (F := Ideal) .f32 w)) (field x j) 0

theorem pay7_at (Q : S256x128.Idx → BitVec 32) (w : BitVec 32) (y : Fin 256) :
    k0_pay7 (F := Ideal) Q w (ix2 y 0) = Scalar.select (FloatOps.cmpf .oeq (Ideal.ofBits .f32 (Q (ix2 y 0)) : Ideal .f32) (FloatOps.sitofp (F := Ideal) .f32 w)) (Ideal.ofBits .f32 (Q (ix2 y 2))) 0 := by
  pointwise [k0_pay7, k0_pay6, k0_pay5]
  rfl
theorem pay8_at (Q : S256x128.Idx → BitVec 32) (w : BitVec 32) (y : Fin 256) :
    k0_pay8 (F := Ideal) Q w (ix2 y 0) = Scalar.select (FloatOps.cmpf .oeq (Ideal.ofBits .f32 (Q (ix2 y 0)) : Ideal .f32) (FloatOps.sitofp (F := Ideal) .f32 w)) (Ideal.ofBits .f32 (Q (ix2 y 3))) 0 := by
  pointwise [k0_pay8, k0_pay6, k0_pay5]
  rfl

theorem pay10_at (H : S256x1024.Idx → EReal) (G : S256x1.Idx → EReal) (p q : S1x1x1024x256.Idx → EReal) (y : Fin 256) (f : Fin 256) :
    k0_pay10 (F := Ideal) H G p q (ix2 y f)
      = act (∑ d : Fin 1024, H (ix2 y d) * p (ix4 0 0 d f)) (∑ d : Fin 1024, H (ix2 y d) * q (ix4 0 0 d f)) * G (ix2 y 0) := by
  pointwise [k0_pay10, act]
  rw [zero_sub]

theorem pay11_at (H : S256x1024.Idx → EReal) (G : S256x1.Idx → EReal) (p q : S1x1x1024x256.Idx → EReal) (y : Fin 256) (f : Fin 256) :
    k0_pay11 (F := Ideal) H G (k0_pay9 p) (constant S256x256 .f32 0x00000000#32) q (ix2 y f)
      = act (∑ d : Fin 1024, H (ix2 y d) * p (ix4 0 0 d f)) (∑ d : Fin 1024, H (ix2 y d) * q (ix4 0 0 d f)) * G (ix2 y 0) := by
  pointwise [k0_pay11, k0_pay9, act]
  rw [zero_sub]

theorem pay1_at (A B : S256x256.Idx → EReal) (u v : S1x1x256x1024.Idx → EReal) (y : Fin 256) (d : Fin 1024) :
    k0_pay1 (F := Ideal) A B u v (ix2 y d)
      = (∑ f : Fin 256, B (ix2 y f) * u (ix4 0 0 f d)) + ∑ f : Fin 256, A (ix2 y f) * v (ix4 0 0 f d) := by
  pointwise [k0_pay1]

/-- One item's result at row `y`, component `d`: the two experts on the row's token, each gated. -/
theorem itemOut_at (X : S2048x128.Idx → BitVec 32) (w : BitVec 32) (p1 q1 : S1x1x1024x256.Idx → EReal)
    (u1 : S1x1x256x1024.Idx → EReal) (p2 q2 : S1x1x1024x256.Idx → EReal) (u2 : S1x1x256x1024.Idx → EReal)
    (y : Fin 256) (d : Fin 1024) :
    itemOut (F := Ideal) X w p1 q1 u1 p2 q2 u2 (ix2 y d)
      = expert (recB X y) (gateAt (recB X y) w 2) (fun d f => p1 (ix4 0 0 d f)) (fun d f => q1 (ix4 0 0 d f))
          (fun f d => u1 (ix4 0 0 f d)) d
        + expert (recB X y) (gateAt (recB X y) w 3) (fun d f => p2 (ix4 0 0 d f)) (fun d f => q2 (ix4 0 0 d f))
          (fun f d => u2 (ix4 0 0 f d)) d := by
  have hT : ∀ d, hidden (F := Ideal) X (ix2 y d) = tok (recB X y) d := hidden_at X y
  have h2 : k0_pay7 (F := Ideal) (part rect4 X) w (ix2 y 0) = gateAt (recB X y) w 2 := by
    refine (pay7_at _ w y).trans ?_
    rw [(part_at X y 0).2.2.2.2, (part_at X y 2).2.2.2.2]; rfl
  have h3 : k0_pay8 (F := Ideal) (part rect4 X) w (ix2 y 0) = gateAt (recB X y) w 3 := by
    refine (pay8_at _ w y).trans ?_
    rw [(part_at X y 0).2.2.2.2, (part_at X y 3).2.2.2.2]; rfl
  unfold itemOut
  generalize hidden (F := Ideal) X = H at hT ⊢
  generalize k0_pay7 (F := Ideal) (part rect4 X) w = G2 at h2 ⊢
  generalize k0_pay8 (F := Ideal) (part rect4 X) w = G3 at h3 ⊢
  refine (pay1_at _ _ u1 u2 y d).trans ?_
  unfold expert unit
  congr 1
  · refine Finset.sum_congr rfl fun f _ => ?_
    congr 1
    refine (pay11_at H G2 p1 q1 y f).trans ?_
    rw [h2]; simp only [hT]
  · refine Finset.sum_congr rfl fun f _ => ?_
    congr 1
    refine (pay10_at H G3 p2 q2 y f).trans ?_
    rw [h3]; simp only [hT]

/-- Where the record is not of the item's class, the item adds zero to its row. -/
theorem gateAt_off (x : Rec) (w : BitVec 32) (j : Fin 128)
    (h : ¬ FloatOps.cmpf .oeq (field x 0) (FloatOps.sitofp (F := Ideal) .f32 w) = 1#1) : gateAt x w j = 0 := by
  unfold gateAt Scalar.select
  exact if_neg h
theorem gateAt_on (x : Rec) (w : BitVec 32) (j : Fin 128)
    (h : FloatOps.cmpf .oeq (field x 0) (FloatOps.sitofp (F := Ideal) .f32 w) = 1#1) : gateAt x w j = field x j := by
  unfold gateAt Scalar.select
  exact if_pos h

end Cert.Experts

end
-- ==== Proof.Stages.lean ====
/-
  The reference as the printed program writes it, in named stages.
-/
module

public import proofs.«01_k».proof.Proof.Gen.ReferenceIdeal.Run
public import Idealize.ShloMosaic.PureOps.Ideal

@[expose] public section

set_option maxRecDepth 16384

noncomputable section

namespace Cert.Experts.Ref

open Cert.ReferenceIdeal Cert.ReferenceIdeal.Gen Cert.ReferenceIdeal.Value
open Idealize.ShloMosaic Idealize.ShloMosaic.TcCoe

/-- The records, eight rows of words each. -/
def recs (a : IVec S131072x128 32) : IVec S16384x8x128 32 :=
  shapeCast _ a shapeCasts_S131072x128_S16384x8x128

/-- The fifth row of a record, as numbers. -/
def metaF (R : IVec S16384x8x128 32) : FVec Ideal S16384x128 .f32 :=
  bitcastToFloat (F := Ideal) .f32 (shapeCast _ (extractStridedSlice S16384x1x128 ![0, 4, 0] R slices_S16384x8x128_S16384x1x128_0_4_0) shapeCasts_S16384x1x128_S16384x128)

/-- The first four rows of a record, as pairs of halves. -/
def halves (R : IVec S16384x8x128 32) : FVec Ideal S16384x512x2 .bf16 :=
  bitcastToFloat (F := Ideal) .bf16 (Host.bitcastConvertNarrow S16384x512x2 16 (shapeCast _ (extractStridedSlice S16384x4x128 ![0, 0, 0] R slices_S16384x8x128_S16384x4x128_0_0_0) shapeCasts_S16384x4x128_S16384x512) splits_S16384x512_w32_S16384x512x2_w16)

/-- The tokens. -/
def toks (X : FVec Ideal S16384x512x2 .bf16) : FVec Ideal S16384x1024 .f32 :=
  extf .f32 (concatenate S16384x1024 1 [⟨S16384x512, (shapeCast _ (extractStridedSlice S16384x512x1 ![0, 0, 0] X slices_S16384x512x2_S16384x512x1_0_0_0) shapeCasts_S16384x512x1_S16384x512)⟩, ⟨S16384x512, (shapeCast _ (extractStridedSlice S16384x512x1 ![0, 0, 1] X slices_S16384x512x2_S16384x512x1_0_0_1) shapeCasts_S16384x512x1_S16384x512)⟩] concatenates_S16384x512_S16384x512_S16384x1024_d1) bitsLt_bf16_f32

/-- The second layer's weights of a first projection. -/
def up (w : FVec Ideal S2x16x1024x256 .f32) : FVec Ideal S16x1024x256 .f32 :=
  shapeCast _ (extractStridedSlice S1x16x1024x256 ![1, 0, 0, 0] w slices_S2x16x1024x256_S1x16x1024x256_1_0_0_0) shapeCasts_S1x16x1024x256_S16x1024x256

/-- The second layer's weights of the second projection. -/
def down (w : FVec Ideal S2x16x256x1024 .f32) : FVec Ideal S16x256x1024 .f32 :=
  shapeCast _ (extractStridedSlice S1x16x256x1024 ![1, 0, 0, 0] w slices_S2x16x256x1024_S1x16x256x1024_1_0_0_0) shapeCasts_S1x16x256x1024_S16x256x1024

/-- The class words. -/
def classes (M : FVec Ideal S16384x128 .f32) : IVec S16384x1 32 :=
  fptosi 32 (extractStridedSlice S16384x1 ![0, 0] M slices_S16384x128_S16384x1_0_0)

/-- A first projection of every token by every expert. -/
def proj (T : FVec Ideal S16384x1024 .f32) (w : FVec Ideal S16x1024x256 .f32) : FVec Ideal S16384x16x256 .f32 :=
  Host.dotGeneral dot_S16384x1024_S16x1024x256_S16384x16x256_1_1_0_02_n_n none T w

/-- The divisor of the remainder. -/
def divisor : IVec S_ 32 :=
  select (cmpi .eq (id (constantI S_ 32 6#32)) (constantI S_ 32 0#32)) (constantI S_ 32 1#32) (id (constantI S_ 32 6#32))

/-- The class's pair number. -/
def pairs (C : IVec S16384x1 32) : IVec S16384x1 32 :=
  select (andi (cmpi .ne (cmpi .slt (Host.remsi C (broadcastInDim S16384x1 ![] bcast_S_S16384x1 divisor)) (broadcastInDim S16384x1 ![] bcast_S_S16384x1 (constantI S_ 32 0#32))) (broadcastInDim S16384x1 ![] bcast_S_S16384x1 (cmpi .slt divisor (constantI S_ 32 0#32)))) (cmpi .ne (Host.remsi C (broadcastInDim S16384x1 ![] bcast_S_S16384x1 divisor)) (broadcastInDim S16384x1 ![] bcast_S_S16384x1 (constantI S_ 32 0#32)))) (addi (Host.remsi C (broadcastInDim S16384x1 ![] bcast_S_S16384x1 divisor)) (broadcastInDim S16384x1 ![] bcast_S_S16384x1 divisor)) (Host.remsi C (broadcastInDim S16384x1 ![] bcast_S_S16384x1 divisor))

/-- Four times the class's group number. -/
def base (C : IVec S16384x1 32) : IVec S16384x1 32 :=
  muli (select (andi (cmpi .ne (signi C) (broadcastInDim S16384x1 ![] bcast_S_S16384x1 (signi (id (constantI S_ 32 6#32))))) (cmpi .ne (Host.remsi C (broadcastInDim S16384x1 ![] bcast_S_S16384x1 (id (constantI S_ 32 6#32)))) (broadcastInDim S16384x1 ![] bcast_S_S16384x1 (constantI S_ 32 0#32)))) (subi (Host.divsi C (broadcastInDim S16384x1 ![] bcast_S_S16384x1 (id (constantI S_ 32 6#32)))) (broadcastInDim S16384x1 ![] bcast_S_S16384x1 (constantI S_ 32 1#32))) (Host.divsi C (broadcastInDim S16384x1 ![] bcast_S_S16384x1 (id (constantI S_ 32 6#32))))) (broadcastInDim S16384x1 ![] bcast_S_S16384x1 (constantI S_ 32 4#32))

/-- The pair's first expert within the group. -/
def first (P : IVec S16384x1 32) : IVec S16384x1 32 :=
  id (select (cmpi .slt P (broadcastInDim S16384x1 ![] bcast_S_S16384x1 (constantI S_ 32 3#32))) (broadcastInDim S16384x1 ![] bcast_S_S16384x1 (constantI S_ 32 0#32)) (select (cmpi .slt P (broadcastInDim S16384x1 ![] bcast_S_S16384x1 (constantI S_ 32 5#32))) (broadcastInDim S16384x1 ![] bcast_S_S16384x1 (constantI S_ 32 1#32)) (broadcastInDim S16384x1 ![] bcast_S_S16384x1 (constantI S_ 32 2#32))))

/-- The pair's second expert within the group. -/
def second (P : IVec S16384x1 32) : IVec S16384x1 32 :=
  select (cmpi .slt P (broadcastInDim S16384x1 ![] bcast_S_S16384x1 (constantI S_ 32 3#32))) (addi P (broadcastInDim S16384x1 ![] bcast_S_S16384x1 (constantI S_ 32 1#32))) (select (cmpi .slt P (broadcastInDim S16384x1 ![] bcast_S_S16384x1 (constantI S_ 32 5#32))) (subi P (broadcastInDim S16384x1 ![] bcast_S_S16384x1 (constantI S_ 32 1#32))) (broadcastInDim S16384x1 ![] bcast_S_S16384x1 (id (constantI S_ 32 3#32))))

/-- The two experts of each token. -/
def ids (B f s : IVec S16384x1 32) : IVec S16384x2 32 :=
  addi (broadcastInDim S16384x2 ![0, 1] bcast_S16384x1_S16384x2_0_1 B) (concatenate S16384x2 1 [⟨S16384x1, f⟩, ⟨S16384x1, s⟩] concatenates_S16384x1_S16384x1_S16384x2_d1)

/-- The combine weight of each token and expert. -/
def comb (D : IVec S16384x2 32) (M : FVec Ideal S16384x128 .f32) : FVec Ideal S16384x16 .f32 :=
  Host.reduceAdd (mulf (uitofp .f32 (cmpi .eq (broadcastInDim S16384x2x16 ![0, 1, 2] bcast_S16384x2x1_S16384x2x16_0_1_2 (broadcastInDim S16384x2x1 ![0, 1] bcast_S16384x2_S16384x2x1_0_1 D)) (broadcastInDim S16384x2x16 ![0, 1, 2] bcast_S1x1x16_S16384x2x16_0_1_2 (iotaInDim S1x1x16 32 2)))) (broadcastInDim S16384x2x16 ![0, 1, 2] bcast_S16384x2x1_S16384x2x16_0_1_2 (broadcastInDim S16384x2x1 ![0, 1] bcast_S16384x2_S16384x2x1_0_1 (extractStridedSlice S16384x2 ![0, 2] M slices_S16384x128_S16384x2_0_2)))) (constant S_ .f32 0x00000000#32) reducesTo_S16384x2x16_S16384x16_d1 h_S_

/-- The weighted hidden units. -/
def hid (p q : FVec Ideal S16384x16x256 .f32) (g : FVec Ideal S16384x16 .f32) : FVec Ideal S16384x16x256 .f32 :=
  mulf (mulf (mulf p (Host.divf (broadcastInDim S16384x16x256 ![] bcast_S_S16384x16x256 (constant S_ .f32 0x3F800000#32)) (addf (broadcastInDim S16384x16x256 ![] bcast_S_S16384x16x256 (constant S_ .f32 0x3F800000#32)) (Host.exp (Host.negf p))))) q) (broadcastInDim S16384x16x256 ![0, 1, 2] bcast_S16384x16x1_S16384x16x256_0_1_2 (broadcastInDim S16384x16x1 ![0, 1] bcast_S16384x16_S16384x16x1_0_1 g))

/-- The result from the weighted hidden units. -/
def res (h : FVec Ideal S16384x16x256 .f32) (w : FVec Ideal S16x256x1024 .f32) : FVec Ideal S131072x128 .f32 :=
  shapeCast _ (Host.dotGeneral dot_S16384x16x256_S16x256x1024_S16384x1024_12_01_0_2_n_n none h w) shapeCasts_S16384x1024_S131072x128

/-- The reference's result is its stages composed. -/
def whole (a : IVec S131072x128 32) (w1 w3 : FVec Ideal S2x16x1024x256 .f32) (w2 : FVec Ideal S2x16x256x1024 .f32) :
    FVec Ideal S131072x128 .f32 :=
  res (hid (proj (toks (halves (recs a))) (up w1)) (proj (toks (halves (recs a))) (up w3))
    (comb (ids (base (classes (metaF (recs a)))) (first (pairs (classes (metaF (recs a))))) (second (pairs (classes (metaF (recs a))))))
      (metaF (recs a)))) (down w2)

theorem whole_eq (m : (ℓ : Loc nD τ sig) → Buf (Elt Ideal) ℓ) (c : Dev nD) :
    res_main_v59 (F := Ideal) m c = whole (m ((c.tc : Thread nD τ).loc main_arg1)) (m ((c.tc : Thread nD τ).loc main_arg2))
      (m ((c.tc : Thread nD τ).loc main_arg3)) (m ((c.tc : Thread nD τ).loc main_arg4)) := rfl

end Cert.Experts.Ref

end
-- ==== Proof.Reading.lean ====
/-
  The reference's stages, each read at an index, at exact values.
-/
module

public import proofs.«01_k».proof.Proof.Stages
public import proofs.«01_k».proof.Proof.Spec
public import Idealize.ShloMosaic.Lib.BitcastConvert

@[expose] public section

set_option maxRecDepth 16384

noncomputable section

namespace Cert.Experts.Ref

open Cert.ReferenceIdeal Cert.ReferenceIdeal.Gen
open Idealize.ShloMosaic

/-- The record of row `r` in the array of records. -/
def recA (a : S131072x128.Idx → BitVec 32) (r : Fin 16384) : Rec := fun j l => a (ix2 ⟨8 * r.val + j.val, by omega⟩ l)

theorem recs_at (a : IVec S131072x128 32) (r : Fin 16384) (j : Fin 8) (l : Fin 128) : recs a (ix3 r j l) = recA a r j l := by
  pointwise [recs, recA]
  exact congrArg (fun i => a (ix2 i l)) (Fin.ext (by show r.val * 8 + j.val = 8 * r.val + j.val; omega))

theorem metaF_at (R : IVec S16384x8x128 32) (r : Fin 16384) (l : Fin 128) :
    metaF R (ix2 r l) = Ideal.ofBits .f32 (R (ix3 r 4 l)) := by
  pointwise [metaF]

theorem toks_at (R : IVec S16384x8x128 32) (r : Fin 16384) (d : Fin 1024) :
    toks (halves R) (ix2 r d) = tok (fun j l => R (ix3 r j l)) d := by
  pointwise [toks, halves, tok]

theorem classes_at (M : FVec Ideal S16384x128 .f32) (r : Fin 16384) :
    classes M (ix2 r 0) = Ideal.fptosi 32 (M (ix2 r 0)) := by
  pointwise [classes]
  rfl

theorem proj_at (T : FVec Ideal S16384x1024 .f32) (w : FVec Ideal S2x16x1024x256 .f32) (r : Fin 16384) (e : Fin 16) (f : Fin 256) :
    proj T (up w) (ix3 r e f) = ∑ d : Fin 1024, T (ix2 r d) * w (ix4 1 e d f) := by
  pointwise [proj, up]

theorem hid_at (p q : FVec Ideal S16384x16x256 .f32) (g : FVec Ideal S16384x16 .f32) (r : Fin 16384) (e : Fin 16) (f : Fin 256) :
    hid p q g (ix3 r e f) = act (p (ix3 r e f)) (q (ix3 r e f)) * g (ix2 r e) := by
  pointwise [hid, act]

theorem res_at (h : FVec Ideal S16384x16x256 .f32) (w : FVec Ideal S2x16x256x1024 .f32) (r : Fin 16384) (s : Fin 8) (l : Fin 128) :
    res h (down w) (ix2 ⟨8 * r.val + s.val, by omega⟩ l)
      = ∑ e : Fin 16, ∑ f : Fin 256, h (ix3 r e f) * w (ix4 1 e f ⟨128 * s.val + l.val, by omega⟩) := by
  pointwise [res, down]
  refine Finset.sum_congr rfl fun e _ => Finset.sum_congr rfl fun f _ => ?_
  exact congrArg (fun i => h (ix3 r e f) * w (ix4 1 e f i))
    (Fin.ext (by show (8 * r.val + s.val) % 8 * 128 + l.val = 128 * s.val + l.val; omega))

theorem comb_at (D : IVec S16384x2 32) (M : FVec Ideal S16384x128 .f32) (r : Fin 16384) (e : Fin 16) :
    comb D M (ix2 r e) = (if D (ix2 r 0) = BitVec.ofNat 32 e.val then M (ix2 r 2) else 0)
      + (if D (ix2 r 1) = BitVec.ofNat 32 e.val then M (ix2 r 3) else 0) := by
  have hone : ∀ (x y : BitVec 32) (v : EReal),
      FloatOps.uitofp (F := Ideal) .f32 (IntOp.cmpi .eq x y) * v = if x = y then v else 0 := by
    intro x y v
    by_cases hxy : x = y
    · have : IntOp.cmpi .eq x y = 1#1 := by subst hxy; simp [IntOp.cmpi]
      rw [this, if_pos hxy]
      show (((1#1 : BitVec 1).toNat : ℝ) : EReal) * v = v
      simp
    · have hb : (x == y) = false := by simpa using hxy
      have : IntOp.cmpi .eq x y = 0#1 := by simp [IntOp.cmpi, hb]
      rw [this, if_neg hxy]
      show (((0#1 : BitVec 1).toNat : ℝ) : EReal) * v = 0
      simp
  pointwise [comb]
  simp only [hone]
  rw [Fin.sum_univ_two]
  rfl

theorem pairs_at (C : IVec S16384x1 32) (r : Fin 16384) (c : Fin 24) (h : C (ix2 r 0) = BitVec.ofNat 32 c.val) :
    pairs C (ix2 r 0) = BitVec.ofNat 32 (c.val % 6) := by
  pointwise [pairs, divisor, id]
  rw [h]
  clear h
  revert c
  decide

theorem base_at (C : IVec S16384x1 32) (r : Fin 16384) (c : Fin 24) (h : C (ix2 r 0) = BitVec.ofNat 32 c.val) :
    base C (ix2 r 0) = BitVec.ofNat 32 (c.val / 6 * 4) := by
  pointwise [base, id]
  rw [h]
  clear h
  revert c
  decide

theorem first_at (P : IVec S16384x1 32) (r : Fin 16384) (k : Fin 6) (h : P (ix2 r 0) = BitVec.ofNat 32 k.val) :
    first P (ix2 r 0) = BitVec.ofNat 32 ((![0, 0, 0, 1, 1, 2] : Fin 6 → ℕ) k) := by
  pointwise [first, id]
  rw [h]
  clear h
  revert k
  decide

theorem second_at (P : IVec S16384x1 32) (r : Fin 16384) (k : Fin 6) (h : P (ix2 r 0) = BitVec.ofNat 32 k.val) :
    second P (ix2 r 0) = BitVec.ofNat 32 ((![1, 2, 3, 2, 3, 3] : Fin 6 → ℕ) k) := by
  pointwise [second, id]
  rw [h]
  clear h
  revert k
  decide

theorem ids_at (B f s : IVec S16384x1 32) (r : Fin 16384) :
    ids B f s (ix2 r 0) = B (ix2 r 0) + f (ix2 r 0) ∧ ids B f s (ix2 r 1) = B (ix2 r 0) + s (ix2 r 0) := by
  constructor
  · pointwise [ids]
    rfl
  · pointwise [ids]
    rfl

/-- The lower and the higher expert of a class, as experts of the layer. -/
def lo (c : Fin 24) : Fin 16 := ⟨loOf c.val, loOf_lt _ c.isLt⟩
def hi (c : Fin 24) : Fin 16 := ⟨hiOf c.val, hiOf_lt _ c.isLt⟩

theorem lo_ne_hi (c : Fin 24) : lo c ≠ hi c := by revert c; decide

/-- What the token of record `x` and class `c` is given, component `d`. -/
def value (x : Rec) (c : Fin 24) (w1 w3 : S2x16x1024x256.Idx → EReal) (w2 : S2x16x256x1024.Idx → EReal) (d : Fin 1024) : EReal :=
  expert x (field x 2) (fun d f => w1 (ix4 1 (lo c) d f)) (fun d f => w3 (ix4 1 (lo c) d f)) (fun f d => w2 (ix4 1 (lo c) f d)) d
  + expert x (field x 3) (fun d f => w1 (ix4 1 (hi c) d f)) (fun d f => w3 (ix4 1 (hi c) d f)) (fun f d => w2 (ix4 1 (hi c) f d)) d

theorem word_lo (c e : Fin 24) : BitVec.ofNat 32 (c.val / 6 * 4)
    + BitVec.ofNat 32 ((![0, 0, 0, 1, 1, 2] : Fin 6 → ℕ) ⟨c.val % 6, Nat.mod_lt _ (by decide)⟩) = BitVec.ofNat 32 (loOf c.val) := by
  clear e; revert c; decide
theorem word_hi (c e : Fin 24) : BitVec.ofNat 32 (c.val / 6 * 4)
    + BitVec.ofNat 32 ((![1, 2, 3, 2, 3, 3] : Fin 6 → ℕ) ⟨c.val % 6, Nat.mod_lt _ (by decide)⟩) = BitVec.ofNat 32 (hiOf c.val) := by
  clear e; revert c; decide
theorem word_inj (a e : Fin 16) : BitVec.ofNat 32 a.val = BitVec.ofNat 32 e.val ↔ e = a := by revert a e; decide

/-- The reference's result: the token's row, at the component that the place holds. -/
theorem whole_at (a : IVec S131072x128 32) (w1 w3 : FVec Ideal S2x16x1024x256 .f32) (w2 : FVec Ideal S2x16x256x1024 .f32)
    (r : Fin 16384) (s : Fin 8) (l : Fin 128) (c : Fin 24)
    (hc : Ideal.fptosi 32 (field (recA a r) 0) = BitVec.ofNat 32 c.val) :
    whole a w1 w3 w2 (ix2 ⟨8 * r.val + s.val, by omega⟩ l)
      = value (recA a r) c w1 w3 w2 ⟨128 * s.val + l.val, by omega⟩ := by
  have hR : (fun (j : Fin 8) (l : Fin 128) => recs a (ix3 r j l)) = recA a r := by funext j l; exact recs_at a r j l
  have hM : ∀ l, metaF (recs a) (ix2 r l) = field (recA a r) l := by
    intro l
    rw [metaF_at, recs_at]; rfl
  have hT : ∀ d, toks (halves (recs a)) (ix2 r d) = tok (recA a r) d := by
    intro d
    rw [toks_at, hR]
  have hC : classes (metaF (recs a)) (ix2 r 0) = BitVec.ofNat 32 c.val := by rw [classes_at, hM, hc]
  unfold whole
  generalize metaF (recs a) = M at hM hC ⊢
  generalize toks (halves (recs a)) = T at hT ⊢
  generalize classes M = C at hC ⊢
  have hP := pairs_at C r c hC
  have hB := base_at C r c hC
  generalize pairs C = P at hP ⊢
  generalize base C = B at hB ⊢
  have hf := first_at P r ⟨c.val % 6, Nat.mod_lt _ (by decide)⟩ hP
  have hs := second_at P r ⟨c.val % 6, Nat.mod_lt _ (by decide)⟩ hP
  generalize first P = f1 at hf ⊢
  generalize second P = f2 at hs ⊢
  have hD := ids_at B f1 f2 r
  rw [hB, hf, hs, word_lo c c, word_hi c c] at hD
  generalize ids B f1 f2 = D at hD ⊢
  have hG : ∀ e : Fin 16, comb D M (ix2 r e) = (if e = lo c then field (recA a r) 2 else 0)
      + (if e = hi c then field (recA a r) 3 else 0) := by
    intro e
    rw [comb_at, hD.1, hD.2, hM, hM]
    have h1 : (BitVec.ofNat 32 (loOf c.val) = BitVec.ofNat 32 e.val) = (e = lo c) := propext (word_inj (lo c) e)
    have h2 : (BitVec.ofNat 32 (hiOf c.val) = BitVec.ofNat 32 e.val) = (e = hi c) := propext (word_inj (hi c) e)
    simp only [h1, h2]
  generalize comb D M = G at hG ⊢
  refine (res_at _ w2 r s l).trans ?_
  have hE : ∀ e : Fin 16, (∑ f : Fin 256, hid (proj T (up w1)) (proj T (up w3)) G (ix3 r e f)
        * w2 (ix4 1 e f ⟨128 * s.val + l.val, by omega⟩))
      = expert (recA a r) (G (ix2 r e)) (fun d f => w1 (ix4 1 e d f)) (fun d f => w3 (ix4 1 e d f)) (fun f d => w2 (ix4 1 e f d))
        ⟨128 * s.val + l.val, by omega⟩ := by
    intro e
    unfold expert unit
    refine Finset.sum_congr rfl fun f _ => ?_
    rw [hid_at, proj_at, proj_at]
    simp only [hT]
  refine (Finset.sum_congr rfl fun e _ => hE e).trans ?_
  have hne := lo_ne_hi c
  refine (Fintype.sum_eq_add (lo c) (hi c) hne ?_).trans ?_
  · rintro e ⟨h1, h2⟩
    rw [hG, if_neg h1, if_neg h2, add_zero]
    exact expert_zero _ _ _ _ _
  · rw [hG, hG, if_pos rfl, if_neg hne, if_neg (Ne.symm hne), if_pos rfl, add_zero, zero_add]
    rfl

end Cert.Experts.Ref

end
-- ==== Proof.Blocks.lean ====
/-
  The blocks that an item reads, at coordinates of their arrays.
-/
module

public import proofs.«01_k».proof.Proof.Sum
public import proofs.«01_k».proof.Proof.Item
public import proofs.«01_k».proof.Proof.Reading

@[expose] public section

set_option maxRecDepth 4000

noncomputable section

namespace Cert.Experts

open Cert.KernelIdeal Cert.KernelIdeal.Gen
open Idealize.ShloMosaic Idealize.ShloMosaic.TcCoe

variable (a : (pcfg0 (F := Ideal)).Adm)
  (V : (c : Dev nD) → (b : Ref sig .tc) → Buf (Elt Ideal) ((c.tc : Thread nD τ).loc b))
  (nI : ℕ) (blk cls : ℕ → ℕ)
  (hP : Plan a.1 nI blk cls)
include hP

theorem index0 (t : Fin grid0.N) : (win0 a 0).index t = ![blk t.val, 0] := by
  have h := hP.tr0 (grid0.coords t); rw [coord_val] at h; exact h
theorem index1 (t : Fin grid0.N) : (win0 a 1).index t = ![1, loOf (cls t.val), 0, 0] := by
  have h := hP.tr1 (grid0.coords t); rw [coord_val] at h; exact h
theorem index2 (t : Fin grid0.N) : (win0 a 2).index t = ![1, loOf (cls t.val), 0, 0] := by
  have h := hP.tr2 (grid0.coords t); rw [coord_val] at h; exact h
theorem index3 (t : Fin grid0.N) : (win0 a 3).index t = ![1, loOf (cls t.val), 0, 0] := by
  have h := hP.tr3 (grid0.coords t); rw [coord_val] at h; exact h
theorem index4 (t : Fin grid0.N) : (win0 a 4).index t = ![1, hiOf (cls t.val), 0, 0] := by
  have h := hP.tr4 (grid0.coords t); rw [coord_val] at h; exact h
theorem index5 (t : Fin grid0.N) : (win0 a 5).index t = ![1, hiOf (cls t.val), 0, 0] := by
  have h := hP.tr5 (grid0.coords t); rw [coord_val] at h; exact h
theorem index6 (t : Fin grid0.N) : (win0 a 6).index t = ![1, hiOf (cls t.val), 0, 0] := by
  have h := hP.tr6 (grid0.coords t); rw [coord_val] at h; exact h

/-- The records of the item's block, in the array of records. -/
theorem rec_block (c : Dev nD) (t : Fin grid0.N) (y : Fin 256) (r : Fin 16384) (hr : r.val = 256 * blk t.val + y.val) :
    recB (blkOf a V c 0 t) y = Ref.recA (V c main_arg1) r := by
  funext j l
  refine congrArg (V c main_arg1) ?_
  funext k
  apply Fin.ext
  refine ((win0 a 0).rect_emb_val t _ k).trans ?_
  rw [index0 a nI blk cls hP]
  match k with
  | 0 => show blk t.val * 2048 + (8 * y.val + j.val) = 8 * r.val + j.val; omega
  | 1 => show 0 * 128 + l.val = l.val; omega

theorem block1 (c : Dev nD) (t : Fin grid0.N) (e : Fin 16) (he : e.val = loOf (cls t.val)) (d : Fin 1024) (f : Fin 256) :
    (blkOf a V c 1 t : S1x1x1024x256.Idx → EReal) (ix4 0 0 d f) = (V c main_arg2 : S2x16x1024x256.Idx → EReal) (ix4 1 e d f) := by
  refine congrArg (V c main_arg2) ?_
  funext k
  apply Fin.ext
  refine ((win0 a 1).rect_emb_val t _ k).trans ?_
  rw [index1 a nI blk cls hP]
  match k with
  | 0 => rfl
  | 1 => show loOf (cls t.val) * 1 + 0 = e.val; omega
  | 2 => show 0 * 1024 + d.val = d.val; omega
  | 3 => show 0 * 256 + f.val = f.val; omega

theorem block2 (c : Dev nD) (t : Fin grid0.N) (e : Fin 16) (he : e.val = loOf (cls t.val)) (d : Fin 1024) (f : Fin 256) :
    (blkOf a V c 2 t : S1x1x1024x256.Idx → EReal) (ix4 0 0 d f) = (V c main_arg3 : S2x16x1024x256.Idx → EReal) (ix4 1 e d f) := by
  refine congrArg (V c main_arg3) ?_
  funext k
  apply Fin.ext
  refine ((win0 a 2).rect_emb_val t _ k).trans ?_
  rw [index2 a nI blk cls hP]
  match k with
  | 0 => rfl
  | 1 => show loOf (cls t.val) * 1 + 0 = e.val; omega
  | 2 => show 0 * 1024 + d.val = d.val; omega
  | 3 => show 0 * 256 + f.val = f.val; omega

theorem block3 (c : Dev nD) (t : Fin grid0.N) (e : Fin 16) (he : e.val = loOf (cls t.val)) (f : Fin 256) (d : Fin 1024) :
    (blkOf a V c 3 t : S1x1x256x1024.Idx → EReal) (ix4 0 0 f d) = (V c main_arg4 : S2x16x256x1024.Idx → EReal) (ix4 1 e f d) := by
  refine congrArg (V c main_arg4) ?_
  funext k
  apply Fin.ext
  refine ((win0 a 3).rect_emb_val t _ k).trans ?_
  rw [index3 a nI blk cls hP]
  match k with
  | 0 => rfl
  | 1 => show loOf (cls t.val) * 1 + 0 = e.val; omega
  | 2 => show 0 * 256 + f.val = f.val; omega
  | 3 => show 0 * 1024 + d.val = d.val; omega

theorem block4 (c : Dev nD) (t : Fin grid0.N) (e : Fin 16) (he : e.val = hiOf (cls t.val)) (d : Fin 1024) (f : Fin 256) :
    (blkOf a V c 4 t : S1x1x1024x256.Idx → EReal) (ix4 0 0 d f) = (V c main_arg2 : S2x16x1024x256.Idx → EReal) (ix4 1 e d f) := by
  refine congrArg (V c main_arg2) ?_
  funext k
  apply Fin.ext
  refine ((win0 a 4).rect_emb_val t _ k).trans ?_
  rw [index4 a nI blk cls hP]
  match k with
  | 0 => rfl
  | 1 => show hiOf (cls t.val) * 1 + 0 = e.val; omega
  | 2 => show 0 * 1024 + d.val = d.val; omega
  | 3 => show 0 * 256 + f.val = f.val; omega

theorem block5 (c : Dev nD) (t : Fin grid0.N) (e : Fin 16) (he : e.val = hiOf (cls t.val)) (d : Fin 1024) (f : Fin 256) :
    (blkOf a V c 5 t : S1x1x1024x256.Idx → EReal) (ix4 0 0 d f) = (V c main_arg3 : S2x16x1024x256.Idx → EReal) (ix4 1 e d f) := by
  refine congrArg (V c main_arg3) ?_
  funext k
  apply Fin.ext
  refine ((win0 a 5).rect_emb_val t _ k).trans ?_
  rw [index5 a nI blk cls hP]
  match k with
  | 0 => rfl
  | 1 => show hiOf (cls t.val) * 1 + 0 = e.val; omega
  | 2 => show 0 * 1024 + d.val = d.val; omega
  | 3 => show 0 * 256 + f.val = f.val; omega

theorem block6 (c : Dev nD) (t : Fin grid0.N) (e : Fin 16) (he : e.val = hiOf (cls t.val)) (f : Fin 256) (d : Fin 1024) :
    (blkOf a V c 6 t : S1x1x256x1024.Idx → EReal) (ix4 0 0 f d) = (V c main_arg4 : S2x16x256x1024.Idx → EReal) (ix4 1 e f d) := by
  refine congrArg (V c main_arg4) ?_
  funext k
  apply Fin.ext
  refine ((win0 a 6).rect_emb_val t _ k).trans ?_
  rw [index6 a nI blk cls hP]
  match k with
  | 0 => rfl
  | 1 => show hiOf (cls t.val) * 1 + 0 = e.val; omega
  | 2 => show 0 * 256 + f.val = f.val; omega
  | 3 => show 0 * 1024 + d.val = d.val; omega

end Cert.Experts

end
-- ==== Proof.Output.lean ====
/-
  The kernel's output array, at exact values: each row is the value of its own class.
-/
module

public import proofs.«01_k».proof.Proof.Blocks
public import Idealize.ShloMosaic.Lib.Pipeline.ValueKit.Geometry

@[expose] public section

set_option maxRecDepth 4000

noncomputable section

namespace Cert.Experts

open Cert.KernelIdeal Cert.KernelIdeal.Gen
open Idealize.ShloMosaic Idealize.ShloMosaic.TcCoe

/-- The record is marked with the class word `w`. -/
def Marked (x : Rec) (w : BitVec 32) : Prop := FloatOps.cmpf .oeq (field x 0) (FloatOps.sitofp (F := Ideal) .f32 w) = 1#1

variable (a : (pcfg0 (F := Ideal)).Adm)
  (V : (c : Dev nD) → (b : Ref sig .tc) → Buf (Elt Ideal) ((c.tc : Thread nD τ).loc b))
  (nI : ℕ) (blk cls : ℕ → ℕ)
  (hP : Plan a.1 nI blk cls)
include hP

theorem item_at (c : Dev nD) (t : Fin grid0.N) (y : Fin 256) (d : Fin 1024) (r : Fin 16384) (hr : r.val = 256 * blk t.val + y.val)
    (k : Fin 24) (hk : k.val = cls t.val) :
    item a V c t (ix2 y d)
      = expert (Ref.recA (V c main_arg1) r) (gateAt (Ref.recA (V c main_arg1) r) (BitVec.ofNat 32 k.val) 2)
          (fun d f => (V c main_arg2 : S2x16x1024x256.Idx → EReal) (ix4 1 (Ref.lo k) d f))
          (fun d f => (V c main_arg3 : S2x16x1024x256.Idx → EReal) (ix4 1 (Ref.lo k) d f))
          (fun f d => (V c main_arg4 : S2x16x256x1024.Idx → EReal) (ix4 1 (Ref.lo k) f d)) d
        + expert (Ref.recA (V c main_arg1) r) (gateAt (Ref.recA (V c main_arg1) r) (BitVec.ofNat 32 k.val) 3)
          (fun d f => (V c main_arg2 : S2x16x1024x256.Idx → EReal) (ix4 1 (Ref.hi k) d f))
          (fun d f => (V c main_arg3 : S2x16x1024x256.Idx → EReal) (ix4 1 (Ref.hi k) d f))
          (fun f d => (V c main_arg4 : S2x16x256x1024.Idx → EReal) (ix4 1 (Ref.hi k) f d)) d := by
  have hw : a.1 1 (tix (grid0.coords t)) = BitVec.ofNat 32 k.val := by
    have h := hP.w1 (grid0.coords t)
    rw [coord_val, ← hk] at h
    exact h
  have hlo : (Ref.lo k).val = loOf (cls t.val) := by rw [← hk]; rfl
  have hhi : (Ref.hi k).val = hiOf (cls t.val) := by rw [← hk]; rfl
  have e1 := block1 a V nI blk cls hP c t (Ref.lo k) hlo
  have e2 := block2 a V nI blk cls hP c t (Ref.lo k) hlo
  have e3 := block3 a V nI blk cls hP c t (Ref.lo k) hlo
  have e4 := block4 a V nI blk cls hP c t (Ref.hi k) hhi
  have e5 := block5 a V nI blk cls hP c t (Ref.hi k) hhi
  have e6 := block6 a V nI blk cls hP c t (Ref.hi k) hhi
  have e0 := rec_block a V nI blk cls hP c t y r hr
  unfold item
  rw [hw]
  refine (itemOut_at (blkOf a V c 0 t) _ (blkOf a V c 1 t) (blkOf a V c 2 t) (blkOf a V c 3 t)
    (blkOf a V c 4 t) (blkOf a V c 5 t) (blkOf a V c 6 t) y d).trans ?_
  rw [e0]
  simp only [e1, e2, e3, e4, e5, e6]

/-- An item of the row's class gives the row its value. -/
theorem item_on (c : Dev nD) (t : Fin grid0.N) (y : Fin 256) (d : Fin 1024) (r : Fin 16384) (hr : r.val = 256 * blk t.val + y.val)
    (k : Fin 24) (hk : k.val = cls t.val) (hm : Marked (Ref.recA (V c main_arg1) r) (BitVec.ofNat 32 k.val)) :
    item a V c t (ix2 y d) = Ref.value (Ref.recA (V c main_arg1) r) k (V c main_arg2) (V c main_arg3) (V c main_arg4) d := by
  rw [item_at a V nI blk cls hP c t y d r hr k hk, gateAt_on _ _ _ hm, gateAt_on _ _ _ hm]
  rfl

/-- An item of another class adds zero to the row. -/
theorem item_off (c : Dev nD) (t : Fin grid0.N) (y : Fin 256) (d : Fin 1024) (r : Fin 16384) (hr : r.val = 256 * blk t.val + y.val)
    (hm : ¬ Marked (Ref.recA (V c main_arg1) r) (BitVec.ofNat 32 (cls t.val))) :
    item a V c t (ix2 y d) = (0 : EReal) := by
  rw [item_at a V nI blk cls hP c t y d r hr ⟨cls t.val, hP.cls_lt _⟩ rfl, gateAt_off _ _ _ hm, gateAt_off _ _ _ hm,
    expert_zero, expert_zero, add_zero]

/-- What the output array is shown to hold, the class of row `r` being `κ r`. -/
def outVal (P : S131072x128.Idx → BitVec 32) (w1 w3 : S2x16x1024x256.Idx → EReal) (w2 : S2x16x256x1024.Idx → EReal)
    (κ : Fin 16384 → Fin 24) : S131072x128.Idx → EReal := fun i =>
  Ref.value (Ref.recA P ⟨(i 0).val / 8, by have : (i 0).val < 131072 := (i 0).isLt; omega⟩)
    (κ ⟨(i 0).val / 8, by have : (i 0).val < 131072 := (i 0).isLt; omega⟩) w1 w3 w2
    ⟨128 * ((i 0).val % 8) + (i 1).val, by have : (i 1).val < 128 := (i 1).isLt; omega⟩

theorem out_eq (c : Dev nD) (κ : Fin 16384 → Fin 24)
    (hmono : ∀ i j, i ≤ j → j < nI → blk i ≤ blk j)
    (hrow : ∀ r : Fin 16384, ∃ k, k < nI ∧ blk k = r.val / 256 ∧ cls k = (κ r).val
      ∧ Marked (Ref.recA (V c main_arg1) r) (BitVec.ofNat 32 (κ r).val)
      ∧ ∀ t, t < nI → blk t = r.val / 256 → t ≠ k → ¬ Marked (Ref.recA (V c main_arg1) r) (BitVec.ofNat 32 (cls t))) :
    (dats a V nI blk c).arrAt (7 : Fin 8) (cfg0 a).N
      = outVal (V c main_arg1) (V c main_arg2) (V c main_arg3) (V c main_arg4) κ := by
  refine (dats a V nI blk c).arrAt_eq_of_emb (7 : Fin 8) _ ?_ ?_
  · intro t hf y
    have hy0 : (y 0).val < 2048 := (y 0).isLt
    have hy1 : (y 1).val < 128 := (y 1).isLt
    have hb := hP.blk_lt t.val
    have v0 : ((((win0 a 7).rect t).emb y 0 : ℕ)) = blk t.val * 2048 + (y 0).val := by
      refine ((win0 a 7).rect_emb_val t y 0).trans ?_
      rw [index7 a nI blk cls hP]; rfl
    have v1 : ((((win0 a 7).rect t).emb y 1 : ℕ)) = (y 1).val := by
      refine ((win0 a 7).rect_emb_val t y 1).trans ?_
      rw [index7 a nI blk cls hP]
      show 0 * 128 + (y 1).val = _
      omega
    obtain ⟨r, hr⟩ : ∃ r : Fin 16384, r.val = 256 * blk t.val + (y 0).val / 8 := ⟨⟨256 * blk t.val + (y 0).val / 8, by omega⟩, rfl⟩
    obtain ⟨d, hd⟩ : ∃ d : Fin 1024, d.val = 128 * ((y 0).val % 8) + (y 1).val := ⟨⟨128 * ((y 0).val % 8) + (y 1).val, by omega⟩, rfl⟩
    obtain ⟨z, hz⟩ : ∃ z : Fin 256, z.val = (y 0).val / 8 := ⟨⟨(y 0).val / 8, by omega⟩, rfl⟩
    have hR : outVal (V c main_arg1) (V c main_arg2) (V c main_arg3) (V c main_arg4) κ (((win0 a 7).rect t).emb y)
        = Ref.value (Ref.recA (V c main_arg1) r) (κ r) (V c main_arg2) (V c main_arg3) (V c main_arg4) d := by
      have er : (⟨(((win0 a 7).rect t).emb y 0 : ℕ) / 8, by omega⟩ : Fin 16384) = r := Fin.ext (by rw [hr]; show _ / 8 = _; omega)
      have ed : (⟨128 * ((((win0 a 7).rect t).emb y 0 : ℕ) % 8) + (((win0 a 7).rect t).emb y 1 : ℕ), by omega⟩ : Fin 1024) = d :=
        Fin.ext (by rw [hd]; show 128 * (_ % 8) + _ = _; omega)
      unfold outVal
      rw [er, ed]
    refine Eq.trans ?_ hR.symm
    show accAt a V nI blk c (t.val + 1) (Shape.pair ⟨(y 0).val / 8, _⟩ ⟨128 * ((y 0).val % 8) + (y 1).val, _⟩) = _
    have hi : (Shape.pair ⟨(y 0).val / 8, by show _ < 256; omega⟩ ⟨128 * ((y 0).val % 8) + (y 1).val, by show _ < 1024; omega⟩ : S256x1024.Idx)
        = ix2 z d := by
      funext b
      apply Fin.ext
      match b with
      | 0 => exact hz.symm
      | 1 => exact hd.symm
    rw [hi]
    obtain ⟨k, hk, hkb, hkc, hm, hoff⟩ := hrow r
    have hrb : r.val / 256 = blk t.val := by omega
    rw [hrb] at hkb hoff
    refine acc_flushed a V nI blk cls hP c t hf (ix2 z d) k _ hk hkb hmono ?_ ?_
    · intro t' ht'
      exact item_on a V nI blk cls hP c t' z d r (by rw [ht', hkb]; omega) (κ r) (by rw [ht', hkc]) hm
    · intro t' h1 h2 h3
      exact item_off a V nI blk cls hP c t' z d r (by rw [h2]; omega) (hoff t'.val h1 h2 h3)
  · intro i
    have hi0 : (i 0).val < 131072 := (i 0).isLt
    have hi1 : (i 1).val < 128 := (i 1).isLt
    obtain ⟨k, hk, hkb, -⟩ := hrow ⟨(i 0).val / 8, by omega⟩
    obtain ⟨t, hf, htb⟩ := exists_flush a nI blk cls hP _ k hk hkb
    refine ⟨t, hf, ?_⟩
    have htb' : blk t.val = (i 0).val / 8 / 256 := htb
    have he : ((win0 a 7).blk t).view.emb (ix2 (⟨(i 0).val % 2048, by omega⟩ : Fin 2048) (⟨(i 1).val, hi1⟩ : Fin 128)) = i := by
      funext b
      apply Fin.ext
      refine ((win0 a 7).rect_emb_val t (ix2 (⟨(i 0).val % 2048, by omega⟩ : Fin 2048) (⟨(i 1).val, hi1⟩ : Fin 128)) b).trans ?_
      rw [index7 a nI blk cls hP]
      match b with
      | 0 => show blk t.val * 2048 + (i 0).val % 2048 = (i 0).val; omega
      | 1 => show 0 * 128 + (i 1).val = (i 1).val; omega
    exact Eq.mp (congrArg (fun j => j ∈ ((win0 a 7).blk t).view.set) he) (View.emb_mem_set _ _)

end Cert.Experts

end
-- ==== Proof.Value.lean ====
/-
  The value claim: at exact values the kernel's output array and the reference's result are one array.
-/
module

public import proofs.«01_k».proof.Proof.Frames
public import proofs.«01_k».proof.Proof.Order
public import proofs.«01_k».proof.Proof.Output
public import Idealize.ShloMosaic.Lib.Pointwise.IndexBridge

@[expose] public section

set_option maxRecDepth 4000

noncomputable section

namespace Cert.Experts

open Idealize.ShloMosaic Idealize.ShloMosaic.TcCoe Idealize.SL.Sem

/-- A class number read back from its float is itself. -/
theorem read_class (c : Fin 24) : Ideal.fptosi 32 (((BitVec.ofNat 32 c.val).toInt : ℝ) : EReal) = BitVec.ofNat 32 c.val := by
  have hi : (BitVec.ofNat 32 c.val).toInt = (c.val : ℤ) := by revert c; decide
  have ht : Ideal.truncInt (((c.val : ℤ) : ℝ)) = (c.val : ℤ) := by
    unfold Ideal.truncInt
    rw [if_pos (by positivity), Int.floor_intCast]
  rw [hi]
  have hc := c.isLt
  show BitVec.ofInt 32 (Ideal.toIntClamped _ _ _) = _
  have : Ideal.toIntClamped (-(2 ^ (32 - 1) : Nat)) ((2 ^ (32 - 1) : Nat) - 1) ((((c.val : ℤ) : ℝ)) : EReal) = (c.val : ℤ) := by
    show max _ (min _ (Ideal.truncInt _)) = _
    rw [ht]
    omega
  rw [this]
  exact BitVec.ofInt_natCast 32 c.val

/-- A record marked with a class's word carries that class. -/
theorem marked_class (x : Rec) (c : Fin 24) (h : Marked x (BitVec.ofNat 32 c.val)) :
    Ideal.fptosi 32 (field x 0) = BitVec.ofNat 32 c.val := by
  have he : field x 0 = (((BitVec.ofNat 32 c.val).toInt : ℝ) : EReal) := by
    by_contra hne
    have h' : BitVec.ofBool (decide (field x 0 = (((BitVec.ofNat 32 c.val).toInt : ℝ) : EReal))) = 1#1 := h
    rw [decide_eq_false hne] at h'
    exact absurd h' (by decide)
  rw [he, read_class]

section
variable [hP : Cert.Pre_sorted_by_class.Facts]

/-- The class that the precondition reads is the record's field. -/
theorem clsW_at (a1 : IVec ⟨2, ![131072, 128]⟩ 32) (r : Fin 16384) :
    clsW (F := Ideal) a1 (ix2 r 0) = field (Ref.recA a1 r) 0 := by
  pointwise [clsW, field, Ref.recA]
  exact congrArg (fun i => Ideal.ofBits .f32 (a1 (ix2 i 0))) (Fin.ext (by show r.val * 8 + 4 = 8 * r.val + 4; omega))

open Cert.KernelIdeal

variable (m : (ℓ : Loc nD τ sig) → Buf (Elt Ideal) ℓ) (hs : Sorted m)

/-- The array of records. -/
abbrev recsOf : S131072x128.Idx → BitVec 32 := m (((0 : Dev nD).tc : Thread nD τ).loc main_arg1)

include hs in
theorem marked_iff (r : Fin 16384) (c : Fin 24) : Marked (Ref.recA (recsOf m) r) (BitVec.ofNat 32 c.val)
    ↔ startOf (cntOf m) c.val ≤ r.val ∧ r.val < startOf (cntOf m) (c.val + 1) := by
  have h := row_class _ _ _ _ _ hs r c
  rw [← ix2_eq_valueIdx] at h
  have e := clsW_at (recsOf m) r
  unfold Marked
  rw [← e]
  exact h

include hs in
theorem total_of : startOf (cntOf m) 24 = 16384 := total _ _ _ _ _ hs

include hs in
/-- Each row lies in a class. -/
theorem row_has (r : Fin 16384) : ∃ c : Fin 24, startOf (cntOf m) c.val ≤ r.val ∧ r.val < startOf (cntOf m) (c.val + 1) := by
  obtain ⟨c, hc, h0, h1⟩ := exists_class (cntOf m) (total_of m hs) r.isLt
  exact ⟨⟨c, hc⟩, h0, h1⟩

/-- The class of each row. -/
def classOf (r : Fin 16384) : Fin 24 := (row_has m hs r).choose
theorem classOf_spec (r : Fin 16384) : startOf (cntOf m) (classOf m hs r).val ≤ r.val
    ∧ r.val < startOf (cntOf m) ((classOf m hs r).val + 1) := (row_has m hs r).choose_spec

theorem rows (r : Fin 16384) : ∃ k, k < nItems (cntOf m) ∧ blkNat (cntOf m) k = r.val / 256
    ∧ clsNat (cntOf m) k = (classOf m hs r).val
    ∧ Marked (Ref.recA (recsOf m) r) (BitVec.ofNat 32 (classOf m hs r).val)
    ∧ ∀ t, t < nItems (cntOf m) → blkNat (cntOf m) t = r.val / 256 → t ≠ k
      → ¬ Marked (Ref.recA (recsOf m) r) (BitVec.ofNat 32 (clsNat (cntOf m) t)) := by
  have hc := classOf_spec m hs r
  obtain ⟨k, hk, hkc, hkb⟩ := exists_item (cntOf m) (total_of m hs) (classOf m hs r).isLt hc.1 hc.2
  refine ⟨k, hk, hkb, (blkNat_of_lt _ hk).1.trans hkc, (marked_iff m hs r _).2 hc, ?_⟩
  intro t ht htb hne hm
  have hlt := clsNat_lt (cntOf m) (total_of m hs) t
  have h2 := (marked_iff m hs r ⟨clsNat (cntOf m) t, hlt⟩).1 hm
  have e := class_unique (cntOf m) hc.1 hc.2 h2.1 h2.2
  exact hne (item_unique (cntOf m) ht hk (((blkNat_of_lt _ ht).1.symm.trans e.symm).trans hkc.symm) (htb.trans hkb.symm))

/-- What both programs end with. -/
def answer : S131072x128.Idx → EReal :=
  outVal (recsOf m) (m (((0 : Dev nD).tc : Thread nD τ).loc main_arg2)) (m (((0 : Dev nD).tc : Thread nD τ).loc main_arg3))
    (m (((0 : Dev nD).tc : Thread nD τ).loc main_arg4)) (classOf m hs)

/-- The kernel's output array. -/
theorem outOf_eq : outOf m hs 0 = answer m hs := by
  have k1 := hostV_kept m main_arg1 (by decide)
  have k2 := hostV_kept m main_arg2 (by decide)
  have k3 := hostV_kept m main_arg3 (by decide)
  have k4 := hostV_kept m main_arg4 (by decide)
  have hplan := plan_of_pre m hs
  have hr := rows m hs
  unfold outOf datOf answer
  have key := out_eq (admOf m hs) (hostV m) (nItems (cntOf m)) (blkNat (cntOf m)) (clsNat (cntOf m)) hplan 0 (classOf m hs)
    (fun i j hij hj => blkNat_mono (cntOf m) hij hj)
  rw [k1, k2, k3, k4] at key
  exact key hr

/-- The reference's result. -/
theorem whole_eq_answer : Ref.whole (recsOf m) (m (((0 : Dev nD).tc : Thread nD τ).loc main_arg2))
    (m (((0 : Dev nD).tc : Thread nD τ).loc main_arg3)) (m (((0 : Dev nD).tc : Thread nD τ).loc main_arg4)) = answer m hs := by
  funext i
  have hi0 : (i 0).val < 131072 := (i 0).isLt
  have hi1 : (i 1).val < 128 := (i 1).isLt
  have hi : i = ix2 (⟨8 * ((i 0).val / 8) + (i 0).val % 8, by omega⟩ : Fin 131072) (⟨(i 1).val, hi1⟩ : Fin 128) := by
    funext b
    apply Fin.ext
    match b with
    | 0 => show (i 0).val = 8 * ((i 0).val / 8) + (i 0).val % 8; omega
    | 1 => rfl
  have hm := (marked_iff m hs ⟨(i 0).val / 8, by omega⟩ _).2 (classOf_spec m hs ⟨(i 0).val / 8, by omega⟩)
  have h := Ref.whole_at (recsOf m) (m (((0 : Dev nD).tc : Thread nD τ).loc main_arg2))
    (m (((0 : Dev nD).tc : Thread nD τ).loc main_arg3)) (m (((0 : Dev nD).tc : Thread nD τ).loc main_arg4))
    ⟨(i 0).val / 8, by omega⟩ ⟨(i 0).val % 8, by omega⟩ ⟨(i 1).val, hi1⟩ _ (marked_class _ _ hm)
  exact (congrArg _ hi).trans h

end

/-- The value claim. -/
theorem algebraic [Cert.ReferenceIdeal.Facts] [Cert.Pre_sorted_by_class.Facts] :
    Cert.algebraic_KernelIdeal_ReferenceIdeal := by
  intro m g m' g' hpre hagree
  have hs : Sorted m := hpre 0
  refine ⟨fun c => outOf m hs c, ?_, ?_⟩
  · exact (θ_run _ _ _).mono (fun _ h c => h.1 c) (run_pre (F := Ideal) m hs g)
  · refine (θ_run _ _ _).mono (fun _ h c => ⟨(h c).1.trans ?_, (h c).2⟩) (Cert.ReferenceIdeal.Value.run (F := Ideal) m' g')
    obtain rfl : c = 0 := Subsingleton.elim c 0
    obtain ⟨-, e1, e2, e3, e4⟩ := hagree 0
    refine (Ref.whole_eq m' 0).trans ?_
    rw [e1, e2, e3, e4]
    exact (whole_eq_answer m hs).trans (outOf_eq m hs).symm

end Cert.Experts

end
-- ==== Proof.ProjStages.lean ====
/-
  The reference of the first layer's projection as the printed program writes it, in named stages, each read at an index.
-/
module

public import proofs.«01_k».proof.Proof.Gen.ProjectionReferenceIdeal.Run
public import Idealize.ShloMosaic.PureOps.Ideal
public import Idealize.ShloMosaic.Lib.Pointwise

@[expose] public section

set_option maxRecDepth 16384

noncomputable section

namespace Cert.Projections

open Idealize.ShloMosaic

/-- A token normed, weighted, scaled and shifted, component by component. -/
def token (x g s u : Fin 1024 → EReal) (d : Fin 1024) : EReal :=
  x d * Ideal.rsqrt (Ideal.div (∑ e : Fin 1024, x e * x e) (Ideal.ofBits .f32 1149239296#32) + Ideal.ofBits .f32 897988541#32)
    * g d * (1 + s d) + u d

/-- The gate's activation. -/
def gate (v : EReal) : EReal := v * Ideal.div 1 (1 + Ideal.exp (-v))

end Cert.Projections

namespace Cert.Projections.Ref

open Cert.ProjectionReferenceIdeal Cert.ProjectionReferenceIdeal.Gen Cert.ProjectionReferenceIdeal.Value
open Idealize.ShloMosaic Idealize.ShloMosaic.TcCoe

/-- The tokens, eight batches of them. -/
def toks (x : FVec Ideal S16384x1024 .f32) : FVec Ideal S8x2048x1024 .f32 :=
  shapeCast _ x shapeCasts_S16384x1024_S8x2048x1024

/-- The factor that the norm puts on each token. -/
def inv (X : FVec Ideal S8x2048x1024 .f32) : FVec Ideal S8x2048x1 .f32 :=
  Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))

/-- The normed tokens, scaled and shifted. -/
def hidden (X : FVec Ideal S8x2048x1024 .f32) (s : FVec Ideal S8x2048x1 .f32) (g : FVec Ideal S2x1024 .f32)
    (u : FVec Ideal S2x8x6x1x1024 .f32) : FVec Ideal S8x2048x1024 .f32 :=
  addf (mulf (mulf (mulf X (broadcastInDim S8x2048x1024 ![0, 1, 2] bcast_S8x2048x1_S8x2048x1024_0_1_2 s)) (broadcastInDim S8x2048x1024 ![0, 1, 2] bcast_S1x1x1024_S8x2048x1024_0_1_2 (broadcastInDim S1x1x1024 ![2] bcast_S1024_S1x1x1024_2 (shapeCast _ (extractStridedSlice S1x1024 ![0, 0] g slices_S2x1024_S1x1024_0_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1x1024 ![0, 0, 1, 0, 0] u slices_S2x8x6x1x1024_S1x8x1x1x1024_0_0_1_0_0) shapeCasts_S1x8x1x1x1024_S8x1x1024)))) (broadcastInDim S8x2048x1024 ![0, 1, 2] bcast_S8x1x1024_S8x2048x1024_0_1_2 (shapeCast _ (extractStridedSlice S1x8x1x1x1024 ![0, 0, 0, 0, 0] u slices_S2x8x6x1x1024_S1x8x1x1x1024_0_0_0_0_0) shapeCasts_S1x8x1x1x1024_S8x1x1024))

/-- The product with the projection's weights. -/
def proj (H : FVec Ideal S8x2048x1024 .f32) (w : FVec Ideal S1x1024x6176 .f32) : FVec Ideal S16384x6176 .f32 :=
  shapeCast _ (Host.dotGeneral dot_S8x2048x1024_S1024x6176_S8x2048x6176_2_0_01_1_n_n none H (shapeCast _ w shapeCasts_S1x1024x6176_S1024x6176)) shapeCasts_S8x2048x6176_S16384x6176

/-- The first result, the activated gate. -/
def out0 (P : FVec Ideal S16384x6176 .f32) : FVec Ideal S16384x2048 .f32 :=
  mulf (extractStridedSlice S16384x2048 ![0, 0] P slices_S16384x6176_S16384x2048_0_0) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 0] P slices_S16384x6176_S16384x2048_0_0)))))

/-- The second result, the inputs of the convolution. -/
def out1 (P : FVec Ideal S16384x6176 .f32) : FVec Ideal S16384x4096 .f32 :=
  extractStridedSlice S16384x4096 ![0, 2048] P slices_S16384x6176_S16384x4096_0_2048

/-- The third result, the step sizes, filled up with zeros. -/
def out2 (P : FVec Ideal S16384x6176 .f32) : FVec Ideal S16384x128 .f32 :=
  pad S16384x128 ![0, 0] ![0, 96] ![0, 0] (extractStridedSlice S16384x32 ![0, 6144] P slices_S16384x6176_S16384x32_0_6144) (sitofp .f32 (constantI S_ 32 0#32)) pads_S16384x32_S16384x128_000_0960 h_S_

/-- The projection of the arguments. -/
def whole (x : FVec Ideal S16384x1024 .f32) (g : FVec Ideal S2x1024 .f32) (u : FVec Ideal S2x8x6x1x1024 .f32)
    (w : FVec Ideal S1x1024x6176 .f32) : FVec Ideal S16384x6176 .f32 :=
  proj (hidden (toks x) (inv (toks x)) g u) w

theorem out0_eq (m : (ℓ : Loc nD τ sig) → Buf (Elt Ideal) ℓ) (c : Dev nD) :
    res_main_v30 (F := Ideal) m c = out0 (whole (m ((c.tc : Thread nD τ).loc main_arg0)) (m ((c.tc : Thread nD τ).loc main_arg1))
      (m ((c.tc : Thread nD τ).loc main_arg2)) (m ((c.tc : Thread nD τ).loc main_arg3))) := rfl

theorem toks_at (x : FVec Ideal S16384x1024 .f32) (b : Fin 8) (s : Fin 2048) (d : Fin 1024) :
    toks x (ix3 b s d) = x (ix2 ⟨b.val * 2048 + s.val, by omega⟩ d) := by
  pointwise [toks]

theorem inv_at (X : FVec Ideal S8x2048x1024 .f32) (b : Fin 8) (s : Fin 2048) :
    inv X (ix3 b s 0) = Ideal.rsqrt (Ideal.div (∑ e : Fin 1024, X (ix3 b s e) * X (ix3 b s e)) (Ideal.ofBits .f32 1149239296#32)
      + Ideal.ofBits .f32 897988541#32) := by
  pointwise [inv]

theorem hidden_at (X : FVec Ideal S8x2048x1024 .f32) (s : FVec Ideal S8x2048x1 .f32) (g : FVec Ideal S2x1024 .f32)
    (u : FVec Ideal S2x8x6x1x1024 .f32) (b : Fin 8) (t : Fin 2048) (d : Fin 1024) :
    hidden X s g u (ix3 b t d)
      = X (ix3 b t d) * s (ix3 b t 0) * g (ix2 0 d) * (1 + u (ix5 0 b 1 0 d)) + u (ix5 0 b 0 0 d) := by
  pointwise [hidden]

theorem proj_at (H : FVec Ideal S8x2048x1024 .f32) (w : FVec Ideal S1x1024x6176 .f32) (r : Fin 16384) (n : Fin 6176) :
    proj H w (ix2 r n) = ∑ d : Fin 1024, H (ix3 ⟨r.val / 2048, by omega⟩ ⟨r.val % 2048, by omega⟩ d) * w (ix3 0 d n) := by
  pointwise [proj]

theorem out0_at (P : FVec Ideal S16384x6176 .f32) (r : Fin 16384) (n : Fin 2048) :
    out0 P (ix2 r n) = gate (P (ix2 r ⟨n.val, by omega⟩)) := by
  pointwise [out0, gate]

theorem out1_at (P : FVec Ideal S16384x6176 .f32) (r : Fin 16384) (n : Fin 4096) :
    out1 P (ix2 r n) = P (ix2 r ⟨2048 + n.val, by omega⟩) := by
  pointwise [out1]

theorem out2_at (P : FVec Ideal S16384x6176 .f32) (r : Fin 16384) (n : Fin 128) :
    out2 P (ix2 r n) = if h : n.val < 32 then P (ix2 r ⟨6144 + n.val, by omega⟩) else (0 : EReal) := by
  have h0 : (FloatOps.sitofp .f32 (0#32) : Ideal .f32) = (0 : EReal) := by
    show ((((0#32 : BitVec 32).toInt : ℝ)) : EReal) = 0
    simp
  pointwise [out2]
  rw [h0]

/-- The projection at a token and a column, the token's batch being `b`. -/
theorem whole_at (x : FVec Ideal S16384x1024 .f32) (g : FVec Ideal S2x1024 .f32) (u : FVec Ideal S2x8x6x1x1024 .f32)
    (w : FVec Ideal S1x1024x6176 .f32) (r : Fin 16384) (n : Fin 6176) :
    whole x g u w (ix2 r n)
      = ∑ d : Fin 1024, token (fun e => x (ix2 r e)) (fun e => g (ix2 0 e)) (fun e => u (ix5 0 ⟨r.val / 2048, by omega⟩ 1 0 e))
          (fun e => u (ix5 0 ⟨r.val / 2048, by omega⟩ 0 0 e)) d * w (ix3 0 d n) := by
  have hx : ∀ d : Fin 1024, toks x (ix3 ⟨r.val / 2048, by omega⟩ ⟨r.val % 2048, by omega⟩ d) = x (ix2 r d) := fun d =>
    (toks_at x _ _ d).trans (congrArg (fun q => x (ix2 q d)) (Fin.ext (by show r.val / 2048 * 2048 + r.val % 2048 = r.val; omega)))
  refine (proj_at _ w r n).trans ?_
  refine Finset.sum_congr rfl fun d _ => congrArg (· * w (ix3 0 d n)) ?_
  refine (hidden_at _ _ g u _ _ d).trans ?_
  rw [inv_at]
  simp only [hx]
  rfl

end Cert.Projections.Ref

end
-- ==== Proof.ProjBody.lean ====
/-
  What one block of tokens' body leaves in the three results, read at an index, at exact values.
-/
module

public import proofs.«01_k».proof.Proof.Gen.ProjectionIdeal.Value
public import proofs.«01_k».proof.Proof.ProjStages
public import Idealize.ShloMosaic.PureOps.Ideal
public import Idealize.ShloMosaic.Lib.Pointwise
public import Idealize.ShloMosaic.Lib.WritesUnit

@[expose] public section

set_option maxRecDepth 16384

noncomputable section

namespace Cert.Projections

open Cert.ProjectionIdeal Cert.ProjectionIdeal.Gen
open Idealize.ShloMosaic Idealize.ShloMosaic.TcCoe

theorem pay5_at (x : S256x1024.Idx → EReal) (g : S1x1024.Idx → EReal) (s u : S1x1x1x1x1024.Idx → EReal) (y : Fin 256) (d : Fin 1024) :
    k0_pay5 (F := Ideal) x g s u (ix2 y d)
      = token (fun e => x (ix2 y e)) (fun e => g (ix2 0 e)) (fun e => s (ix5 0 0 0 0 e)) (fun e => u (ix5 0 0 0 0 e)) d := by
  pointwise [k0_pay5, token]

theorem pay6_at (x : S256x1024.Idx → EReal) (g : S1x1024.Idx → EReal) (s u : S1x1x1x1x1024.Idx → EReal)
    (w : S1024x2048.Idx → EReal) (y : Fin 256) (n : Fin 2048) :
    k0_pay6 (F := Ideal) x g s u w (ix2 y n)
      = ∑ d : Fin 1024, token (fun e => x (ix2 y e)) (fun e => g (ix2 0 e)) (fun e => s (ix5 0 0 0 0 e)) (fun e => u (ix5 0 0 0 0 e)) d
          * w (ix2 d n) := by
  have h := pay5_at x g s u y
  unfold k0_pay6
  generalize k0_pay5 (F := Ideal) x g s u = H at h ⊢
  simp only [← h]
  clear h
  pointwise []

theorem pay2_at (H : S256x1024.Idx → EReal) (w : S1024x4096.Idx → EReal) (y : Fin 256) (n : Fin 4096) :
    k0_pay2 (F := Ideal) H w (ix2 y n) = ∑ d : Fin 1024, H (ix2 y d) * w (ix2 d n) := by
  pointwise [k0_pay2]

theorem pay3_at (H : S256x1024.Idx → EReal) (w : S1024x32.Idx → EReal) (y : Fin 256) (n : Fin 32) :
    k0_pay3 (F := Ideal) H w (ix2 y n) = ∑ d : Fin 1024, H (ix2 y d) * w (ix2 d n) := by
  pointwise [k0_pay3]

theorem pay4_at (y : Fin 256) (n : Fin 96) : k0_pay4 (F := Ideal) (ix2 y n) = (0 : EReal) := by
  pointwise [k0_pay4]

theorem pay1_at (x : S256x1024.Idx → EReal) (g : S1x1024.Idx → EReal) (s u : S1x1x1x1x1024.Idx → EReal)
    (w : S1024x2048.Idx → EReal) (y : Fin 256) (n : Fin 2048) :
    k0_pay1 (F := Ideal) (k0_pay6 x g s u w) (k0_pay7 x g s u w) k0_pay8 (ix2 y n) = gate (k0_pay6 (F := Ideal) x g s u w (ix2 y n)) := by
  unfold k0_pay7
  generalize k0_pay6 (F := Ideal) x g s u w = P
  pointwise [k0_pay1, k0_pay8, gate]
  rw [zero_sub]

theorem zero2 : (![0, 0] : Fin 2 → ℕ) = fun _ => 0 := by funext a; match a with | 0 => rfl | 1 => rfl
theorem zero5 : (![0, 0, 0, 0, 0] : Fin 5 → ℕ) = fun _ => 0 := by
  funext a; match a with | 0 => rfl | 1 => rfl | 2 => rfl | 3 => rfl | 4 => rfl

theorem ld_x (x : S256x1024.Idx → EReal) :
    View.ld (Val := Elt Ideal) (e' := .f32) x (Rect.unit (s := S256x1024) ![0, 0] ![256, 1024] inb_S256x1024_S256x1024_0_0) = x :=
  View.ld_unit_zero (S := S256x1024) (Val := Elt Ideal) (e := .f32) zero2 _ x
theorem ld_g (x : S1x1024.Idx → EReal) :
    View.ld (Val := Elt Ideal) (e' := .f32) x (Rect.unit (s := S1x1024) ![0, 0] ![1, 1024] inb_S1x1024_S1x1024_0_0) = x :=
  View.ld_unit_zero (S := S1x1024) (Val := Elt Ideal) (e := .f32) zero2 _ x
theorem ld_s (x : S1x1x1x1x1024.Idx → EReal) :
    View.ld (Val := Elt Ideal) (e' := .f32) x (Rect.unit (s := S1x1x1x1x1024) ![0, 0, 0, 0, 0] ![1, 1, 1, 1, 1024]
      inb_S1x1x1x1x1024_S1x1x1x1x1024_0_0_0_0_0) = x :=
  View.ld_unit_zero (S := S1x1x1x1x1024) (Val := Elt Ideal) (e := .f32) zero5 _ x
theorem ld_w0 (w : S1024x6176.Idx → EReal) (d : Fin 1024) (n : Fin 2048) :
    View.ld (Val := Elt Ideal) (e' := .bf16) w (Rect.unit (s := S1024x6176) ![0, 0] ![1024, 2048] inb_S1024x6176_S1024x2048_0_0) (ix2 d n)
      = w (ix2 d ⟨n.val, by omega⟩) := by
  refine congrArg w (funext fun k => Fin.ext ?_)
  match k with
  | 0 => show 0 + 1 * d.val = d.val; omega
  | 1 => show 0 + 1 * n.val = n.val; omega
theorem ld_w1 (w : S1024x6176.Idx → EReal) (d : Fin 1024) (n : Fin 4096) :
    View.ld (Val := Elt Ideal) (e' := .bf16) w (Rect.unit (s := S1024x6176) ![0, 2048] ![1024, 4096] inb_S1024x6176_S1024x4096_0_2048) (ix2 d n)
      = w (ix2 d ⟨2048 + n.val, by omega⟩) := by
  refine congrArg w (funext fun k => Fin.ext ?_)
  match k with
  | 0 => show 0 + 1 * d.val = d.val; omega
  | 1 => show 2048 + 1 * n.val = 2048 + n.val; omega
theorem ld_w2 (w : S1024x6176.Idx → EReal) (d : Fin 1024) (n : Fin 32) :
    View.ld (Val := Elt Ideal) (e' := .bf16) w (Rect.unit (s := S1024x6176) ![0, 6144] ![1024, 32] inb_S1024x6176_S1024x32_0_6144) (ix2 d n)
      = w (ix2 d ⟨6144 + n.val, by omega⟩) := by
  refine congrArg w (funext fun k => Fin.ext ?_)
  match k with
  | 0 => show 0 + 1 * d.val = d.val; omega
  | 1 => show 6144 + 1 * n.val = 6144 + n.val; omega

section Out

variable (c : Dev nD) (i : grid0.Coords) (arg1 : Memref sig .tc .vmem S256x1024 .f32) (harg1 : arg1.IsWhole)
  (arg2 : Memref sig .tc .vmem S1x1024 .f32) (harg2 : arg2.IsWhole) (arg3 : Memref sig .tc .vmem S1x1x1x1x1024 .f32) (harg3 : arg3.IsWhole)
  (arg4 : Memref sig .tc .vmem S1x1x1x1x1024 .f32) (harg4 : arg4.IsWhole) (arg5 : Memref sig .tc .vmem S1024x6176 .bf16) (harg5 : arg5.IsWhole)
  (arg6 : Memref sig .tc .vmem S256x2048 .f32) (harg6 : arg6.IsWhole) (arg7 : Memref sig .tc .vmem S256x4096 .f32) (harg7 : arg7.IsWhole)
  (arg8 : Memref sig .tc .vmem S256x128 .f32) (harg8 : arg8.IsWhole)
  (x : S256x1024.Idx → EReal) (g : S1x1024.Idx → EReal) (s u : S1x1x1x1x1024.Idx → EReal) (w : S1024x6176.Idx → EReal)

/-- The block's projection at a row and a column. -/
def blockProj (y : Fin 256) (n : Fin 6176) : EReal :=
  ∑ d : Fin 1024, token (fun e => x (ix2 y e)) (fun e => g (ix2 0 e)) (fun e => s (ix5 0 0 0 0 e)) (fun e => u (ix5 0 0 0 0 e)) d
    * w (ix2 d n)

theorem out5_at (y : Fin 256) (n : Fin 2048) :
    out0_A_5 (F := Ideal) c i arg1 harg1 arg2 harg2 arg3 harg3 arg4 harg4 arg5 harg5 arg6 harg6 arg7 harg7 arg8 harg8 x g s u w (ix2 y n)
      = gate (blockProj x g s u w y ⟨n.val, by omega⟩) := by
  unfold out0_A_5
  rw [View.read_writes_junk_eq_canon]
  unfold kernelRun0_A
  dsimp only
  sl_unfold_words
  rw [View.canon_unit_zero zero2]
  simp only [View.readAt_eq_ld, harg1.read_unread, harg2.read_unread, harg3.read_unread, harg4.read_unread, harg5.read_unread]
  rw [ld_x, ld_g, ld_s, ld_s]
  have hl := ld_w0 w
  generalize View.ld (Val := Elt Ideal) (e' := .bf16) w (Rect.unit (s := S1024x6176) ![0, 0] ![1024, 2048] inb_S1024x6176_S1024x2048_0_0) = W at hl ⊢
  refine (pay1_at x g s u W y n).trans (congrArg gate ((pay6_at x g s u W y n).trans ?_))
  unfold blockProj
  exact Finset.sum_congr rfl fun d _ => congrArg (_ * ·) (hl d n)

theorem out6_at (y : Fin 256) (n : Fin 4096) :
    out0_A_6 (F := Ideal) c i arg1 harg1 arg2 harg2 arg3 harg3 arg4 harg4 arg5 harg5 arg6 harg6 arg7 harg7 arg8 harg8 x g s u w (ix2 y n)
      = blockProj x g s u w y ⟨2048 + n.val, by omega⟩ := by
  unfold out0_A_6
  rw [View.read_writes_junk_eq_canon]
  unfold kernelRun0_A
  dsimp only
  sl_unfold_words
  rw [View.canon_unit_zero zero2]
  simp only [View.readAt_eq_ld, harg1.read_unread, harg2.read_unread, harg3.read_unread, harg4.read_unread, harg5.read_unread]
  rw [ld_x, ld_g, ld_s, ld_s]
  refine (pay2_at _ _ y n).trans ?_
  unfold blockProj
  refine Finset.sum_congr rfl fun d _ => ?_
  rw [pay5_at, ld_w1]

theorem out7_at (y : Fin 256) (n : Fin 128) :
    out0_A_7 (F := Ideal) c i arg1 harg1 arg2 harg2 arg3 harg3 arg4 harg4 arg5 harg5 arg6 harg6 arg7 harg7 arg8 harg8 x g s u w (ix2 y n)
      = if h : n.val < 32 then blockProj x g s u w y ⟨6144 + n.val, by omega⟩ else 0 := by
  unfold out0_A_7
  unfold kernelRun0_A
  dsimp only
  sl_unfold_words
  by_cases h : n.val < 32
  · rw [dif_pos h]
    refine (View.read_writes_cons_unit_of_not_mem _ _ _ _ _ _ rfl (1 : Fin 2) (.inl h)).trans ?_
    refine (View.read_writes_cons_unit_of_mem _ _ _ _ _ _ (ix2 y ⟨n.val, h⟩) rfl ?_).trans ?_
    · intro a
      match a with
      | 0 => show y.val = 0 + y.val; omega
      | 1 => show n.val = 0 + n.val; omega
    simp only [View.readAt_eq_ld, harg1.read_unread, harg2.read_unread, harg3.read_unread, harg4.read_unread, harg5.read_unread]
    rw [ld_x, ld_g, ld_s, ld_s]
    refine (pay3_at _ _ y ⟨n.val, h⟩).trans ?_
    unfold blockProj
    refine Finset.sum_congr rfl fun d _ => ?_
    rw [pay5_at, ld_w2]
  · rw [dif_neg h]
    refine (View.read_writes_cons_unit_of_mem _ _ _ _ _ _ (ix2 y ⟨n.val - 32, by omega⟩) rfl ?_).trans (pay4_at y ⟨n.val - 32, by omega⟩)
    intro a
    match a with
    | 0 => show y.val = 0 + y.val; omega
    | 1 => show n.val = 32 + (n.val - 32); omega

end Out

end Cert.Projections

end
-- ==== Proof.ProjBlocks.lean ====
/-
  The blocks that one block of tokens reads, at coordinates of the arguments.
-/
module

public import proofs.«01_k».proof.Proof.ProjBody

@[expose] public section

set_option maxRecDepth 16384

noncomputable section

namespace Cert.Projections

open Cert.ProjectionIdeal Cert.ProjectionIdeal.Gen
open Idealize.ShloMosaic Idealize.ShloMosaic.TcCoe

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![0, t.val / 8, 1, 0, 0] := by decide +kernel
theorem index3 : ∀ t : Fin grid0.N, win0_3.index t = ![0, t.val / 8, 0, 0, 0] := by decide +kernel
theorem index4 : ∀ t : Fin grid0.N, win0_4.index t = ![0, 0] := by decide +kernel
theorem index5 : ∀ t : Fin grid0.N, win0_5.index t = ![t.val, 0] := by decide +kernel
theorem index6 : ∀ t : Fin grid0.N, win0_6.index t = ![t.val, 0] := by decide +kernel
theorem index7 : ∀ t : Fin grid0.N, win0_7.index t = ![t.val, 0] := by decide +kernel

variable (m : (ℓ : Loc nD τ sig) → Buf (Elt Ideal) ℓ)

/-- The arguments. -/
abbrev argX (c : Dev nD) : S16384x1024.Idx → EReal := m ((c.tc : Thread nD τ).loc main_arg0)
abbrev argG (c : Dev nD) : S2x1024.Idx → EReal := m ((c.tc : Thread nD τ).loc main_arg1)
abbrev argU (c : Dev nD) : S2x8x6x1x1024.Idx → EReal := m ((c.tc : Thread nD τ).loc main_arg2)
abbrev argW (c : Dev nD) : S1x1024x6176.Idx → EReal := m ((c.tc : Thread nD τ).loc main_arg3)

theorem V_norm (c : Dev nD) (e : Fin 1024) : (V m c main_v2 : S1x1024.Idx → EReal) (ix2 0 e) = argG m c (ix2 0 e) := by
  have h : V m c main_v2 = (shapeCast _ (shapeCast _ (extractStridedSlice S1x1024 ![0, 0] (argG m c) slices_S2x1024_S1x1024_0_0)
      shapeCasts_S1x1024_S1024) shapeCasts_S1024_S1x1024 : FVec Ideal S1x1024 .f32) := by
    simp only [V]
    after_results_simp <;> rfl
  rw [h]
  generalize argG m c = g
  pointwise []

theorem V_weights (c : Dev nD) (d : Fin 1024) (n : Fin 6176) :
    (V m c main_v4 : S1024x6176.Idx → EReal) (ix2 d n) = argW m c (ix3 0 d n) := by
  have h : V m c main_v4 = (truncf .bf16 (shapeCast _ (argW m c) shapeCasts_S1x1024x6176_S1024x6176 : FVec Ideal S1024x6176 .f32)
      bitsLt_bf16_f32 : FVec Ideal S1024x6176 .bf16) := by
    simp only [V]
    after_results_simp <;> rfl
  rw [h]
  generalize argW m c = w
  pointwise []

theorem block0 (c : Dev nD) (t : Fin grid0.N) (y : Fin 256) (r : Fin 16384) (hr : r.val = 256 * t.val + y.val) (d : Fin 1024) :
    (iblk m c 0 t : S256x1024.Idx → EReal) (ix2 y d) = argX m c (ix2 r d) := by
  rw [← show V m c main_arg0 = argX m c from V_main_arg0 m c]
  refine congrArg (V m c main_arg0) ?_
  funext k
  apply Fin.ext
  refine (win0_0.rect_emb_val t _ k).trans ?_
  rw [index0 t]
  match k with
  | 0 => show t.val * 256 + y.val = r.val; omega
  | 1 => show 0 * 1024 + d.val = d.val; omega

theorem block1 (c : Dev nD) (t : Fin grid0.N) (e : Fin 1024) :
    (iblk m c 1 t : S1x1024.Idx → EReal) (ix2 0 e) = argG m c (ix2 0 e) := by
  refine Eq.trans ?_ (V_norm m c e)
  refine congrArg (V m c main_v2) ?_
  funext k
  apply Fin.ext
  refine (win0_1.rect_emb_val t _ k).trans ?_
  rw [index1 t]
  match k with
  | 0 => rfl
  | 1 => show 0 * 1024 + e.val = e.val; omega

theorem block2 (c : Dev nD) (t : Fin grid0.N) (b : Fin 8) (hb : b.val = t.val / 8) (e : Fin 1024) :
    (iblk m c 2 t : S1x1x1x1x1024.Idx → EReal) (ix5 0 0 0 0 e) = argU m c (ix5 0 b 1 0 e) := by
  rw [← show V m c main_arg2 = argU m c from V_main_arg2 m c]
  refine congrArg (V m c main_arg2) ?_
  funext k
  apply Fin.ext
  refine (win0_2.rect_emb_val t _ k).trans ?_
  rw [index2 t]
  match k with
  | 0 => rfl
  | 1 => show t.val / 8 * 1 + 0 = b.val; omega
  | 2 => rfl
  | 3 => rfl
  | 4 => show 0 * 1024 + e.val = e.val; omega

theorem block3 (c : Dev nD) (t : Fin grid0.N) (b : Fin 8) (hb : b.val = t.val / 8) (e : Fin 1024) :
    (iblk m c 3 t : S1x1x1x1x1024.Idx → EReal) (ix5 0 0 0 0 e) = argU m c (ix5 0 b 0 0 e) := by
  rw [← show V m c main_arg2 = argU m c from V_main_arg2 m c]
  refine congrArg (V m c main_arg2) ?_
  funext k
  apply Fin.ext
  refine (win0_3.rect_emb_val t _ k).trans ?_
  rw [index3 t]
  match k with
  | 0 => rfl
  | 1 => show t.val / 8 * 1 + 0 = b.val; omega
  | 2 => rfl
  | 3 => rfl
  | 4 => show 0 * 1024 + e.val = e.val; omega

theorem block4 (c : Dev nD) (t : Fin grid0.N) (d : Fin 1024) (n : Fin 6176) :
    (iblk m c 4 t : S1024x6176.Idx → EReal) (ix2 d n) = argW m c (ix3 0 d n) := by
  refine Eq.trans ?_ (V_weights m c d n)
  refine congrArg (V m c main_v4) ?_
  funext k
  apply Fin.ext
  refine (win0_4.rect_emb_val t _ k).trans ?_
  rw [index4 t]
  match k with
  | 0 => show 0 * 1024 + d.val = d.val; omega
  | 1 => show 0 * 6176 + n.val = n.val; omega

/-- A block's projection is the whole projection's rows of that block. -/
theorem blockProj_eq (c : Dev nD) (t : Fin grid0.N) (y : Fin 256) (r : Fin 16384) (hr : r.val = 256 * t.val + y.val) (n : Fin 6176) :
    blockProj (iblk m c 0 t) (iblk m c 1 t) (iblk m c 2 t) (iblk m c 3 t) (iblk m c 4 t) y n
      = Ref.whole (argX m c) (argG m c) (argU m c) (argW m c) (ix2 r n) := by
  refine Eq.trans ?_ (Ref.whole_at (argX m c) (argG m c) (argU m c) (argW m c) r n).symm
  unfold blockProj
  have h2 := block2 m c t ⟨r.val / 2048, by omega⟩ (by show r.val / 2048 = t.val / 8; omega)
  have h3 := block3 m c t ⟨r.val / 2048, by omega⟩ (by show r.val / 2048 = t.val / 8; omega)
  simp only [block0 m c t y r hr, block1 m c t, h2, h3, block4 m c t]

end Cert.Projections

end
-- ==== Proof.ProjValue.lean ====
/-
  The three results of the first layer's projection, at exact values, and the claim about them.
-/
module

public import proofs.«01_k».proof.Defs
public import proofs.«01_k».proof.Proof.ProjBlocks
public import Idealize.ShloMosaic.Lib.Pipeline.ValueKit.Geometry

@[expose] public section

set_option maxRecDepth 16384

noncomputable section

namespace Cert.Projections

open Cert.ProjectionIdeal Cert.ProjectionIdeal.Gen
open Idealize.ShloMosaic Idealize.ShloMosaic.TcCoe Idealize.SL.Sem

variable (m : (ℓ : Loc nD τ sig) → Buf (Elt Ideal) ℓ)

/-- The projection of the kernel's arguments, as the reference writes it. -/
abbrev wholeOf (c : Dev nD) : FVec Ideal Cert.ProjectionReferenceIdeal.S16384x6176 .f32 :=
  Ref.whole (argX m c) (argG m c) (argU m c) (argW m c)

theorem flush5 : ∀ t : Fin grid0.N, win0_5.flush t = true := by decide +kernel

/-- The first result. -/
theorem out5_eq (c : Dev nD) : (dats m 0 c).arrAt 5 cfg0.N = Ref.out0 (wholeOf m c) := by
  refine (dats m 0 c).arrAt_eq_of_emb (⟨5, by decide⟩ : Fin cfg0.W) _ ?_ ?_
  · intro t hf z
    have ht : t.val < 64 := t.isLt
    obtain ⟨y, hy⟩ : ∃ y : Fin 256, y.val = (z 0).val := ⟨⟨(z 0).val, (z 0).isLt⟩, rfl⟩
    obtain ⟨n, hn⟩ : ∃ n : Fin 2048, n.val = (z 1).val := ⟨⟨(z 1).val, (z 1).isLt⟩, rfl⟩
    obtain ⟨r, hr⟩ : ∃ r : Fin 16384, r.val = 256 * t.val + y.val := ⟨⟨256 * t.val + y.val, by omega⟩, rfl⟩
    have he : (win0_5.rect t).emb z = (ix2 r n : S16384x2048.Idx) := by
      funext b
      apply Fin.ext
      refine (win0_5.rect_emb_val t z b).trans ?_
      rw [index5 t]
      match b with
      | 0 => show t.val * 256 + (z 0).val = r.val; omega
      | 1 => show 0 * 2048 + (z 1).val = n.val; omega
    have hz : (win0_5.xinj (grid0.coords t) z : S256x2048.Idx) = ix2 y n := by
      funext b
      apply Fin.ext
      match b with
      | 0 => exact hy.symm
      | 1 => exact hn.symm
    refine (congrFun (Value.flushed5_A m c t) z).trans ?_
    refine Eq.trans ?_ (congrArg (Ref.out0 (wholeOf m c)) he.symm)
    refine (congrArg _ hz).trans ?_
    refine (out5_at c _ _ _ _ _ _ _ _ _ _ _ _ _ _ _ _ _ _ _ _ _ _ y n).trans ?_
    exact (congrArg gate (blockProj_eq m c t y r hr ⟨n.val, by omega⟩)).trans (Ref.out0_at _ r n).symm
  · intro i
    have hi0 : (i 0).val < 16384 := (i 0).isLt
    have hi1 : (i 1).val < 2048 := (i 1).isLt
    obtain ⟨t, ht⟩ : ∃ t : Fin grid0.N, t.val = (i 0).val / 256 := ⟨⟨(i 0).val / 256, by show _ < 64; omega⟩, rfl⟩
    refine ⟨t, flush5 t, ?_⟩
    have he : (win0_5.blk t).view.emb (ix2 (⟨(i 0).val % 256, by omega⟩ : Fin 256) (⟨(i 1).val, hi1⟩ : Fin 2048)) = i := by
      funext b
      apply Fin.ext
      refine (win0_5.rect_emb_val t (ix2 (⟨(i 0).val % 256, by omega⟩ : Fin 256) (⟨(i 1).val, hi1⟩ : Fin 2048)) b).trans ?_
      rw [index5 t]
      match b with
      | 0 => show t.val * 256 + (i 0).val % 256 = (i 0).val; omega
      | 1 => show 0 * 2048 + (i 1).val = (i 1).val; omega
    exact Eq.mp (congrArg (fun j => j ∈ (win0_5.blk t).view.set) he) (View.emb_mem_set _ _)

theorem flush6 : ∀ t : Fin grid0.N, win0_6.flush t = true := by decide +kernel

/-- The second result. -/
theorem out6_eq (c : Dev nD) : (dats m 0 c).arrAt 6 cfg0.N = Ref.out1 (wholeOf m c) := by
  refine (dats m 0 c).arrAt_eq_of_emb (⟨6, by decide⟩ : Fin cfg0.W) _ ?_ ?_
  · intro t hf z
    have ht : t.val < 64 := t.isLt
    obtain ⟨y, hy⟩ : ∃ y : Fin 256, y.val = (z 0).val := ⟨⟨(z 0).val, (z 0).isLt⟩, rfl⟩
    obtain ⟨n, hn⟩ : ∃ n : Fin 4096, n.val = (z 1).val := ⟨⟨(z 1).val, (z 1).isLt⟩, rfl⟩
    obtain ⟨r, hr⟩ : ∃ r : Fin 16384, r.val = 256 * t.val + y.val := ⟨⟨256 * t.val + y.val, by omega⟩, rfl⟩
    have he : (win0_6.rect t).emb z = (ix2 r n : S16384x4096.Idx) := by
      funext b
      apply Fin.ext
      refine (win0_6.rect_emb_val t z b).trans ?_
      rw [index6 t]
      match b with
      | 0 => show t.val * 256 + (z 0).val = r.val; omega
      | 1 => show 0 * 4096 + (z 1).val = n.val; omega
    have hz : (win0_6.xinj (grid0.coords t) z : S256x4096.Idx) = ix2 y n := by
      funext b
      apply Fin.ext
      match b with
      | 0 => exact hy.symm
      | 1 => exact hn.symm
    refine (congrFun (Value.flushed6_A m c t) z).trans ?_
    refine Eq.trans ?_ (congrArg (Ref.out1 (wholeOf m c)) he.symm)
    refine (congrArg _ hz).trans ?_
    refine (out6_at c _ _ _ _ _ _ _ _ _ _ _ _ _ _ _ _ _ _ _ _ _ _ y n).trans ?_
    exact (blockProj_eq m c t y r hr ⟨2048 + n.val, by omega⟩).trans (Ref.out1_at _ r n).symm
  · intro i
    have hi0 : (i 0).val < 16384 := (i 0).isLt
    have hi1 : (i 1).val < 4096 := (i 1).isLt
    obtain ⟨t, ht⟩ : ∃ t : Fin grid0.N, t.val = (i 0).val / 256 := ⟨⟨(i 0).val / 256, by show _ < 64; omega⟩, rfl⟩
    refine ⟨t, flush6 t, ?_⟩
    have he : (win0_6.blk t).view.emb (ix2 (⟨(i 0).val % 256, by omega⟩ : Fin 256) (⟨(i 1).val, hi1⟩ : Fin 4096)) = i := by
      funext b
      apply Fin.ext
      refine (win0_6.rect_emb_val t (ix2 (⟨(i 0).val % 256, by omega⟩ : Fin 256) (⟨(i 1).val, hi1⟩ : Fin 4096)) b).trans ?_
      rw [index6 t]
      match b with
      | 0 => show t.val * 256 + (i 0).val % 256 = (i 0).val; omega
      | 1 => show 0 * 4096 + (i 1).val = (i 1).val; omega
    exact Eq.mp (congrArg (fun j => j ∈ (win0_6.blk t).view.set) he) (View.emb_mem_set _ _)

theorem flush7 : ∀ t : Fin grid0.N, win0_7.flush t = true := by decide +kernel

/-- The third result. -/
theorem out7_eq (c : Dev nD) : (dats m 0 c).arrAt 7 cfg0.N = Ref.out2 (wholeOf m c) := by
  refine (dats m 0 c).arrAt_eq_of_emb (⟨7, by decide⟩ : Fin cfg0.W) _ ?_ ?_
  · intro t hf z
    have ht : t.val < 64 := t.isLt
    obtain ⟨y, hy⟩ : ∃ y : Fin 256, y.val = (z 0).val := ⟨⟨(z 0).val, (z 0).isLt⟩, rfl⟩
    obtain ⟨n, hn⟩ : ∃ n : Fin 128, n.val = (z 1).val := ⟨⟨(z 1).val, (z 1).isLt⟩, rfl⟩
    obtain ⟨r, hr⟩ : ∃ r : Fin 16384, r.val = 256 * t.val + y.val := ⟨⟨256 * t.val + y.val, by omega⟩, rfl⟩
    have he : (win0_7.rect t).emb z = (ix2 r n : S16384x128.Idx) := by
      funext b
      apply Fin.ext
      refine (win0_7.rect_emb_val t z b).trans ?_
      rw [index7 t]
      match b with
      | 0 => show t.val * 256 + (z 0).val = r.val; omega
      | 1 => show 0 * 128 + (z 1).val = n.val; omega
    have hz : (win0_7.xinj (grid0.coords t) z : S256x128.Idx) = ix2 y n := by
      funext b
      apply Fin.ext
      match b with
      | 0 => exact hy.symm
      | 1 => exact hn.symm
    refine (congrFun (Value.flushed7_A m c t) z).trans ?_
    refine Eq.trans ?_ (congrArg (Ref.out2 (wholeOf m c)) he.symm)
    refine (congrArg _ hz).trans ?_
    refine (out7_at c _ _ _ _ _ _ _ _ _ _ _ _ _ _ _ _ _ _ _ _ _ _ y n).trans ?_
    refine Eq.trans ?_ (Ref.out2_at _ r n).symm
    by_cases h : n.val < 32
    · rw [dif_pos h, dif_pos h]
      exact blockProj_eq m c t y r hr ⟨6144 + n.val, by omega⟩
    · rw [dif_neg h, dif_neg h]
  · intro i
    have hi0 : (i 0).val < 16384 := (i 0).isLt
    have hi1 : (i 1).val < 128 := (i 1).isLt
    obtain ⟨t, ht⟩ : ∃ t : Fin grid0.N, t.val = (i 0).val / 256 := ⟨⟨(i 0).val / 256, by show _ < 64; omega⟩, rfl⟩
    refine ⟨t, flush7 t, ?_⟩
    have he : (win0_7.blk t).view.emb (ix2 (⟨(i 0).val % 256, by omega⟩ : Fin 256) (⟨(i 1).val, hi1⟩ : Fin 128)) = i := by
      funext b
      apply Fin.ext
      refine (win0_7.rect_emb_val t (ix2 (⟨(i 0).val % 256, by omega⟩ : Fin 256) (⟨(i 1).val, hi1⟩ : Fin 128)) b).trans ?_
      rw [index7 t]
      match b with
      | 0 => show t.val * 256 + (i 0).val % 256 = (i 0).val; omega
      | 1 => show 0 * 128 + (i 1).val = (i 1).val; omega
    exact Eq.mp (congrArg (fun j => j ∈ (win0_7.blk t).view.set) he) (View.emb_mem_set _ _)

/-- The value claim. -/
theorem algebraic [Cert.ProjectionReferenceIdeal.Facts] : Cert.algebraic_ProjectionIdeal_ProjectionReferenceIdeal := by
  intro m g m' g' _ hagree
  refine ⟨fun c => (dats m 0 c).arrAt 5 cfg0.N, fun c => (dats m 0 c).arrAt 6 cfg0.N, fun c => (dats m 0 c).arrAt 7 cfg0.N, ?_, ?_⟩
  · exact Value.run_blocks (F := Ideal) m g
  · refine (θ_run _ _ _).mono (fun _ h c => ?_) (Cert.ProjectionReferenceIdeal.Value.run (F := Ideal) m' g')
    obtain ⟨e0, e1, e2, e3⟩ := hagree c
    obtain ⟨h0, h1, h2, h3⟩ := h c
    have hw : Ref.whole (m' ((c.tc : Thread Cert.ProjectionReferenceIdeal.nD Cert.ProjectionReferenceIdeal.τ).loc Cert.ProjectionReferenceIdeal.main_arg0))
        (m' ((c.tc : Thread Cert.ProjectionReferenceIdeal.nD Cert.ProjectionReferenceIdeal.τ).loc Cert.ProjectionReferenceIdeal.main_arg1))
        (m' ((c.tc : Thread Cert.ProjectionReferenceIdeal.nD Cert.ProjectionReferenceIdeal.τ).loc Cert.ProjectionReferenceIdeal.main_arg2))
        (m' ((c.tc : Thread Cert.ProjectionReferenceIdeal.nD Cert.ProjectionReferenceIdeal.τ).loc Cert.ProjectionReferenceIdeal.main_arg3))
        = wholeOf m c := by rw [e0, e1, e2, e3]
    refine ⟨?_, ?_, ?_, h3⟩
    · exact (h0.trans (Ref.out0_eq m' c)).trans ((congrArg Ref.out0 hw).trans (out5_eq m c).symm)
    · exact (show _ = Ref.out1 (Ref.whole _ _ _ _) from h1).trans ((congrArg Ref.out1 hw).trans (out6_eq m c).symm)
    · exact (show _ = Ref.out2 (Ref.whole _ _ _ _) from h2).trans ((congrArg Ref.out2 hw).trans (out7_eq m c).symm)

end Cert.Projections

end
-- ==== Proof.AttMath.lean ====
/-
  The norm of one head of columns, and how sums over all columns against the head indicators come to it.
-/
module

public import Idealize.ShloMosaic.PureOps.Ideal
public import Idealize.ShloMosaic.Lib.Pointwise

@[expose] public section

set_option maxRecDepth 16384

noncomputable section

namespace Cert.Attentions

open Idealize.ShloMosaic

/-- The factor of a head's norm, from the sum of the squares of its columns. -/
def headFactor (ss : EReal) : EReal := Ideal.rsqrt (Ideal.div ss (Ideal.ofBits .f32 0x42800000#32) + Ideal.ofBits .f32 0x358637BD#32)

/-- A head's column `i` normed and weighted. -/
def headNorm (q : Fin 64 → EReal) (w : EReal) (i : Fin 64) : EReal := q i * headFactor (∑ j : Fin 64, q j * q j) * w

theorem ofBits_64 : Ideal.ofBits .f32 0x42800000#32 = ((64 : ℝ) : EReal) := by
  simp [Ideal.ofBits, Ideal.ieee]
  norm_num
  rw [← EReal.coe_mul]
  norm_num
theorem ofBits_1 : Ideal.ofBits .f32 0x3F800000#32 = 1 := IdealRules.sign_bit.ideal_onePat .f32
theorem ofBits_64th : Ideal.ofBits .f32 0x3C800000#32 = (((64 : ℝ)⁻¹ : ℝ) : EReal) := by
  simp [Ideal.ofBits, Ideal.ieee]
  norm_num
  rw [← EReal.coe_mul]
  norm_num

theorem ofBits_small : ∃ r : ℝ, 0 < r ∧ Ideal.ofBits .f32 0x358637BD#32 = (r : EReal) := by
  refine ⟨_, ?_, by simp [Ideal.ofBits, Ideal.ieee]; rfl⟩
  norm_num

theorem div_64 (x : EReal) : Ideal.div x (Ideal.ofBits .f32 0x42800000#32) = x * Ideal.ofBits .f32 0x3C800000#32 := by
  have h : ((64 : ℝ) : EReal) ≠ 0 := by
    intro h
    have : (64 : ℝ) = 0 := EReal.coe_eq_zero.mp h
    norm_num at this
  rw [ofBits_64, ofBits_64th, Ideal.div, if_neg h, EReal.coe_inv]

theorem square_nonneg (x : EReal) : 0 ≤ x * x := by
  induction x with
  | bot => simp
  | top => simp
  | coe r => rw [← EReal.coe_mul]; exact EReal.coe_nonneg.mpr (mul_self_nonneg r)

theorem headFactor_sub (s : EReal) (hs : 0 ≤ s) : headFactor s - headFactor s = 0 := by
  obtain ⟨e, he, hb⟩ := ofBits_small
  unfold headFactor
  rw [div_64, ofBits_64th, hb]
  induction s with
  | bot => exact absurd hs (by simp)
  | top =>
    rw [EReal.top_mul_coe_of_pos (by norm_num), EReal.top_add_coe]
    show (0 : EReal) - 0 = 0
    simp
  | coe r =>
    have hr : 0 ≤ r := EReal.coe_nonneg.mp hs
    have hp : 0 < r * (64 : ℝ)⁻¹ + e := by positivity
    rw [← EReal.coe_mul, ← EReal.coe_add]
    show (if r * (64 : ℝ)⁻¹ + e < 0 then (⊥ : EReal) else if r * (64 : ℝ)⁻¹ + e = 0 then ⊤ else ((Real.sqrt (r * (64 : ℝ)⁻¹ + e))⁻¹ : ℝ))
      - (if r * (64 : ℝ)⁻¹ + e < 0 then (⊥ : EReal) else if r * (64 : ℝ)⁻¹ + e = 0 then ⊤ else ((Real.sqrt (r * (64 : ℝ)⁻¹ + e))⁻¹ : ℝ)) = 0
    rw [if_neg (not_lt.mpr hp.le), if_neg hp.ne', ← EReal.coe_sub, sub_self]
    rfl

/-- A sum over all columns against a head's indicator is the sum over the head's columns. -/
theorem sum_head {N : ℕ} (f : Fin N → EReal) (S : Fin N → EReal) (h : ℕ) (hh : h * 64 + 64 ≤ N)
    (hS : ∀ e, S e = if e.val / 64 = h then 1 else 0) :
    ∑ e : Fin N, f e * S e = ∑ i : Fin 64, f ⟨h * 64 + i.val, by omega⟩ := by
  symm
  refine Finset.sum_of_injOn (fun i : Fin 64 => (⟨h * 64 + i.val, by omega⟩ : Fin N)) ?_ ?_ ?_ ?_
  · intro a _ b _ hab
    have : h * 64 + a.val = h * 64 + b.val := congrArg Fin.val hab
    exact Fin.ext (by omega)
  · intro a _
    exact Finset.mem_coe.mpr (Finset.mem_univ _)
  · intro e _ hne
    rw [hS, if_neg, mul_zero]
    intro hd
    refine hne ⟨⟨e.val % 64, by omega⟩, Finset.mem_coe.mpr (Finset.mem_univ _), Fin.ext ?_⟩
    show h * 64 + e.val % 64 = e.val
    omega
  · intro i _
    rw [hS, if_pos (by show (h * 64 + i.val) / 64 = h; omega), mul_one]

/-- A sum over the heads against the indicator of one of them is that one's term. -/
theorem sum_pick (R : Fin 128 → EReal) (T : Fin 128 → EReal) (h : Fin 128) (hT : ∀ j, T j = if h.val = j.val then 1 else 0) :
    ∑ j : Fin 128, R j * T j = R h := by
  rw [Finset.sum_eq_single h]
  · rw [hT, if_pos rfl, mul_one]
  · intro b _ hb
    rw [hT, if_neg (fun e => hb (Fin.ext e.symm)), mul_zero]
  · intro hn
    exact absurd (Finset.mem_univ h) hn

theorem headNorm_eq {N : ℕ} (q : Fin N → EReal) (S : Fin N → Fin 128 → EReal) (T : Fin 128 → Fin N → EReal) (R : Fin 128 → EReal)
    (hS : ∀ e j, S e j = if e.val / 64 = j.val then 1 else 0) (hT : ∀ j e, T j e = if e.val / 64 = j.val then 1 else 0)
    (hR : ∀ j, R j = Ideal.rsqrt ((∑ e : Fin N, q e * q e * S e j) * Ideal.ofBits .f32 0x3C800000#32 + Ideal.ofBits .f32 0x358637BD#32))
    (w : EReal) (h : Fin 128) (i : Fin 64) (hh : h.val * 64 + 64 ≤ N) :
    q ⟨h.val * 64 + i.val, by omega⟩ * ((∑ j : Fin 128, R j * T j ⟨h.val * 64 + i.val, by omega⟩)
        + ∑ j : Fin 128, (R j - R j) * T j ⟨h.val * 64 + i.val, by omega⟩) * w
      = headNorm (fun i => q ⟨h.val * 64 + i.val, by omega⟩) w i := by
  have hT' : ∀ j, T j ⟨h.val * 64 + i.val, by omega⟩ = if h.val = j.val then 1 else 0 := by
    intro j
    have hd : (h.val * 64 + i.val) / 64 = h.val := by omega
    rw [hT]
    show (if (h.val * 64 + i.val) / 64 = j.val then (1 : EReal) else 0) = _
    rw [hd]
  rw [sum_pick R _ h hT', sum_pick (fun j => R j - R j) _ h hT']
  have hRh : R h = headFactor (∑ i : Fin 64, q ⟨h.val * 64 + i.val, by omega⟩ * q ⟨h.val * 64 + i.val, by omega⟩) := by
    rw [hR, sum_head (fun e => q e * q e) (fun e => S e h) h.val hh (fun e => hS e h), headFactor, div_64]
  rw [hRh, headFactor_sub _ (Finset.sum_nonneg fun i _ => square_nonneg _), add_zero]
  rfl

end Cert.Attentions

end
-- ==== Proof.AttStages.lean ====
/-
  The reference of the attention layer's projection as the printed program writes it, in named stages, each read at an index.
-/
module

public import proofs.«01_k».proof.Proof.Gen.AttentionReferenceIdeal.Run
public import proofs.«01_k».proof.Proof.AttMath
public import proofs.«01_k».proof.Proof.ProjStages
public import Idealize.ShloMosaic.PureOps.Ideal
public import Idealize.ShloMosaic.Lib.Pointwise

@[expose] public section

set_option maxRecDepth 16384

noncomputable section

namespace Cert.Attentions.Ref

open Cert.AttentionReferenceIdeal Cert.AttentionReferenceIdeal.Gen Cert.AttentionReferenceIdeal.Value
open Idealize.ShloMosaic Idealize.ShloMosaic.TcCoe
open Cert.Projections (token)

/-- The tokens, eight batches of them. -/
def toks (x : FVec Ideal S16384x1024 .f32) : FVec Ideal S8x2048x1024 .f32 :=
  shapeCast _ x shapeCasts_S16384x1024_S8x2048x1024

/-- The factor that the norm puts on each token. -/
def inv (X : FVec Ideal S8x2048x1024 .f32) : FVec Ideal S8x2048x1 .f32 :=
  Host.rsqrt (addf (Host.divf (broadcastInDim S8x2048x1 ![0, 1] bcast_S8x2048_S8x2048x1_0_1 (Host.reduceAdd (mulf X X) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))

/-- The normed tokens, scaled and shifted. -/
def hidden (X : FVec Ideal S8x2048x1024 .f32) (s : FVec Ideal S8x2048x1 .f32) (g : FVec Ideal S2x1024 .f32)
    (u : FVec Ideal S2x8x6x1x1024 .f32) : FVec Ideal S8x2048x1024 .f32 :=
  addf (mulf (mulf (mulf X (broadcastInDim S8x2048x1024 ![0, 1, 2] bcast_S8x2048x1_S8x2048x1024_0_1_2 s)) (broadcastInDim S8x2048x1024 ![0, 1, 2] bcast_S1x1x1024_S8x2048x1024_0_1_2 (broadcastInDim S1x1x1024 ![2] bcast_S1024_S1x1x1024_2 (shapeCast _ (extractStridedSlice S1x1024 ![1, 0] g slices_S2x1024_S1x1024_1_0) shapeCasts_S1x1024_S1024)))) (broadcastInDim S8x2048x1024 ![0, 1, 2] bcast_S8x1x1024_S8x2048x1024_0_1_2 (addf (broadcastInDim S8x1x1024 ![] bcast_S_S8x1x1024 (constant S_ .f32 0x3F800000#32)) (shapeCast _ (extractStridedSlice S1x8x1x1x1024 ![1, 0, 1, 0, 0] u slices_S2x8x6x1x1024_S1x8x1x1x1024_1_0_1_0_0) shapeCasts_S1x8x1x1x1024_S8x1x1024)))) (broadcastInDim S8x2048x1024 ![0, 1, 2] bcast_S8x1x1024_S8x2048x1024_0_1_2 (shapeCast _ (extractStridedSlice S1x8x1x1x1024 ![1, 0, 0, 0, 0] u slices_S2x8x6x1x1024_S1x8x1x1x1024_1_0_0_0_0) shapeCasts_S1x8x1x1x1024_S8x1x1024))

/-- The product with the projection's weights. -/
def proj (H : FVec Ideal S8x2048x1024 .f32) (w : FVec Ideal S1x1024x2120 .f32) : FVec Ideal S16384x2120 .f32 :=
  shapeCast _ (Host.dotGeneral dot_S8x2048x1024_S1024x2120_S8x2048x2120_2_0_01_1_n_n none H (shapeCast _ w shapeCasts_S1x1024x2120_S1024x2120)) shapeCasts_S8x2048x2120_S16384x2120

/-- The projection of the arguments. -/
def whole (x : FVec Ideal S16384x1024 .f32) (g : FVec Ideal S2x1024 .f32) (u : FVec Ideal S2x8x6x1x1024 .f32)
    (w : FVec Ideal S1x1024x2120 .f32) : FVec Ideal S16384x2120 .f32 :=
  proj (hidden (toks x) (inv (toks x)) g u) w

/-- The queries' heads. -/
def qHeads (P : FVec Ideal S16384x2120 .f32) : FVec Ideal S16384x16x64 .f32 :=
  shapeCast _ (extractStridedSlice S16384x1024 ![0, 0] P slices_S16384x2120_S16384x1024_0_0) shapeCasts_S16384x1024_S16384x16x64

/-- The factor of each query head's norm. -/
def qInv (Q : FVec Ideal S16384x16x64 .f32) : FVec Ideal S16384x16x1 .f32 :=
  Host.rsqrt (addf (Host.divf (broadcastInDim S16384x16x1 ![0, 1] bcast_S16384x16_S16384x16x1_0_1 (Host.reduceAdd (mulf Q Q) (constant S_ .f32 0x00000000#32) reducesTo_S16384x16x64_S16384x16_d2 h_S_)) (broadcastInDim S16384x16x1 ![] bcast_S_S16384x16x1 (constant S_ .f32 0x42800000#32))) (broadcastInDim S16384x16x1 ![] bcast_S_S16384x16x1 (constant S_ .f32 0x358637BD#32)))

/-- The queries' heads normed and weighted. -/
def qOut (Q : FVec Ideal S16384x16x64 .f32) (s : FVec Ideal S16384x16x1 .f32) (w : FVec Ideal S1x64 .f32) : FVec Ideal S16x16384x64 .bf16 :=
  truncf .bf16 (transpose S16x16384x64 [1, 0, 2] (mulf (mulf Q (broadcastInDim S16384x16x64 ![0, 1, 2] bcast_S16384x16x1_S16384x16x64_0_1_2 s)) (broadcastInDim S16384x16x64 ![0, 1, 2] bcast_S1x1x64_S16384x16x64_0_1_2 (broadcastInDim S1x1x64 ![2] bcast_S64_S1x1x64_2 (mulf (shapeCast _ w shapeCasts_S1x64_S64) (broadcastInDim S64 ![] bcast_S_S64 (constant S_ .f32 0x3E38AA3B#32)))))) transposes_S16384x16x64_S16x16384x64_1_0_2) bitsLt_bf16_f32

/-- The keys' heads. -/
def kHeads (P : FVec Ideal S16384x2120 .f32) : FVec Ideal S16384x4x64 .f32 :=
  shapeCast _ (extractStridedSlice S16384x256 ![0, 1024] P slices_S16384x2120_S16384x256_0_1024) shapeCasts_S16384x256_S16384x4x64

/-- The factor of each key head's norm. -/
def kInv (Q : FVec Ideal S16384x4x64 .f32) : FVec Ideal S16384x4x1 .f32 :=
  Host.rsqrt (addf (Host.divf (broadcastInDim S16384x4x1 ![0, 1] bcast_S16384x4_S16384x4x1_0_1 (Host.reduceAdd (mulf Q Q) (constant S_ .f32 0x00000000#32) reducesTo_S16384x4x64_S16384x4_d2 h_S_)) (broadcastInDim S16384x4x1 ![] bcast_S_S16384x4x1 (constant S_ .f32 0x42800000#32))) (broadcastInDim S16384x4x1 ![] bcast_S_S16384x4x1 (constant S_ .f32 0x358637BD#32)))

/-- The keys' heads normed and weighted. -/
def kOut (Q : FVec Ideal S16384x4x64 .f32) (s : FVec Ideal S16384x4x1 .f32) (w : FVec Ideal S1x64 .f32) : FVec Ideal S4x16384x64 .bf16 :=
  truncf .bf16 (transpose S4x16384x64 [1, 0, 2] (mulf (mulf Q (broadcastInDim S16384x4x64 ![0, 1, 2] bcast_S16384x4x1_S16384x4x64_0_1_2 s)) (broadcastInDim S16384x4x64 ![0, 1, 2] bcast_S1x1x64_S16384x4x64_0_1_2 (broadcastInDim S1x1x64 ![2] bcast_S64_S1x1x64_2 (shapeCast _ w shapeCasts_S1x64_S64)))) transposes_S16384x4x64_S4x16384x64_1_0_2) bitsLt_bf16_f32

/-- The first result, the queries. -/
def out0 (P : FVec Ideal S16384x2120 .f32) (w : FVec Ideal S1x64 .f32) : FVec Ideal S16x16384x64 .bf16 := qOut (qHeads P) (qInv (qHeads P)) w

/-- The second result, the keys. -/
def out1 (P : FVec Ideal S16384x2120 .f32) (w : FVec Ideal S1x64 .f32) : FVec Ideal S4x16384x64 .bf16 := kOut (kHeads P) (kInv (kHeads P)) w

/-- The third result, the values beside a half of ones. -/
def out2 (P : FVec Ideal S16384x2120 .f32) : FVec Ideal S4x16384x128 .bf16 :=
  truncf .bf16 (transpose S4x16384x128 [1, 0, 2] (pad S16384x4x128 ![0, 0, 0] ![0, 0, 64] ![0, 0, 0] (shapeCast _ (extractStridedSlice S16384x256 ![0, 1280] P slices_S16384x2120_S16384x256_0_1280) shapeCasts_S16384x256_S16384x4x64) (id (constant S_ .f32 0x3F800000#32)) pads_S16384x4x64_S16384x4x128_000_000_0640 h_S_) transposes_S16384x4x128_S4x16384x128_1_0_2) bitsLt_bf16_f32

/-- The fourth result, the index queries. -/
def out3 (P : FVec Ideal S16384x2120 .f32) : FVec Ideal S8x16384x64 .bf16 :=
  truncf .bf16 (transpose S8x16384x64 [1, 0, 2] (shapeCast _ (extractStridedSlice S16384x512 ![0, 1536] P slices_S16384x2120_S16384x512_0_1536) shapeCasts_S16384x512_S16384x8x64) transposes_S16384x8x64_S8x16384x64_1_0_2) bitsLt_bf16_f32

/-- The fifth result, the index keys. -/
def out4 (P : FVec Ideal S16384x2120 .f32) : FVec Ideal S16384x64 .bf16 :=
  truncf .bf16 (extractStridedSlice S16384x64 ![0, 2048] P slices_S16384x2120_S16384x64_0_2048) bitsLt_bf16_f32

/-- The sixth result, the index weights. -/
def out5 (P : FVec Ideal S16384x2120 .f32) : FVec Ideal S16384x8 .f32 :=
  mulf (extractStridedSlice S16384x8 ![0, 2112] P slices_S16384x2120_S16384x8_0_2112) (broadcastInDim S16384x8 ![] bcast_S_S16384x8 (constant S_ .f32 0x3D3504F3#32))

theorem out0_eq (m : (ℓ : Loc nD τ sig) → Buf (Elt Ideal) ℓ) (c : Dev nD) :
    res_main_v69 (F := Ideal) m c = out0 (whole (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg4)) := rfl

theorem out1_eq (m : (ℓ : Loc nD τ sig) → Buf (Elt Ideal) ℓ) (c : Dev nD) :
    res_main_v71 (F := Ideal) m c = out1 (whole (m ((c.tc : Thread nD τ).loc main_arg0)) (m ((c.tc : Thread nD τ).loc main_arg1))
      (m ((c.tc : Thread nD τ).loc main_arg2)) (m ((c.tc : Thread nD τ).loc main_arg3))) (m ((c.tc : Thread nD τ).loc main_arg5)) := rfl

theorem toks_at (x : FVec Ideal S16384x1024 .f32) (b : Fin 8) (s : Fin 2048) (d : Fin 1024) :
    toks x (ix3 b s d) = x (ix2 ⟨b.val * 2048 + s.val, by omega⟩ d) := by
  pointwise [toks]

theorem inv_at (X : FVec Ideal S8x2048x1024 .f32) (b : Fin 8) (s : Fin 2048) :
    inv X (ix3 b s 0) = Ideal.rsqrt (Ideal.div (∑ e : Fin 1024, X (ix3 b s e) * X (ix3 b s e)) (Ideal.ofBits .f32 1149239296#32)
      + Ideal.ofBits .f32 897988541#32) := by
  pointwise [inv]

theorem hidden_at (X : FVec Ideal S8x2048x1024 .f32) (s : FVec Ideal S8x2048x1 .f32) (g : FVec Ideal S2x1024 .f32)
    (u : FVec Ideal S2x8x6x1x1024 .f32) (b : Fin 8) (t : Fin 2048) (d : Fin 1024) :
    hidden X s g u (ix3 b t d)
      = X (ix3 b t d) * s (ix3 b t 0) * g (ix2 1 d) * (1 + u (ix5 1 b 1 0 d)) + u (ix5 1 b 0 0 d) := by
  pointwise [hidden]

theorem proj_at (H : FVec Ideal S8x2048x1024 .f32) (w : FVec Ideal S1x1024x2120 .f32) (r : Fin 16384) (n : Fin 2120) :
    proj H w (ix2 r n) = ∑ d : Fin 1024, H (ix3 ⟨r.val / 2048, by omega⟩ ⟨r.val % 2048, by omega⟩ d) * w (ix3 0 d n) := by
  pointwise [proj]

/-- The projection at a token and a column. -/
theorem whole_at (x : FVec Ideal S16384x1024 .f32) (g : FVec Ideal S2x1024 .f32) (u : FVec Ideal S2x8x6x1x1024 .f32)
    (w : FVec Ideal S1x1024x2120 .f32) (r : Fin 16384) (n : Fin 2120) :
    whole x g u w (ix2 r n)
      = ∑ d : Fin 1024, token (fun e => x (ix2 r e)) (fun e => g (ix2 1 e)) (fun e => u (ix5 1 ⟨r.val / 2048, by omega⟩ 1 0 e))
          (fun e => u (ix5 1 ⟨r.val / 2048, by omega⟩ 0 0 e)) d * w (ix3 0 d n) := by
  have hx : ∀ d : Fin 1024, toks x (ix3 ⟨r.val / 2048, by omega⟩ ⟨r.val % 2048, by omega⟩ d) = x (ix2 r d) := fun d =>
    (toks_at x _ _ d).trans (congrArg (fun q => x (ix2 q d)) (Fin.ext (by show r.val / 2048 * 2048 + r.val % 2048 = r.val; omega)))
  refine (proj_at _ w r n).trans ?_
  refine Finset.sum_congr rfl fun d _ => congrArg (· * w (ix3 0 d n)) ?_
  refine (hidden_at _ _ g u _ _ d).trans ?_
  rw [inv_at]
  simp only [hx]
  rfl

theorem qHeads_at (P : FVec Ideal S16384x2120 .f32) (r : Fin 16384) (h : Fin 16) (i : Fin 64) :
    qHeads P (ix3 r h i) = P (ix2 r ⟨h.val * 64 + i.val, by omega⟩) := by
  pointwise [qHeads]

theorem qInv_at (Q : FVec Ideal S16384x16x64 .f32) (r : Fin 16384) (h : Fin 16) :
    qInv Q (ix3 r h 0) = headFactor (∑ i : Fin 64, Q (ix3 r h i) * Q (ix3 r h i)) := by
  pointwise [qInv, headFactor]

theorem qOut_at (Q : FVec Ideal S16384x16x64 .f32) (s : FVec Ideal S16384x16x1 .f32) (w : FVec Ideal S1x64 .f32) (h : Fin 16) (r : Fin 16384)
    (i : Fin 64) : qOut Q s w (ix3 h r i) = Q (ix3 r h i) * s (ix3 r h 0) * (w (ix2 0 i) * Ideal.ofBits .f32 0x3E38AA3B#32) := by
  pointwise [qOut]

theorem kHeads_at (P : FVec Ideal S16384x2120 .f32) (r : Fin 16384) (h : Fin 4) (i : Fin 64) :
    kHeads P (ix3 r h i) = P (ix2 r ⟨1024 + (h.val * 64 + i.val), by omega⟩) := by
  pointwise [kHeads]

theorem kInv_at (Q : FVec Ideal S16384x4x64 .f32) (r : Fin 16384) (h : Fin 4) :
    kInv Q (ix3 r h 0) = headFactor (∑ i : Fin 64, Q (ix3 r h i) * Q (ix3 r h i)) := by
  pointwise [kInv, headFactor]

theorem kOut_at (Q : FVec Ideal S16384x4x64 .f32) (s : FVec Ideal S16384x4x1 .f32) (w : FVec Ideal S1x64 .f32) (h : Fin 4) (r : Fin 16384)
    (i : Fin 64) : kOut Q s w (ix3 h r i) = Q (ix3 r h i) * s (ix3 r h 0) * w (ix2 0 i) := by
  pointwise [kOut]

theorem out0_at (P : FVec Ideal S16384x2120 .f32) (w : FVec Ideal S1x64 .f32) (h : Fin 16) (r : Fin 16384) (i : Fin 64) :
    out0 P w (ix3 h r i) = headNorm (fun i => P (ix2 r ⟨h.val * 64 + i.val, by omega⟩)) (w (ix2 0 i) * Ideal.ofBits .f32 0x3E38AA3B#32) i := by
  refine (qOut_at _ _ w h r i).trans ?_
  rw [qInv_at]
  simp only [qHeads_at]
  rfl

theorem out1_at (P : FVec Ideal S16384x2120 .f32) (w : FVec Ideal S1x64 .f32) (h : Fin 4) (r : Fin 16384) (i : Fin 64) :
    out1 P w (ix3 h r i) = headNorm (fun i => P (ix2 r ⟨1024 + (h.val * 64 + i.val), by omega⟩)) (w (ix2 0 i)) i := by
  refine (kOut_at _ _ w h r i).trans ?_
  rw [kInv_at]
  simp only [kHeads_at]
  rfl

theorem out2_at (P : FVec Ideal S16384x2120 .f32) (h : Fin 4) (r : Fin 16384) (i : Fin 128) :
    out2 P (ix3 h r i) = if hi : i.val < 64 then P (ix2 r ⟨1280 + (h.val * 64 + i.val), by omega⟩) else (1 : EReal) := by
  have h1 : (id (constant S_ .f32 0x3F800000#32 : FVec Ideal S_ .f32) (Shape.Idx.first h_S_) : EReal) = 1 := ofBits_1
  pointwise [out2]
  rw [h1]

theorem out3_at (P : FVec Ideal S16384x2120 .f32) (h : Fin 8) (r : Fin 16384) (i : Fin 64) :
    out3 P (ix3 h r i) = P (ix2 r ⟨1536 + (h.val * 64 + i.val), by omega⟩) := by
  pointwise [out3]

theorem out4_at (P : FVec Ideal S16384x2120 .f32) (r : Fin 16384) (i : Fin 64) :
    out4 P (ix2 r i) = P (ix2 r ⟨2048 + i.val, by omega⟩) := by
  pointwise [out4]

theorem out5_at (P : FVec Ideal S16384x2120 .f32) (r : Fin 16384) (i : Fin 8) :
    out5 P (ix2 r i) = P (ix2 r ⟨2112 + i.val, by omega⟩) * Ideal.ofBits .f32 0x3D3504F3#32 := by
  pointwise [out5]

end Cert.Attentions.Ref

end
-- ==== Proof.AttBody.lean ====
/-
  What one block of tokens' body leaves in the six results of the attention layer's projection, read at an index, at exact values.
-/
module

public import proofs.«01_k».proof.Proof.Gen.AttentionIdeal.Value
public import proofs.«01_k».proof.Proof.AttStages
public import Idealize.ShloMosaic.PureOps.Ideal
public import Idealize.ShloMosaic.Lib.Pointwise

@[expose] public section

set_option maxRecDepth 16384

noncomputable section

namespace Cert.Attentions

open Cert.AttentionIdeal Cert.AttentionIdeal.Gen
open Idealize.ShloMosaic Idealize.ShloMosaic.TcCoe
open Cert.Projections (token)

theorem pay6_at (x : S512x1024.Idx → EReal) (g : S1x1024.Idx → EReal) (s u : S1x1x1x1x1024.Idx → EReal) (y : Fin 512) (d : Fin 1024) :
    k0_pay6 (F := Ideal) x g s u (ix2 y d)
      = token (fun e => x (ix2 y e)) (fun e => g (ix2 0 e)) (fun e => s (ix5 0 0 0 0 e)) (fun e => u (ix5 0 0 0 0 e)) d := by
  pointwise [k0_pay6, token]

theorem pay7_at (x : S512x1024.Idx → EReal) (g : S1x1024.Idx → EReal) (s u : S1x1x1x1x1024.Idx → EReal)
    (w : S1024x1024.Idx → EReal) (y : Fin 512) (n : Fin 1024) :
    k0_pay7 (F := Ideal) x g s u w (ix2 y n) = ∑ d : Fin 1024, k0_pay6 (F := Ideal) x g s u (ix2 y d) * w (ix2 d n) := by
  unfold k0_pay7
  generalize k0_pay6 (F := Ideal) x g s u = H
  pointwise []

theorem pay8_at (g : S1x1024.Idx → EReal) (d : Fin 1024) :
    k0_pay8 (F := Ideal) g (ix2 0 d) = g (ix2 0 d) * Ideal.ofBits .f32 0x3E38AA3B#32 := by
  pointwise [k0_pay8]

theorem pay9_at (x : S512x1024.Idx → EReal) (g : S1x1024.Idx → EReal) (s u : S1x1x1x1x1024.Idx → EReal)
    (w : S1024x1024.Idx → EReal) (y : Fin 512) (n : Fin 1024) :
    k0_pay9 (F := Ideal) x g s u w (ix2 y n) = k0_pay7 (F := Ideal) x g s u w (ix2 y n) * k0_pay7 (F := Ideal) x g s u w (ix2 y n) := by
  unfold k0_pay9
  generalize k0_pay7 (F := Ideal) x g s u w = P
  pointwise []

theorem pay10_at (A : S512x1024.Idx → EReal) (B : S1x1024.Idx → EReal) (C : S512x1024.Idx → EReal) (S : S1024x128.Idx → EReal)
    (T T' : S128x1024.Idx → EReal) (y : Fin 512) (d : Fin 1024) :
    k0_pay10 (F := Ideal) A B C S T T' (ix2 y d)
      = A (ix2 y d) * ((∑ j : Fin 128, Ideal.rsqrt ((∑ e : Fin 1024, C (ix2 y e) * S (ix2 e j)) * Ideal.ofBits .f32 0x3C800000#32
            + Ideal.ofBits .f32 0x358637BD#32) * T (ix2 j d))
          + ∑ j : Fin 128, (Ideal.rsqrt ((∑ e : Fin 1024, C (ix2 y e) * S (ix2 e j)) * Ideal.ofBits .f32 0x3C800000#32
            + Ideal.ofBits .f32 0x358637BD#32) - Ideal.rsqrt ((∑ e : Fin 1024, C (ix2 y e) * S (ix2 e j)) * Ideal.ofBits .f32 0x3C800000#32
            + Ideal.ofBits .f32 0x358637BD#32)) * T' (ix2 j d)) * B (ix2 0 d) := by
  pointwise [k0_pay10]

theorem pay28_at (H : S512x1024.Idx → EReal) (w : S1024x512.Idx → EReal) (y : Fin 512) (n : Fin 512) :
    k0_pay28 (F := Ideal) H w (ix2 y n) = ∑ d : Fin 1024, H (ix2 y d) * w (ix2 d n) := by
  pointwise [k0_pay28]

theorem pay29_at (H : S512x1024.Idx → EReal) (w : S1024x512.Idx → EReal) (B : S1x256.Idx → EReal) (S : S256x128.Idx → EReal)
    (T T' : S128x256.Idx → EReal) (y : Fin 512) (d : Fin 256) :
    k0_pay29 (F := Ideal) H w B S T T' (ix2 y d)
      = k0_pay28 (F := Ideal) H w (ix2 y ⟨d.val, by omega⟩)
        * ((∑ j : Fin 128, Ideal.rsqrt ((∑ e : Fin 256, (k0_pay28 (F := Ideal) H w (ix2 y ⟨e.val, by omega⟩)
              * k0_pay28 (F := Ideal) H w (ix2 y ⟨e.val, by omega⟩)) * S (ix2 e j)) * Ideal.ofBits .f32 0x3C800000#32
            + Ideal.ofBits .f32 0x358637BD#32) * T (ix2 j d))
          + ∑ j : Fin 128, (Ideal.rsqrt ((∑ e : Fin 256, (k0_pay28 (F := Ideal) H w (ix2 y ⟨e.val, by omega⟩)
              * k0_pay28 (F := Ideal) H w (ix2 y ⟨e.val, by omega⟩)) * S (ix2 e j)) * Ideal.ofBits .f32 0x3C800000#32
            + Ideal.ofBits .f32 0x358637BD#32) - Ideal.rsqrt ((∑ e : Fin 256, (k0_pay28 (F := Ideal) H w (ix2 y ⟨e.val, by omega⟩)
              * k0_pay28 (F := Ideal) H w (ix2 y ⟨e.val, by omega⟩)) * S (ix2 e j)) * Ideal.ofBits .f32 0x3C800000#32
            + Ideal.ofBits .f32 0x358637BD#32)) * T' (ix2 j d)) * B (ix2 0 d) := by
  unfold k0_pay29
  generalize k0_pay28 (F := Ideal) H w = P
  pointwise []

theorem pay31_at (H : S512x1024.Idx → EReal) (w : S1024x512.Idx → EReal) (y : Fin 512) (i : Fin 128) :
    k0_pay32 (F := Ideal) (k0_pay31 H w) (ix3 0 y i)
      = if hi : i.val < 64 then k0_pay28 (F := Ideal) H w (ix2 y ⟨256 + (0 * 64 + i.val), by omega⟩) else (1 : EReal) := by
  unfold k0_pay31
  generalize k0_pay28 (F := Ideal) H w = P
  pointwise [k0_pay32]

theorem pay34_at (P : S512x512.Idx → EReal) (y : Fin 512) (i : Fin 128) :
    k0_pay34 (F := Ideal) P (ix3 0 y i)
      = if hi : i.val < 64 then P (ix2 y ⟨256 + (1 * 64 + i.val), by omega⟩) else (1 : EReal) := by
  pointwise [k0_pay34]
  exact dite_congr rfl (fun _ => congrArg P (congrArg (ix2 y) (Fin.ext (by show 320 + i.val = 256 + (64 + i.val); omega)))) fun _ => rfl

theorem pay36_at (P : S512x512.Idx → EReal) (y : Fin 512) (i : Fin 128) :
    k0_pay36 (F := Ideal) P (ix3 0 y i)
      = if hi : i.val < 64 then P (ix2 y ⟨256 + (2 * 64 + i.val), by omega⟩) else (1 : EReal) := by
  pointwise [k0_pay36]
  exact dite_congr rfl (fun _ => congrArg P (congrArg (ix2 y) (Fin.ext (by show 384 + i.val = 256 + (128 + i.val); omega)))) fun _ => rfl

theorem pay38_at (P : S512x512.Idx → EReal) (y : Fin 512) (i : Fin 128) :
    k0_pay39 (F := Ideal) (k0_pay38 P) (ix3 0 y i)
      = if hi : i.val < 64 then P (ix2 y ⟨256 + (3 * 64 + i.val), by omega⟩) else (1 : EReal) := by
  pointwise [k0_pay39, k0_pay38]
  exact dite_congr rfl (fun _ => congrArg P (congrArg (ix2 y) (Fin.ext (by show 448 + i.val = 256 + (192 + i.val); omega)))) fun _ => rfl

theorem pay40_at (H : S512x1024.Idx → EReal) (w : S1024x512.Idx → EReal) (y : Fin 512) (n : Fin 512) :
    k0_pay40 (F := Ideal) H w (ix2 y n) = ∑ d : Fin 1024, H (ix2 y d) * w (ix2 d n) := by
  pointwise [k0_pay40]

theorem pay4_at (H : S512x1024.Idx → EReal) (w : S1024x64.Idx → EReal) (y : Fin 512) (n : Fin 64) :
    k0_pay4 (F := Ideal) H w (ix2 y n) = ∑ d : Fin 1024, H (ix2 y d) * w (ix2 d n) := by
  pointwise [k0_pay4]

theorem pay5_at (H : S512x1024.Idx → EReal) (w : S1024x8.Idx → EReal) (y : Fin 512) (n : Fin 8) :
    k0_pay5 (F := Ideal) H w (ix2 y n) = (∑ d : Fin 1024, H (ix2 y d) * w (ix2 d n)) * Ideal.ofBits .f32 0x3D3504F3#32 := by
  pointwise [k0_pay5]

theorem narrow_id (v : EReal) : FloatOps.truncf (F := Ideal) (φ := .f32) .bf16 bitsLt_bf16_f32 v = v := rfl

theorem zero2 : (![0, 0] : Fin 2 → ℕ) = fun _ => 0 := by funext a; match a with | 0 => rfl | 1 => rfl
theorem zero5 : (![0, 0, 0, 0, 0] : Fin 5 → ℕ) = fun _ => 0 := by
  funext a; match a with | 0 => rfl | 1 => rfl | 2 => rfl | 3 => rfl | 4 => rfl

theorem ld_x (x : S512x1024.Idx → EReal) : View.ld (Val := Elt Ideal) (e' := .f32) x r0_0 = x :=
  View.ld_unit_zero (S := S512x1024) (Val := Elt Ideal) (e := .f32) zero2 _ x
theorem ld_g (x : S1x1024.Idx → EReal) : View.ld (Val := Elt Ideal) (e' := .f32) x r0_1 = x :=
  View.ld_unit_zero (S := S1x1024) (Val := Elt Ideal) (e := .f32) zero2 _ x
theorem ld_s (x : S1x1x1x1x1024.Idx → EReal) : View.ld (Val := Elt Ideal) (e' := .f32) x r0_2 = x :=
  View.ld_unit_zero (S := S1x1x1x1x1024) (Val := Elt Ideal) (e := .f32) zero5 _ x
theorem ld_k (x : S1x256.Idx → EReal) : View.ld (Val := Elt Ideal) (e' := .f32) x r0_23 = x :=
  View.ld_unit_zero (S := S1x256) (Val := Elt Ideal) (e := .f32) zero2 _ x
theorem ld_S (x : S1024x128.Idx → EReal) : View.ld (Val := Elt Ideal) (e' := .bf16) x r0_4 = x :=
  View.ld_unit_zero (S := S1024x128) (Val := Elt Ideal) (e := .bf16) zero2 _ x
theorem ld_T (x : S128x1024.Idx → EReal) : View.ld (Val := Elt Ideal) (e' := .bf16) x r0_5 = x :=
  View.ld_unit_zero (S := S128x1024) (Val := Elt Ideal) (e := .bf16) zero2 _ x
theorem ld_S' (x : S1024x128.Idx → EReal) (e : Fin 256) (j : Fin 128) :
    View.ld (Val := Elt Ideal) (e' := .bf16) x r0_24 (ix2 e j) = x (ix2 ⟨e.val, by omega⟩ j) := by
  refine congrArg x (funext fun k => Fin.ext ?_)
  match k with
  | 0 => show 0 + 1 * e.val = e.val; omega
  | 1 => show 0 + 1 * j.val = j.val; omega
theorem ld_T' (x : S128x1024.Idx → EReal) (j : Fin 128) (e : Fin 256) :
    View.ld (Val := Elt Ideal) (e' := .bf16) x r0_25 (ix2 j e) = x (ix2 j ⟨e.val, by omega⟩) := by
  refine congrArg x (funext fun k => Fin.ext ?_)
  match k with
  | 0 => show 0 + 1 * j.val = j.val; omega
  | 1 => show 0 + 1 * e.val = e.val; omega
theorem ld_w0 (w : S1024x2304.Idx → EReal) (d : Fin 1024) (n : Fin 1024) :
    View.ld (Val := Elt Ideal) (e' := .bf16) w r0_3 (ix2 d n) = w (ix2 d ⟨n.val, by omega⟩) := by
  refine congrArg w (funext fun k => Fin.ext ?_)
  match k with
  | 0 => show 0 + 1 * d.val = d.val; omega
  | 1 => show 0 + 1 * n.val = n.val; omega
theorem ld_w1 (w : S1024x2304.Idx → EReal) (d : Fin 1024) (n : Fin 512) :
    View.ld (Val := Elt Ideal) (e' := .bf16) w r0_22 (ix2 d n) = w (ix2 d ⟨1024 + n.val, by omega⟩) := by
  refine congrArg w (funext fun k => Fin.ext ?_)
  match k with
  | 0 => show 0 + 1 * d.val = d.val; omega
  | 1 => show 1024 + 1 * n.val = 1024 + n.val; omega
theorem ld_w2 (w : S1024x2304.Idx → EReal) (d : Fin 1024) (n : Fin 512) :
    View.ld (Val := Elt Ideal) (e' := .bf16) w r0_34 (ix2 d n) = w (ix2 d ⟨1536 + n.val, by omega⟩) := by
  refine congrArg w (funext fun k => Fin.ext ?_)
  match k with
  | 0 => show 0 + 1 * d.val = d.val; omega
  | 1 => show 1536 + 1 * n.val = 1536 + n.val; omega
theorem ld_w3 (w : S1024x2304.Idx → EReal) (d : Fin 1024) (n : Fin 64) :
    View.ld (Val := Elt Ideal) (e' := .bf16) w r0_43 (ix2 d n) = w (ix2 d ⟨2048 + n.val, by omega⟩) := by
  refine congrArg w (funext fun k => Fin.ext ?_)
  match k with
  | 0 => show 0 + 1 * d.val = d.val; omega
  | 1 => show 2048 + 1 * n.val = 2048 + n.val; omega
theorem ld_w4 (w : S1024x2304.Idx → EReal) (d : Fin 1024) (n : Fin 8) :
    View.ld (Val := Elt Ideal) (e' := .bf16) w r0_45 (ix2 d n) = w (ix2 d ⟨2176 + n.val, by omega⟩) := by
  refine congrArg w (funext fun k => Fin.ext ?_)
  match k with
  | 0 => show 0 + 1 * d.val = d.val; omega
  | 1 => show 2176 + 1 * n.val = 2176 + n.val; omega

/-- The block's projection at a row and a column of the padded weights. -/
def blockProj (x : S512x1024.Idx → EReal) (g : S1x1024.Idx → EReal) (s u : S1x1x1x1x1024.Idx → EReal) (w : S1024x2304.Idx → EReal)
    (y : Fin 512) (n : Fin 2304) : EReal :=
  ∑ d : Fin 1024, token (fun e => x (ix2 y e)) (fun e => g (ix2 0 e)) (fun e => s (ix5 0 0 0 0 e)) (fun e => u (ix5 0 0 0 0 e)) d
    * w (ix2 d n)

section Out

variable (x : S512x1024.Idx → EReal) (g : S1x1024.Idx → EReal) (s u : S1x1x1x1x1024.Idx → EReal) (w : S1024x2304.Idx → EReal)
  (qn : S1x1024.Idx → EReal) (kn : S1x256.Idx → EReal) (S : S1024x128.Idx → EReal) (T : S128x1024.Idx → EReal)

theorem proj0_at (y : Fin 512) (n : Fin 1024) :
    k0_pay7 (F := Ideal) (View.ld (Val := Elt Ideal) (e' := .f32) x r0_0) (View.ld (Val := Elt Ideal) (e' := .f32) g r0_1)
        (View.ld (Val := Elt Ideal) (e' := .f32) s r0_2) (View.ld (Val := Elt Ideal) (e' := .f32) u r0_2)
        (View.ld (Val := Elt Ideal) (e' := .bf16) w r0_3) (ix2 y n) = blockProj x g s u w y ⟨n.val, by omega⟩ := by
  rw [ld_x, ld_g, ld_s, ld_s]
  refine (pay7_at x g s u _ y n).trans ?_
  unfold blockProj
  refine Finset.sum_congr rfl fun d _ => ?_
  rw [pay6_at, ld_w0]

theorem proj1_at (y : Fin 512) (n : Fin 512) :
    k0_pay28 (F := Ideal) (k0_pay47 x g s u w qn kn S T) (View.ld (Val := Elt Ideal) (e' := .bf16) w r0_22) (ix2 y n)
      = blockProj x g s u w y ⟨1024 + n.val, by omega⟩ := by
  unfold k0_pay47
  rw [ld_x, ld_g, ld_s, ld_s]
  refine (pay28_at _ _ y n).trans ?_
  unfold blockProj
  refine Finset.sum_congr rfl fun d _ => ?_
  rw [pay6_at, ld_w1]

theorem proj2_at (y : Fin 512) (n : Fin 512) :
    k0_pay40 (F := Ideal) (k0_pay47 x g s u w qn kn S T) (View.ld (Val := Elt Ideal) (e' := .bf16) w r0_34) (ix2 y n)
      = blockProj x g s u w y ⟨1536 + n.val, by omega⟩ := by
  unfold k0_pay47
  rw [ld_x, ld_g, ld_s, ld_s]
  refine (pay40_at _ _ y n).trans ?_
  unfold blockProj
  refine Finset.sum_congr rfl fun d _ => ?_
  rw [pay6_at, ld_w2]

/-- The queries, the segment matrices being the head indicators. -/
theorem out9_at (hS : ∀ e j, S (ix2 e j) = if e.val / 64 = j.val then 1 else 0) (hT : ∀ j e, T (ix2 j e) = if e.val / 64 = j.val then 1 else 0)
    (h : Fin 16) (y : Fin 512) (i : Fin 64) :
    out0_9 (F := Ideal) x g s u w qn kn S T (ix3 h y i)
      = headNorm (fun i => blockProj x g s u w y ⟨h.val * 64 + i.val, by omega⟩)
          (qn (ix2 0 ⟨h.val * 64 + i.val, by omega⟩) * Ideal.ofBits .f32 0x3E38AA3B#32) i := by
  have hix : Value.ix9_0 (ix3 h y i) = ix2 y ⟨h.val * 64 + i.val, by omega⟩ := by
    funext a
    match a with
    | 0 => rfl
    | 1 => rfl
  have h1 : out0_9 (F := Ideal) x g s u w qn kn S T (ix3 h y i)
      = k0_pay10 (F := Ideal) (k0_pay7 (View.ld x r0_0) (View.ld g r0_1) (View.ld s r0_2) (View.ld u r0_2) (View.ld w r0_3))
          (k0_pay8 (View.ld qn r0_1)) (k0_pay9 (View.ld x r0_0) (View.ld g r0_1) (View.ld s r0_2) (View.ld u r0_2) (View.ld w r0_3))
          (View.ld S r0_4) (View.ld T r0_5) (View.ld T r0_5) (ix2 y ⟨h.val * 64 + i.val, by omega⟩) := by
    unfold_out out0_9
    rw [Value.canon9_eq]
    refine (narrow_id _).trans ?_
    rw [hix]
    rfl
  refine h1.trans ?_
  rw [ld_S, ld_T, ld_g qn]
  have h7 := proj0_at x g s u w y
  have h9 := pay9_at (View.ld (Val := Elt Ideal) (e' := .f32) x r0_0) (View.ld (Val := Elt Ideal) (e' := .f32) g r0_1)
        (View.ld (Val := Elt Ideal) (e' := .f32) s r0_2) (View.ld (Val := Elt Ideal) (e' := .f32) u r0_2)
        (View.ld (Val := Elt Ideal) (e' := .bf16) w r0_3) y
  refine (pay10_at _ _ _ S T T y _).trans ?_
  simp only [h9, h7, pay8_at]
  exact headNorm_eq (fun n : Fin 1024 => blockProj x g s u w y ⟨n.val, by omega⟩) (fun e j => S (ix2 e j)) (fun j e => T (ix2 j e)) _ hS hT
    (fun j => rfl) _ ⟨h.val, by omega⟩ i (by show h.val * 64 + 64 ≤ 1024; omega)

/-- The keys, the segment matrices being the head indicators. -/
theorem out10_at (hS : ∀ e j, S (ix2 e j) = if e.val / 64 = j.val then 1 else 0) (hT : ∀ j e, T (ix2 j e) = if e.val / 64 = j.val then 1 else 0)
    (h : Fin 4) (y : Fin 512) (i : Fin 64) :
    out0_10 (F := Ideal) x g s u w qn kn S T (ix3 h y i)
      = headNorm (fun i => blockProj x g s u w y ⟨1024 + (h.val * 64 + i.val), by omega⟩) (kn (ix2 0 ⟨h.val * 64 + i.val, by omega⟩)) i := by
  have hix : Value.ix10_0 (ix3 h y i) = ix2 y ⟨h.val * 64 + i.val, by omega⟩ := by
    funext a
    match a with
    | 0 => rfl
    | 1 => rfl
  have h1 : out0_10 (F := Ideal) x g s u w qn kn S T (ix3 h y i)
      = k0_pay29 (F := Ideal) (k0_pay47 x g s u w qn kn S T) (View.ld w r0_22)
          (View.ld kn r0_23) (View.ld S r0_24) (View.ld T r0_25) (View.ld T r0_25) (ix2 y ⟨h.val * 64 + i.val, by omega⟩) := by
    unfold_out out0_10
    rw [Value.canon10_eq]
    refine (narrow_id _).trans ?_
    rw [hix]
    rfl
  refine h1.trans ?_
  rw [ld_k]
  have h28 := proj1_at x g s u w qn kn S T y
  have hS' := ld_S' S
  have hT' := ld_T' T
  generalize View.ld (Val := Elt Ideal) (e' := .bf16) S r0_24 = S' at hS' ⊢
  generalize View.ld (Val := Elt Ideal) (e' := .bf16) T r0_25 = T' at hT' ⊢
  generalize View.ld (Val := Elt Ideal) (e' := .bf16) w r0_22 = W at h28 ⊢
  generalize k0_pay47 (F := Ideal) x g s u w qn kn S T = H at h28 ⊢
  refine (pay29_at H W kn S' T' T' y ⟨h.val * 64 + i.val, by omega⟩).trans ?_
  simp only [h28, hS', hT']
  exact headNorm_eq (fun n : Fin 256 => blockProj x g s u w y ⟨1024 + n.val, by omega⟩) (fun e j => S (ix2 ⟨e.val, by omega⟩ j))
    (fun j e => T (ix2 j ⟨e.val, by omega⟩)) _ (fun e j => hS _ j) (fun j e => hT j _)
    (fun j => rfl) _ ⟨h.val, by omega⟩ i (by show h.val * 64 + 64 ≤ 256; omega)

/-- The values beside a half of ones, of a product `P`. -/
def values (P : S512x512.Idx → EReal) : S4x512x128.Idx → EReal := fun z =>
  if hi : (z 2).val < 64 then P (ix2 (⟨(z 1).val, (z 1).isLt⟩ : Fin 512) (⟨256 + ((z 0).val * 64 + (z 2).val), by
    have h0 : (z 0).val < 4 := (z 0).isLt
    omega⟩ : Fin 512)) else 1

theorem values_at (P : S512x512.Idx → EReal) (h : Fin 4) (y : Fin 512) (i : Fin 128) (z : S4x512x128.Idx) (h0 : (z 0).val = h.val)
    (h1 : (z 1).val = y.val) (h2 : (z 2).val = i.val) :
    (if hi : i.val < 64 then P (ix2 y ⟨256 + (h.val * 64 + i.val), by omega⟩) else (1 : EReal)) = values P z := by
  have hz : z = ix3 h y i := by
    funext a
    match a with
    | 0 => exact Fin.ext h0
    | 1 => exact Fin.ext h1
    | 2 => exact Fin.ext h2
  subst hz
  rfl

theorem out11_at (h : Fin 4) (y : Fin 512) (i : Fin 128) :
    out0_11 (F := Ideal) x g s u w qn kn S T (ix3 h y i)
      = if hi : i.val < 64 then blockProj x g s u w y ⟨1280 + (h.val * 64 + i.val), by omega⟩ else 1 := by
  have hp := proj1_at x g s u w qn kn S T
  unfold out0_11 k0_pay52
  have h31 := pay31_at (k0_pay47 (F := Ideal) x g s u w qn kn S T) (View.ld (Val := Elt Ideal) (e' := .bf16) w r0_22)
  generalize k0_pay31 (F := Ideal) (k0_pay47 x g s u w qn kn S T) (View.ld (Val := Elt Ideal) (e' := .bf16) w r0_22) = Q at h31 ⊢
  generalize k0_pay28 (F := Ideal) (k0_pay47 x g s u w qn kn S T) (View.ld (Val := Elt Ideal) (e' := .bf16) w r0_22) = P at hp h31 ⊢
  refine (View.canon_apply_of_pieces (values P) _ ?_ _ (cover0_11 _ _ _ _ _)).trans ?_
  · intro pc hpc
    rcases List.mem_cons.mp hpc with rfl | hpc
    · intro z
      obtain ⟨b, hb⟩ : ∃ b : Fin 512, b = z 1 := ⟨z 1, rfl⟩
      obtain ⟨k, hk⟩ : ∃ k : Fin 128, k = z 2 := ⟨z 2, rfl⟩
      have hz : (z : S1x512x128.Idx) = ix3 0 b k := by
        funext a
        match a with
        | 0 => exact Subsingleton.elim (α := Fin 1) _ _
        | 1 => exact hb.symm
        | 2 => exact hk.symm
      subst hz
      refine (pay38_at P b k).trans (values_at P 3 b k _ rfl ?_ ?_)
      · show 0 + 1 * b.val = b.val; omega
      · show 0 + 1 * k.val = k.val; omega
    rcases List.mem_cons.mp hpc with rfl | hpc
    · intro z
      obtain ⟨b, hb⟩ : ∃ b : Fin 512, b = z 1 := ⟨z 1, rfl⟩
      obtain ⟨k, hk⟩ : ∃ k : Fin 128, k = z 2 := ⟨z 2, rfl⟩
      have hz : (z : S1x512x128.Idx) = ix3 0 b k := by
        funext a
        match a with
        | 0 => exact Subsingleton.elim (α := Fin 1) _ _
        | 1 => exact hb.symm
        | 2 => exact hk.symm
      subst hz
      refine (pay36_at P b k).trans (values_at P 2 b k _ rfl ?_ ?_)
      · show 0 + 1 * b.val = b.val; omega
      · show 0 + 1 * k.val = k.val; omega
    rcases List.mem_cons.mp hpc with rfl | hpc
    · intro z
      obtain ⟨b, hb⟩ : ∃ b : Fin 512, b = z 1 := ⟨z 1, rfl⟩
      obtain ⟨k, hk⟩ : ∃ k : Fin 128, k = z 2 := ⟨z 2, rfl⟩
      have hz : (z : S1x512x128.Idx) = ix3 0 b k := by
        funext a
        match a with
        | 0 => exact Subsingleton.elim (α := Fin 1) _ _
        | 1 => exact hb.symm
        | 2 => exact hk.symm
      subst hz
      refine (pay34_at P b k).trans (values_at P 1 b k _ rfl ?_ ?_)
      · show 0 + 1 * b.val = b.val; omega
      · show 0 + 1 * k.val = k.val; omega
    rcases List.mem_cons.mp hpc with rfl | hpc
    · intro z
      obtain ⟨b, hb⟩ : ∃ b : Fin 512, b = z 1 := ⟨z 1, rfl⟩
      obtain ⟨k, hk⟩ : ∃ k : Fin 128, k = z 2 := ⟨z 2, rfl⟩
      have hz : (z : S1x512x128.Idx) = ix3 0 b k := by
        funext a
        match a with
        | 0 => exact Subsingleton.elim (α := Fin 1) _ _
        | 1 => exact hb.symm
        | 2 => exact hk.symm
      subst hz
      refine (h31 b k).trans (values_at P 0 b k _ rfl ?_ ?_)
      · show 0 + 1 * b.val = b.val; omega
      · show 0 + 1 * k.val = k.val; omega
    nomatch hpc
  · refine (values_at P h y i (ix3 h y i) rfl rfl rfl).symm.trans ?_
    by_cases hi : i.val < 64
    · rw [dif_pos hi, dif_pos hi, hp]
      exact congrArg (blockProj x g s u w y) (Fin.ext (by show 1024 + (256 + (h.val * 64 + i.val)) = 1280 + (h.val * 64 + i.val); omega))
    · rw [dif_neg hi, dif_neg hi]

/-- The index queries. -/
theorem out12_at (h : Fin 8) (y : Fin 512) (i : Fin 64) :
    out0_12 (F := Ideal) x g s u w qn kn S T (ix3 h y i) = blockProj x g s u w y ⟨1536 + (h.val * 64 + i.val), by omega⟩ := by
  have hix : Value.ix12_0 (ix3 h y i) = ix2 y ⟨h.val * 64 + i.val, by omega⟩ := by
    funext a
    match a with
    | 0 => rfl
    | 1 => rfl
  have h1 : out0_12 (F := Ideal) x g s u w qn kn S T (ix3 h y i)
      = k0_pay40 (F := Ideal) (k0_pay47 x g s u w qn kn S T) (View.ld w r0_34) (ix2 y ⟨h.val * 64 + i.val, by omega⟩) := by
    unfold_out out0_12
    rw [Value.canon12_eq]
    refine (narrow_id _).trans ?_
    rw [hix]
    rfl
  exact h1.trans (proj2_at x g s u w qn kn S T y _)

/-- The index keys. -/
theorem out13_at (y : Fin 512) (i : Fin 64) :
    out0_13 (F := Ideal) x g s u w qn kn S T (ix2 y i) = blockProj x g s u w y ⟨2048 + i.val, by omega⟩ := by
  unfold out0_13
  rw [View.canon_unit_zero zero2]
  unfold k0_pay47
  rw [ld_x, ld_g, ld_s, ld_s]
  refine (pay4_at _ _ y i).trans ?_
  unfold blockProj
  refine Finset.sum_congr rfl fun d _ => ?_
  rw [pay6_at, ld_w3]

/-- The index weights. -/
theorem out14_at (y : Fin 512) (i : Fin 8) :
    out0_14 (F := Ideal) x g s u w qn kn S T (ix2 y i) = blockProj x g s u w y ⟨2176 + i.val, by omega⟩ * Ideal.ofBits .f32 0x3D3504F3#32 := by
  unfold out0_14
  rw [View.canon_unit_zero zero2]
  unfold k0_pay47
  rw [ld_x, ld_g, ld_s, ld_s]
  refine (pay5_at _ _ y i).trans ?_
  unfold blockProj
  refine congrArg (· * Ideal.ofBits .f32 0x3D3504F3#32) (Finset.sum_congr rfl fun d _ => ?_)
  rw [pay6_at, ld_w4]

end Out

end Cert.Attentions

end
-- ==== Proof.AttBlocks.lean ====
/-
  The blocks that one block of tokens of the attention layer's projection reads, at coordinates of the arguments.
-/
module

public import proofs.«01_k».proof.Proof.AttBody

@[expose] public section

set_option maxRecDepth 16384

noncomputable section

namespace Cert.Attentions

open Cert.AttentionIdeal Cert.AttentionIdeal.Gen
open Idealize.ShloMosaic Idealize.ShloMosaic.TcCoe

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![1, t.val / 4, 1, 0, 0] := by decide +kernel
theorem index3 : ∀ t : Fin grid0.N, win0_3.index t = ![1, t.val / 4, 0, 0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, t.val, 0] := by decide +kernel
theorem index10 : ∀ t : Fin grid0.N, win0_10.index t = ![0, t.val, 0] := by decide +kernel
theorem index11 : ∀ t : Fin grid0.N, win0_11.index t = ![0, t.val, 0] := by decide +kernel
theorem index12 : ∀ t : Fin grid0.N, win0_12.index t = ![0, t.val, 0] := by decide +kernel
theorem index13 : ∀ t : Fin grid0.N, win0_13.index t = ![t.val, 0] := by decide +kernel
theorem index14 : ∀ t : Fin grid0.N, win0_14.index t = ![t.val, 0] := by decide +kernel

variable (m : (ℓ : Loc nD τ sig) → Buf (Elt Ideal) ℓ)

/-- The arguments. -/
abbrev argX (c : Dev nD) : S16384x1024.Idx → EReal := m ((c.tc : Thread nD τ).loc main_arg0)
abbrev argG (c : Dev nD) : S2x1024.Idx → EReal := m ((c.tc : Thread nD τ).loc main_arg1)
abbrev argU (c : Dev nD) : S2x8x6x1x1024.Idx → EReal := m ((c.tc : Thread nD τ).loc main_arg2)
abbrev argW (c : Dev nD) : S1x1024x2120.Idx → EReal := m ((c.tc : Thread nD τ).loc main_arg3)
abbrev argQ (c : Dev nD) : S1x64.Idx → EReal := m ((c.tc : Thread nD τ).loc main_arg4)
abbrev argK (c : Dev nD) : S1x64.Idx → EReal := m ((c.tc : Thread nD τ).loc main_arg5)

theorem V_norm (c : Dev nD) (e : Fin 1024) : (V m c main_v9 : S1x1024.Idx → EReal) (ix2 0 e) = argG m c (ix2 1 e) := by
  have h : V m c main_v9 = (shapeCast _ (shapeCast _ (extractStridedSlice S1x1024 ![1, 0] (argG m c) slices_S2x1024_S1x1024_1_0)
      shapeCasts_S1x1024_S1024) shapeCasts_S1024_S1x1024 : FVec Ideal S1x1024 .f32) := by
    simp only [V, hostOps0, hostOps0_1, hostOps0_2, hostOps0_3, hostOps0_4, hostOps0_5, hostOps0_6, List.flatten_cons, List.flatten_nil,
      List.append_nil, List.cons_append, List.nil_append, StableHlo.TRef.nullary, StableHlo.TRef.unary, StableHlo.TRef.binary, StableHlo.TRef.ternary]
    after_results_simp <;> rfl
  rw [h]
  generalize argG m c = g
  pointwise []

theorem V_q (c : Dev nD) (h : Fin 16) (i : Fin 64) :
    (V m c main_v25 : S1x1024.Idx → EReal) (ix2 0 ⟨h.val * 64 + i.val, by omega⟩) = argQ m c (ix2 0 i) := by
  have hV : V m c main_v25 = (shapeCast _ (broadcastInDim S1x1x16x64 ![0, 1, 2, 3] bcast_S1x1x1x64_S1x1x16x64_0_1_2_3
      (shapeCast _ (shapeCast _ (shapeCast _ (argQ m c) shapeCasts_S1x64_S64) shapeCasts_S64_S1x64) shapeCasts_S1x64_S1x1x1x64))
      shapeCasts_S1x1x16x64_S1x1024 : FVec Ideal S1x1024 .f32) := by
    simp only [V, hostOps0, hostOps0_1, hostOps0_2, hostOps0_3, hostOps0_4, hostOps0_5, hostOps0_6, List.flatten_cons, List.flatten_nil,
      List.append_nil, List.cons_append, List.nil_append, StableHlo.TRef.nullary, StableHlo.TRef.unary, StableHlo.TRef.binary, StableHlo.TRef.ternary]
    after_results_simp <;> rfl
  rw [hV]
  generalize argQ m c = g
  pointwise []

theorem V_k (c : Dev nD) (h : Fin 4) (i : Fin 64) :
    (V m c main_v28 : S1x256.Idx → EReal) (ix2 0 ⟨h.val * 64 + i.val, by omega⟩) = argK m c (ix2 0 i) := by
  have hV : V m c main_v28 = (shapeCast _ (broadcastInDim S1x1x4x64 ![0, 1, 2, 3] bcast_S1x1x1x64_S1x1x4x64_0_1_2_3
      (shapeCast _ (shapeCast _ (shapeCast _ (argK m c) shapeCasts_S1x64_S64) shapeCasts_S64_S1x64) shapeCasts_S1x64_S1x1x1x64))
      shapeCasts_S1x1x4x64_S1x256 : FVec Ideal S1x256 .f32) := by
    simp only [V, hostOps0, hostOps0_1, hostOps0_2, hostOps0_3, hostOps0_4, hostOps0_5, hostOps0_6, List.flatten_cons, List.flatten_nil,
      List.append_nil, List.cons_append, List.nil_append, StableHlo.TRef.nullary, StableHlo.TRef.unary, StableHlo.TRef.binary, StableHlo.TRef.ternary]
    after_results_simp <;> rfl
  rw [hV]
  generalize argK m c = g
  pointwise []

/-- The padded weights, of the projection's weights. -/
def padded (w : FVec Ideal S1x1024x2120 .f32) (z : FVec Ideal S_ .f32) : FVec Ideal S1024x2304 .bf16 :=
  truncf .bf16 (concatenate S1024x2304 1
    [⟨S1024x2176, pad S1024x2176 ![0, 0] ![0, 64] ![0, 0] (extractStridedSlice S1024x2112 ![0, 0] (shapeCast _ w shapeCasts_S1x1024x2120_S1024x2120) slices_S1024x2120_S1024x2112_0_0) z pads_S1024x2112_S1024x2176_000_0640 h_S_⟩,
     ⟨S1024x128, pad S1024x128 ![0, 0] ![0, 120] ![0, 0] (extractStridedSlice S1024x8 ![0, 2112] (shapeCast _ w shapeCasts_S1x1024x2120_S1024x2120) slices_S1024x2120_S1024x8_0_2112) z pads_S1024x8_S1024x128_000_01200 h_S_⟩]
    concatenates_S1024x2176_S1024x128_S1024x2304_d1) bitsLt_bf16_f32

theorem V_padded (c : Dev nD) : V m c main_v6 = padded (argW m c) (sitofp .f32 (constantI S_ 32 0#32)) := by
  simp only [V, hostOps0, hostOps0_1, hostOps0_2, hostOps0_3, hostOps0_4, hostOps0_5, hostOps0_6, List.flatten_cons, List.flatten_nil,
      List.append_nil, List.cons_append, List.nil_append, StableHlo.TRef.nullary, StableHlo.TRef.unary, StableHlo.TRef.binary, StableHlo.TRef.ternary]
  after_results_simp <;> rfl

theorem padded_at (w : FVec Ideal S1x1024x2120 .f32) (z : FVec Ideal S_ .f32) (d : Fin 1024) (n : Fin 2112) :
    padded w z (ix2 d ⟨n.val, by omega⟩) = w (ix3 0 d ⟨n.val, by omega⟩) := by
  have h1 : n.val < 2176 := by omega
  have h2 : n.val < 2112 := n.isLt
  pointwise [padded]
  simp [h1, h2]

theorem padded_tail_at (w : FVec Ideal S1x1024x2120 .f32) (z : FVec Ideal S_ .f32) (d : Fin 1024) (n : Fin 8) :
    padded w z (ix2 d ⟨2176 + n.val, by omega⟩) = w (ix3 0 d ⟨2112 + n.val, by omega⟩) := by
  have h2 : n.val < 8 := n.isLt
  pointwise [padded]

/-- The head of each column, as the host code computes it. -/
def segWord : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

theorem segWord_at : ∀ e : Fin 1024, segWord (ix1 e) = BitVec.ofNat 32 (e.val / 64) := by decide +kernel

/-- Whether two words agree, as an exact number. -/
theorem agree {x y : BitVec 32} : (FloatOps.uitofp (F := Ideal) .bf16 (IntOp.cmpi .eq x y) : EReal) = if x = y then 1 else 0 := by
  by_cases h : x = y
  · subst h
    rw [if_pos rfl]
    show ((((IntOp.cmpi .eq x x).toNat : ℝ)) : EReal) = 1
    simp [IntOp.cmpi]
  · rw [if_neg h]
    show ((((IntOp.cmpi .eq x y).toNat : ℝ)) : EReal) = 0
    simp [IntOp.cmpi, h]

/-- The head indicators, of the columns' heads. -/
def segOf (s : IVec S1024 32) : FVec Ideal S1024x128 .bf16 :=
  uitofp .bf16 (cmpi .eq (broadcastInDim S1024x128 ![0, 1] bcast_S1024x1_S1024x128_0_1 (broadcastInDim S1024x1 ![0] bcast_S1024_S1024x1_0 s))
    (broadcastInDim S1024x128 ![0, 1] bcast_S1x128_S1024x128_0_1 (broadcastInDim S1x128 ![1] bcast_S128_S1x128_1 (iotaInDim S128 32 0))))

theorem V_segWord (c : Dev nD) : V m c main_v15 = segWord := by
  simp only [V, hostOps0, hostOps0_1, hostOps0_2, hostOps0_3, hostOps0_4, hostOps0_5, hostOps0_6, List.flatten_cons, List.flatten_nil,
      List.append_nil, List.cons_append, List.nil_append, StableHlo.TRef.nullary, StableHlo.TRef.unary, StableHlo.TRef.binary, StableHlo.TRef.ternary]
  after_results_simp <;> rfl

theorem V_segOf (c : Dev nD) : V m c main_v22 = segOf segWord := by
  simp only [V, hostOps0, hostOps0_1, hostOps0_2, hostOps0_3, hostOps0_4, hostOps0_5, hostOps0_6, List.flatten_cons, List.flatten_nil,
      List.append_nil, List.cons_append, List.nil_append, StableHlo.TRef.nullary, StableHlo.TRef.unary, StableHlo.TRef.binary, StableHlo.TRef.ternary]
  after_results_simp <;> rfl

theorem segOf_at (s : IVec S1024 32) (hs : ∀ e : Fin 1024, s (ix1 e) = BitVec.ofNat 32 (e.val / 64)) (e : Fin 1024) (j : Fin 128) :
    segOf s (ix2 e j) = if e.val / 64 = j.val then (1 : EReal) else 0 := by
  pointwise [segOf]
  rw [hs, agree]
  refine if_congr ⟨fun h => ?_, fun h => by rw [h]⟩ rfl rfl
  have h' := congrArg BitVec.toNat h
  rw [BitVec.toNat_ofNat, BitVec.toNat_ofNat] at h'
  omega

theorem V_segT (c : Dev nD) : V m c main_v29 = (transpose S128x1024 [1, 0] (segOf segWord) transposes_S1024x128_S128x1024_1_0 : FVec Ideal S128x1024 .bf16) := by
  simp only [V, hostOps0, hostOps0_1, hostOps0_2, hostOps0_3, hostOps0_4, hostOps0_5, hostOps0_6, List.flatten_cons, List.flatten_nil,
      List.append_nil, List.cons_append, List.nil_append, StableHlo.TRef.nullary, StableHlo.TRef.unary, StableHlo.TRef.binary, StableHlo.TRef.ternary]
  after_results_simp <;> rfl

theorem segT_at (s : FVec Ideal S1024x128 .bf16) (j : Fin 128) (e : Fin 1024) :
    (transpose S128x1024 [1, 0] s transposes_S1024x128_S128x1024_1_0 : FVec Ideal S128x1024 .bf16) (ix2 j e) = s (ix2 e j) := by
  pointwise []

theorem block0 (c : Dev nD) (t : Fin grid0.N) (y : Fin 512) (r : Fin 16384) (hr : r.val = 512 * t.val + y.val) (d : Fin 1024) :
    (iblk m c 0 t : S512x1024.Idx → EReal) (ix2 y d) = argX m c (ix2 r d) := by
  rw [← show V m c main_arg0 = argX m c from V_main_arg0 m c]
  refine congrArg (V m c main_arg0) ?_
  funext k
  apply Fin.ext
  refine (win0_0.rect_emb_val t _ k).trans ?_
  rw [index0 t]
  match k with
  | 0 => show t.val * 512 + y.val = r.val; omega
  | 1 => show 0 * 1024 + d.val = d.val; omega

theorem block1 (c : Dev nD) (t : Fin grid0.N) (e : Fin 1024) :
    (iblk m c 1 t : S1x1024.Idx → EReal) (ix2 0 e) = argG m c (ix2 1 e) := by
  refine Eq.trans ?_ (V_norm m c e)
  refine congrArg (V m c main_v9) ?_
  funext k
  apply Fin.ext
  refine (win0_1.rect_emb_val t _ k).trans ?_
  rw [index1 t]
  match k with
  | 0 => rfl
  | 1 => show 0 * 1024 + e.val = e.val; omega

theorem block2 (c : Dev nD) (t : Fin grid0.N) (b : Fin 8) (hb : b.val = t.val / 4) (e : Fin 1024) :
    (iblk m c 2 t : S1x1x1x1x1024.Idx → EReal) (ix5 0 0 0 0 e) = argU m c (ix5 1 b 1 0 e) := by
  rw [← show V m c main_arg2 = argU m c from V_main_arg2 m c]
  refine congrArg (V m c main_arg2) ?_
  funext k
  apply Fin.ext
  refine (win0_2.rect_emb_val t _ k).trans ?_
  rw [index2 t]
  match k with
  | 0 => rfl
  | 1 => show t.val / 4 * 1 + 0 = b.val; omega
  | 2 => rfl
  | 3 => rfl
  | 4 => show 0 * 1024 + e.val = e.val; omega

theorem block3 (c : Dev nD) (t : Fin grid0.N) (b : Fin 8) (hb : b.val = t.val / 4) (e : Fin 1024) :
    (iblk m c 3 t : S1x1x1x1x1024.Idx → EReal) (ix5 0 0 0 0 e) = argU m c (ix5 1 b 0 0 e) := by
  rw [← show V m c main_arg2 = argU m c from V_main_arg2 m c]
  refine congrArg (V m c main_arg2) ?_
  funext k
  apply Fin.ext
  refine (win0_3.rect_emb_val t _ k).trans ?_
  rw [index3 t]
  match k with
  | 0 => rfl
  | 1 => show t.val / 4 * 1 + 0 = b.val; omega
  | 2 => rfl
  | 3 => rfl
  | 4 => show 0 * 1024 + e.val = e.val; omega

theorem block4 (c : Dev nD) (t : Fin grid0.N) (d : Fin 1024) (n : Fin 2304) :
    (iblk m c 4 t : S1024x2304.Idx → EReal) (ix2 d n) = (V m c main_v6 : S1024x2304.Idx → EReal) (ix2 d n) := by
  refine congrArg (V m c main_v6) ?_
  funext k
  apply Fin.ext
  refine (win0_4.rect_emb_val t _ k).trans ?_
  rw [index4 t]
  match k with
  | 0 => show 0 * 1024 + d.val = d.val; omega
  | 1 => show 0 * 2304 + n.val = n.val; omega

theorem block5 (c : Dev nD) (t : Fin grid0.N) (d : Fin 1) (n : Fin 1024) :
    (iblk m c 5 t : S1x1024.Idx → EReal) (ix2 d n) = (V m c main_v25 : S1x1024.Idx → EReal) (ix2 d n) := by
  refine congrArg (V m c main_v25) ?_
  funext k
  apply Fin.ext
  refine (win0_5.rect_emb_val t _ k).trans ?_
  rw [index5 t]
  match k with
  | 0 => show 0 * 1 + d.val = d.val; omega
  | 1 => show 0 * 1024 + n.val = n.val; omega

theorem block6 (c : Dev nD) (t : Fin grid0.N) (d : Fin 1) (n : Fin 256) :
    (iblk m c 6 t : S1x256.Idx → EReal) (ix2 d n) = (V m c main_v28 : S1x256.Idx → EReal) (ix2 d n) := by
  refine congrArg (V m c main_v28) ?_
  funext k
  apply Fin.ext
  refine (win0_6.rect_emb_val t _ k).trans ?_
  rw [index6 t]
  match k with
  | 0 => show 0 * 1 + d.val = d.val; omega
  | 1 => show 0 * 256 + n.val = n.val; omega

theorem block7 (c : Dev nD) (t : Fin grid0.N) (d : Fin 1024) (n : Fin 128) :
    (iblk m c 7 t : S1024x128.Idx → EReal) (ix2 d n) = (V m c main_v22 : S1024x128.Idx → EReal) (ix2 d n) := by
  refine congrArg (V m c main_v22) ?_
  funext k
  apply Fin.ext
  refine (win0_7.rect_emb_val t _ k).trans ?_
  rw [index7 t]
  match k with
  | 0 => show 0 * 1024 + d.val = d.val; omega
  | 1 => show 0 * 128 + n.val = n.val; omega

theorem block8 (c : Dev nD) (t : Fin grid0.N) (d : Fin 128) (n : Fin 1024) :
    (iblk m c 8 t : S128x1024.Idx → EReal) (ix2 d n) = (V m c main_v29 : S128x1024.Idx → EReal) (ix2 d n) := by
  refine congrArg (V m c main_v29) ?_
  funext k
  apply Fin.ext
  refine (win0_8.rect_emb_val t _ k).trans ?_
  rw [index8 t]
  match k with
  | 0 => show 0 * 128 + d.val = d.val; omega
  | 1 => show 0 * 1024 + n.val = n.val; omega

theorem weights (c : Dev nD) (t : Fin grid0.N) (d : Fin 1024) (n : Fin 2304) (q : Fin 2120)
    (hq : (n.val < 2112 ∧ q.val = n.val) ∨ (2112 ≤ q.val ∧ n.val = 64 + q.val)) :
    (iblk m c 4 t : S1024x2304.Idx → EReal) (ix2 d n) = argW m c (ix3 0 d q) := by
  refine (block4 m c t d n).trans ?_
  rw [V_padded m c]
  rcases hq with ⟨h1, h2⟩ | ⟨h1, h2⟩
  · have hn : n = ⟨(⟨n.val, h1⟩ : Fin 2112).val, by omega⟩ := rfl
    rw [hn]
    refine (padded_at _ _ d ⟨n.val, h1⟩).trans ?_
    exact congrArg (fun k => argW m c (ix3 0 d k)) (Fin.ext h2.symm)
  · have hn : n = ⟨2176 + (⟨q.val - 2112, by omega⟩ : Fin 8).val, by show 2176 + (q.val - 2112) < 2304; omega⟩ :=
      Fin.ext (by show n.val = 2176 + (q.val - 2112); omega)
    rw [hn]
    refine (padded_tail_at _ _ d ⟨q.val - 2112, by omega⟩).trans ?_
    exact congrArg (fun k => argW m c (ix3 0 d k)) (Fin.ext (by show 2112 + (q.val - 2112) = q.val; omega))

theorem queryWeight (c : Dev nD) (t : Fin grid0.N) (h : Fin 16) (i : Fin 64) :
    (iblk m c 5 t : S1x1024.Idx → EReal) (ix2 0 ⟨h.val * 64 + i.val, by omega⟩) = argQ m c (ix2 0 i) :=
  (block5 m c t 0 _).trans (V_q m c h i)

theorem keyWeight (c : Dev nD) (t : Fin grid0.N) (h : Fin 4) (i : Fin 64) :
    (iblk m c 6 t : S1x256.Idx → EReal) (ix2 0 ⟨h.val * 64 + i.val, by omega⟩) = argK m c (ix2 0 i) :=
  (block6 m c t 0 _).trans (V_k m c h i)

theorem seg (c : Dev nD) (t : Fin grid0.N) (e : Fin 1024) (j : Fin 128) :
    (iblk m c 7 t : S1024x128.Idx → EReal) (ix2 e j) = if e.val / 64 = j.val then (1 : EReal) else 0 := by
  refine (block7 m c t e j).trans ?_
  rw [V_segOf m c]
  exact segOf_at _ segWord_at e j

theorem segT (c : Dev nD) (t : Fin grid0.N) (j : Fin 128) (e : Fin 1024) :
    (iblk m c 8 t : S128x1024.Idx → EReal) (ix2 j e) = if e.val / 64 = j.val then (1 : EReal) else 0 := by
  refine (block8 m c t j e).trans ?_
  rw [V_segT m c]
  exact (segT_at _ j e).trans (segOf_at _ segWord_at e j)

/-- A block's projection is the whole projection's rows of that block. -/
theorem blockProj_eq (c : Dev nD) (t : Fin grid0.N) (y : Fin 512) (r : Fin 16384) (hr : r.val = 512 * t.val + y.val) (n : Fin 2304) (q : Fin 2120)
    (hq : (n.val < 2112 ∧ q.val = n.val) ∨ (2112 ≤ q.val ∧ n.val = 64 + q.val)) :
    blockProj (iblk m c 0 t) (iblk m c 1 t) (iblk m c 2 t) (iblk m c 3 t) (iblk m c 4 t) y n
      = Ref.whole (argX m c) (argG m c) (argU m c) (argW m c) (ix2 r q) := by
  refine Eq.trans ?_ (Ref.whole_at (argX m c) (argG m c) (argU m c) (argW m c) r q).symm
  unfold blockProj
  have h2 := block2 m c t ⟨r.val / 2048, by omega⟩ (by show r.val / 2048 = t.val / 4; omega)
  have h3 := block3 m c t ⟨r.val / 2048, by omega⟩ (by show r.val / 2048 = t.val / 4; omega)
  have h4 := fun d => weights m c t d n q hq
  simp only [block0 m c t y r hr, block1 m c t, h2, h3, h4]

end Cert.Attentions

end
-- ==== Proof.AttValue.lean ====
/-
  The six results of the attention layer's projection, at exact values, and the claim about them.
-/
module

public import proofs.«01_k».proof.Defs
public import proofs.«01_k».proof.Proof.AttBlocks
public import Idealize.ShloMosaic.Lib.Pipeline.ValueKit.Geometry

@[expose] public section

set_option maxRecDepth 16384

noncomputable section

namespace Cert.Attentions

open Cert.AttentionIdeal Cert.AttentionIdeal.Gen
open Idealize.ShloMosaic Idealize.ShloMosaic.TcCoe Idealize.SL.Sem

variable (m : (ℓ : Loc nD τ sig) → Buf (Elt Ideal) ℓ)

/-- The projection of the kernel's arguments, as the reference writes it. -/
abbrev wholeOf (c : Dev nD) : FVec Ideal Cert.AttentionReferenceIdeal.S16384x2120 .f32 :=
  Ref.whole (argX m c) (argG m c) (argU m c) (argW m c)

theorem flush9 : ∀ t : Fin grid0.N, win0_9.flush t = true := by decide +kernel

/-- The first result. -/
theorem out9_eq (c : Dev nD) : (dats m 0 c).arrAt 9 cfg0.N = Ref.out0 (wholeOf m c) (argQ m c) := by
  refine (dats m 0 c).arrAt_eq_of_emb (⟨9, by decide⟩ : Fin cfg0.W) _ ?_ ?_
  · intro t hf z
    have ht : t.val < 32 := t.isLt
    obtain ⟨h, hh⟩ : ∃ h : Fin 16, h.val = (z 0).val := ⟨⟨(z 0).val, (z 0).isLt⟩, rfl⟩
    obtain ⟨y, hy⟩ : ∃ y : Fin 512, y.val = (z 1).val := ⟨⟨(z 1).val, (z 1).isLt⟩, rfl⟩
    obtain ⟨i, hi⟩ : ∃ i : Fin 64, i.val = (z 2).val := ⟨⟨(z 2).val, (z 2).isLt⟩, rfl⟩
    obtain ⟨r, hr⟩ : ∃ r : Fin 16384, r.val = 512 * t.val + y.val := ⟨⟨512 * t.val + y.val, by omega⟩, rfl⟩
    have he : (win0_9.rect t).emb z = (ix3 h r i : S16x16384x64.Idx) := by
      funext b
      apply Fin.ext
      refine (win0_9.rect_emb_val t z b).trans ?_
      rw [index9 t]
      match b with
      | 0 => show 0 * 16 + (z 0).val = h.val; omega
      | 1 => show t.val * 512 + (z 1).val = r.val; omega
      | 2 => show 0 * 64 + (z 2).val = i.val; omega
    have hz : (win0_9.xinj (grid0.coords t) z : S16x512x64.Idx) = ix3 h y i := by
      funext b
      apply Fin.ext
      match b with
      | 0 => exact hh.symm
      | 1 => exact hy.symm
      | 2 => exact hi.symm
    refine (congrFun (Value.flushed9 m c t) z).trans ?_
    refine Eq.trans ?_ (congrArg (Ref.out0 (wholeOf m c) (argQ m c)) he.symm)
    refine (congrArg _ hz).trans ?_
    refine (out9_at _ _ _ _ _ _ _ _ _ (seg m c t) (segT m c t) h y i).trans ?_
    refine Eq.trans ?_ (Ref.out0_at (wholeOf m c) (argQ m c) h r i).symm
    exact congrArg₂ (fun f v => headNorm f (v * Ideal.ofBits .f32 0x3E38AA3B#32) i)
      (funext fun l => blockProj_eq m c t y r hr ⟨h.val * 64 + l.val, by omega⟩ ⟨h.val * 64 + l.val, by omega⟩
        (Or.inl ⟨by show h.val * 64 + l.val < 2112; omega, rfl⟩)) (queryWeight m c t h i)
  · intro i
    have hi0 : (i 0).val < 16 := (i 0).isLt
    have hi1 : (i 1).val < 16384 := (i 1).isLt
    have hi2 : (i 2).val < 64 := (i 2).isLt
    obtain ⟨t, ht⟩ : ∃ t : Fin grid0.N, t.val = (i 1).val / 512 := ⟨⟨(i 1).val / 512, by show _ < 32; omega⟩, rfl⟩
    refine ⟨t, flush9 t, ?_⟩
    have he : (win0_9.blk t).view.emb (ix3 (⟨(i 0).val, hi0⟩ : Fin 16) (⟨(i 1).val % 512, by omega⟩ : Fin 512) (⟨(i 2).val, hi2⟩ : Fin 64)) = i := by
      funext b
      apply Fin.ext
      refine (win0_9.rect_emb_val t (ix3 (⟨(i 0).val, hi0⟩ : Fin 16) (⟨(i 1).val % 512, by omega⟩ : Fin 512) (⟨(i 2).val, hi2⟩ : Fin 64)) b).trans ?_
      rw [index9 t]
      match b with
      | 0 => show 0 * 16 + (i 0).val = (i 0).val; omega
      | 1 => show t.val * 512 + (i 1).val % 512 = (i 1).val; omega
      | 2 => show 0 * 64 + (i 2).val = (i 2).val; omega
    exact Eq.mp (congrArg (fun j => j ∈ (win0_9.blk t).view.set) he) (View.emb_mem_set _ _)

theorem flush10 : ∀ t : Fin grid0.N, win0_10.flush t = true := by decide +kernel

/-- The second result. -/
theorem out10_eq (c : Dev nD) : (dats m 0 c).arrAt 10 cfg0.N = Ref.out1 (wholeOf m c) (argK m c) := by
  refine (dats m 0 c).arrAt_eq_of_emb (⟨10, by decide⟩ : Fin cfg0.W) _ ?_ ?_
  · intro t hf z
    have ht : t.val < 32 := t.isLt
    obtain ⟨h, hh⟩ : ∃ h : Fin 4, h.val = (z 0).val := ⟨⟨(z 0).val, (z 0).isLt⟩, rfl⟩
    obtain ⟨y, hy⟩ : ∃ y : Fin 512, y.val = (z 1).val := ⟨⟨(z 1).val, (z 1).isLt⟩, rfl⟩
    obtain ⟨i, hi⟩ : ∃ i : Fin 64, i.val = (z 2).val := ⟨⟨(z 2).val, (z 2).isLt⟩, rfl⟩
    obtain ⟨r, hr⟩ : ∃ r : Fin 16384, r.val = 512 * t.val + y.val := ⟨⟨512 * t.val + y.val, by omega⟩, rfl⟩
    have he : (win0_10.rect t).emb z = (ix3 h r i : S4x16384x64.Idx) := by
      funext b
      apply Fin.ext
      refine (win0_10.rect_emb_val t z b).trans ?_
      rw [index10 t]
      match b with
      | 0 => show 0 * 4 + (z 0).val = h.val; omega
      | 1 => show t.val * 512 + (z 1).val = r.val; omega
      | 2 => show 0 * 64 + (z 2).val = i.val; omega
    have hz : (win0_10.xinj (grid0.coords t) z : S4x512x64.Idx) = ix3 h y i := by
      funext b
      apply Fin.ext
      match b with
      | 0 => exact hh.symm
      | 1 => exact hy.symm
      | 2 => exact hi.symm
    refine (congrFun (Value.flushed10 m c t) z).trans ?_
    refine Eq.trans ?_ (congrArg (Ref.out1 (wholeOf m c) (argK m c)) he.symm)
    refine (congrArg _ hz).trans ?_
    refine (out10_at _ _ _ _ _ _ _ _ _ (seg m c t) (segT m c t) h y i).trans ?_
    refine Eq.trans ?_ (Ref.out1_at (wholeOf m c) (argK m c) h r i).symm
    exact congrArg₂ (fun f v => headNorm f v i)
      (funext fun l => blockProj_eq m c t y r hr ⟨1024 + (h.val * 64 + l.val), by omega⟩ ⟨1024 + (h.val * 64 + l.val), by omega⟩
        (Or.inl ⟨by show 1024 + (h.val * 64 + l.val) < 2112; omega, rfl⟩)) (keyWeight m c t h i)
  · intro i
    have hi0 : (i 0).val < 4 := (i 0).isLt
    have hi1 : (i 1).val < 16384 := (i 1).isLt
    have hi2 : (i 2).val < 64 := (i 2).isLt
    obtain ⟨t, ht⟩ : ∃ t : Fin grid0.N, t.val = (i 1).val / 512 := ⟨⟨(i 1).val / 512, by show _ < 32; omega⟩, rfl⟩
    refine ⟨t, flush10 t, ?_⟩
    have he : (win0_10.blk t).view.emb (ix3 (⟨(i 0).val, hi0⟩ : Fin 4) (⟨(i 1).val % 512, by omega⟩ : Fin 512) (⟨(i 2).val, hi2⟩ : Fin 64)) = i := by
      funext b
      apply Fin.ext
      refine (win0_10.rect_emb_val t (ix3 (⟨(i 0).val, hi0⟩ : Fin 4) (⟨(i 1).val % 512, by omega⟩ : Fin 512) (⟨(i 2).val, hi2⟩ : Fin 64)) b).trans ?_
      rw [index10 t]
      match b with
      | 0 => show 0 * 4 + (i 0).val = (i 0).val; omega
      | 1 => show t.val * 512 + (i 1).val % 512 = (i 1).val; omega
      | 2 => show 0 * 64 + (i 2).val = (i 2).val; omega
    exact Eq.mp (congrArg (fun j => j ∈ (win0_10.blk t).view.set) he) (View.emb_mem_set _ _)

theorem flush11 : ∀ t : Fin grid0.N, win0_11.flush t = true := by decide +kernel

/-- The third result. -/
theorem out11_eq (c : Dev nD) : (dats m 0 c).arrAt 11 cfg0.N = Ref.out2 (wholeOf m c) := by
  refine (dats m 0 c).arrAt_eq_of_emb (⟨11, by decide⟩ : Fin cfg0.W) _ ?_ ?_
  · intro t hf z
    have ht : t.val < 32 := t.isLt
    obtain ⟨h, hh⟩ : ∃ h : Fin 4, h.val = (z 0).val := ⟨⟨(z 0).val, (z 0).isLt⟩, rfl⟩
    obtain ⟨y, hy⟩ : ∃ y : Fin 512, y.val = (z 1).val := ⟨⟨(z 1).val, (z 1).isLt⟩, rfl⟩
    obtain ⟨i, hi⟩ : ∃ i : Fin 128, i.val = (z 2).val := ⟨⟨(z 2).val, (z 2).isLt⟩, rfl⟩
    obtain ⟨r, hr⟩ : ∃ r : Fin 16384, r.val = 512 * t.val + y.val := ⟨⟨512 * t.val + y.val, by omega⟩, rfl⟩
    have he : (win0_11.rect t).emb z = (ix3 h r i : S4x16384x128.Idx) := by
      funext b
      apply Fin.ext
      refine (win0_11.rect_emb_val t z b).trans ?_
      rw [index11 t]
      match b with
      | 0 => show 0 * 4 + (z 0).val = h.val; omega
      | 1 => show t.val * 512 + (z 1).val = r.val; omega
      | 2 => show 0 * 128 + (z 2).val = i.val; omega
    have hz : (win0_11.xinj (grid0.coords t) z : S4x512x128.Idx) = ix3 h y i := by
      funext b
      apply Fin.ext
      match b with
      | 0 => exact hh.symm
      | 1 => exact hy.symm
      | 2 => exact hi.symm
    refine (congrFun (Value.flushed11 m c t) z).trans ?_
    refine Eq.trans ?_ (congrArg (Ref.out2 (wholeOf m c)) he.symm)
    refine (congrArg _ hz).trans ?_
    refine (out11_at _ _ _ _ _ _ _ _ _ h y i).trans ?_
    refine Eq.trans ?_ (Ref.out2_at (wholeOf m c) h r i).symm
    by_cases hi : i.val < 64
    · rw [dif_pos hi, dif_pos hi]
      exact blockProj_eq m c t y r hr ⟨1280 + (h.val * 64 + i.val), by omega⟩ ⟨1280 + (h.val * 64 + i.val), by omega⟩
        (Or.inl ⟨by show 1280 + (h.val * 64 + i.val) < 2112; omega, rfl⟩)
    · rw [dif_neg hi, dif_neg hi]
  · intro i
    have hi0 : (i 0).val < 4 := (i 0).isLt
    have hi1 : (i 1).val < 16384 := (i 1).isLt
    have hi2 : (i 2).val < 128 := (i 2).isLt
    obtain ⟨t, ht⟩ : ∃ t : Fin grid0.N, t.val = (i 1).val / 512 := ⟨⟨(i 1).val / 512, by show _ < 32; omega⟩, rfl⟩
    refine ⟨t, flush11 t, ?_⟩
    have he : (win0_11.blk t).view.emb (ix3 (⟨(i 0).val, hi0⟩ : Fin 4) (⟨(i 1).val % 512, by omega⟩ : Fin 512) (⟨(i 2).val, hi2⟩ : Fin 128)) = i := by
      funext b
      apply Fin.ext
      refine (win0_11.rect_emb_val t (ix3 (⟨(i 0).val, hi0⟩ : Fin 4) (⟨(i 1).val % 512, by omega⟩ : Fin 512) (⟨(i 2).val, hi2⟩ : Fin 128)) b).trans ?_
      rw [index11 t]
      match b with
      | 0 => show 0 * 4 + (i 0).val = (i 0).val; omega
      | 1 => show t.val * 512 + (i 1).val % 512 = (i 1).val; omega
      | 2 => show 0 * 128 + (i 2).val = (i 2).val; omega
    exact Eq.mp (congrArg (fun j => j ∈ (win0_11.blk t).view.set) he) (View.emb_mem_set _ _)

theorem flush12 : ∀ t : Fin grid0.N, win0_12.flush t = true := by decide +kernel

/-- The fourth result. -/
theorem out12_eq (c : Dev nD) : (dats m 0 c).arrAt 12 cfg0.N = Ref.out3 (wholeOf m c) := by
  refine (dats m 0 c).arrAt_eq_of_emb (⟨12, by decide⟩ : Fin cfg0.W) _ ?_ ?_
  · intro t hf z
    have ht : t.val < 32 := t.isLt
    obtain ⟨h, hh⟩ : ∃ h : Fin 8, h.val = (z 0).val := ⟨⟨(z 0).val, (z 0).isLt⟩, rfl⟩
    obtain ⟨y, hy⟩ : ∃ y : Fin 512, y.val = (z 1).val := ⟨⟨(z 1).val, (z 1).isLt⟩, rfl⟩
    obtain ⟨i, hi⟩ : ∃ i : Fin 64, i.val = (z 2).val := ⟨⟨(z 2).val, (z 2).isLt⟩, rfl⟩
    obtain ⟨r, hr⟩ : ∃ r : Fin 16384, r.val = 512 * t.val + y.val := ⟨⟨512 * t.val + y.val, by omega⟩, rfl⟩
    have he : (win0_12.rect t).emb z = (ix3 h r i : S8x16384x64.Idx) := by
      funext b
      apply Fin.ext
      refine (win0_12.rect_emb_val t z b).trans ?_
      rw [index12 t]
      match b with
      | 0 => show 0 * 8 + (z 0).val = h.val; omega
      | 1 => show t.val * 512 + (z 1).val = r.val; omega
      | 2 => show 0 * 64 + (z 2).val = i.val; omega
    have hz : (win0_12.xinj (grid0.coords t) z : S8x512x64.Idx) = ix3 h y i := by
      funext b
      apply Fin.ext
      match b with
      | 0 => exact hh.symm
      | 1 => exact hy.symm
      | 2 => exact hi.symm
    refine (congrFun (Value.flushed12 m c t) z).trans ?_
    refine Eq.trans ?_ (congrArg (Ref.out3 (wholeOf m c)) he.symm)
    refine (congrArg _ hz).trans ?_
    refine (out12_at _ _ _ _ _ _ _ _ _ h y i).trans ?_
    refine Eq.trans ?_ (Ref.out3_at (wholeOf m c) h r i).symm
    exact blockProj_eq m c t y r hr ⟨1536 + (h.val * 64 + i.val), by omega⟩ ⟨1536 + (h.val * 64 + i.val), by omega⟩
      (Or.inl ⟨by show 1536 + (h.val * 64 + i.val) < 2112; omega, rfl⟩)
  · intro i
    have hi0 : (i 0).val < 8 := (i 0).isLt
    have hi1 : (i 1).val < 16384 := (i 1).isLt
    have hi2 : (i 2).val < 64 := (i 2).isLt
    obtain ⟨t, ht⟩ : ∃ t : Fin grid0.N, t.val = (i 1).val / 512 := ⟨⟨(i 1).val / 512, by show _ < 32; omega⟩, rfl⟩
    refine ⟨t, flush12 t, ?_⟩
    have he : (win0_12.blk t).view.emb (ix3 (⟨(i 0).val, hi0⟩ : Fin 8) (⟨(i 1).val % 512, by omega⟩ : Fin 512) (⟨(i 2).val, hi2⟩ : Fin 64)) = i := by
      funext b
      apply Fin.ext
      refine (win0_12.rect_emb_val t (ix3 (⟨(i 0).val, hi0⟩ : Fin 8) (⟨(i 1).val % 512, by omega⟩ : Fin 512) (⟨(i 2).val, hi2⟩ : Fin 64)) b).trans ?_
      rw [index12 t]
      match b with
      | 0 => show 0 * 8 + (i 0).val = (i 0).val; omega
      | 1 => show t.val * 512 + (i 1).val % 512 = (i 1).val; omega
      | 2 => show 0 * 64 + (i 2).val = (i 2).val; omega
    exact Eq.mp (congrArg (fun j => j ∈ (win0_12.blk t).view.set) he) (View.emb_mem_set _ _)

theorem flush13 : ∀ t : Fin grid0.N, win0_13.flush t = true := by decide +kernel

/-- The fifth result. -/
theorem out13_eq (c : Dev nD) : (dats m 0 c).arrAt 13 cfg0.N = Ref.out4 (wholeOf m c) := by
  refine (dats m 0 c).arrAt_eq_of_emb (⟨13, by decide⟩ : Fin cfg0.W) _ ?_ ?_
  · intro t hf z
    have ht : t.val < 32 := t.isLt
    obtain ⟨y, hy⟩ : ∃ y : Fin 512, y.val = (z 0).val := ⟨⟨(z 0).val, (z 0).isLt⟩, rfl⟩
    obtain ⟨i, hi⟩ : ∃ i : Fin 64, i.val = (z 1).val := ⟨⟨(z 1).val, (z 1).isLt⟩, rfl⟩
    obtain ⟨r, hr⟩ : ∃ r : Fin 16384, r.val = 512 * t.val + y.val := ⟨⟨512 * t.val + y.val, by omega⟩, rfl⟩
    have he : (win0_13.rect t).emb z = (ix2 r i : S16384x64.Idx) := by
      funext b
      apply Fin.ext
      refine (win0_13.rect_emb_val t z b).trans ?_
      rw [index13 t]
      match b with
      | 0 => show t.val * 512 + (z 0).val = r.val; omega
      | 1 => show 0 * 64 + (z 1).val = i.val; omega
    have hz : (win0_13.xinj (grid0.coords t) z : S512x64.Idx) = ix2 y i := by
      funext b
      apply Fin.ext
      match b with
      | 0 => exact hy.symm
      | 1 => exact hi.symm
    refine (congrFun (Value.flushed13 m c t) z).trans ?_
    refine Eq.trans ?_ (congrArg (Ref.out4 (wholeOf m c)) he.symm)
    refine (congrArg _ hz).trans ?_
    refine (out13_at _ _ _ _ _ _ _ _ _ y i).trans ?_
    refine Eq.trans ?_ (Ref.out4_at (wholeOf m c) r i).symm
    exact blockProj_eq m c t y r hr ⟨2048 + i.val, by omega⟩ ⟨2048 + i.val, by omega⟩
      (Or.inl ⟨by show 2048 + i.val < 2112; omega, rfl⟩)
  · intro i
    have hi0 : (i 0).val < 16384 := (i 0).isLt
    have hi1 : (i 1).val < 64 := (i 1).isLt
    obtain ⟨t, ht⟩ : ∃ t : Fin grid0.N, t.val = (i 0).val / 512 := ⟨⟨(i 0).val / 512, by show _ < 32; omega⟩, rfl⟩
    refine ⟨t, flush13 t, ?_⟩
    have he : (win0_13.blk t).view.emb (ix2 (⟨(i 0).val % 512, by omega⟩ : Fin 512) (⟨(i 1).val, hi1⟩ : Fin 64)) = i := by
      funext b
      apply Fin.ext
      refine (win0_13.rect_emb_val t (ix2 (⟨(i 0).val % 512, by omega⟩ : Fin 512) (⟨(i 1).val, hi1⟩ : Fin 64)) b).trans ?_
      rw [index13 t]
      match b with
      | 0 => show t.val * 512 + (i 0).val % 512 = (i 0).val; omega
      | 1 => show 0 * 64 + (i 1).val = (i 1).val; omega
    exact Eq.mp (congrArg (fun j => j ∈ (win0_13.blk t).view.set) he) (View.emb_mem_set _ _)

theorem flush14 : ∀ t : Fin grid0.N, win0_14.flush t = true := by decide +kernel

/-- The sixth result. -/
theorem out14_eq (c : Dev nD) : (dats m 0 c).arrAt 14 cfg0.N = Ref.out5 (wholeOf m c) := by
  refine (dats m 0 c).arrAt_eq_of_emb (⟨14, by decide⟩ : Fin cfg0.W) _ ?_ ?_
  · intro t hf z
    have ht : t.val < 32 := t.isLt
    obtain ⟨y, hy⟩ : ∃ y : Fin 512, y.val = (z 0).val := ⟨⟨(z 0).val, (z 0).isLt⟩, rfl⟩
    obtain ⟨i, hi⟩ : ∃ i : Fin 8, i.val = (z 1).val := ⟨⟨(z 1).val, (z 1).isLt⟩, rfl⟩
    obtain ⟨r, hr⟩ : ∃ r : Fin 16384, r.val = 512 * t.val + y.val := ⟨⟨512 * t.val + y.val, by omega⟩, rfl⟩
    have he : (win0_14.rect t).emb z = (ix2 r i : S16384x8.Idx) := by
      funext b
      apply Fin.ext
      refine (win0_14.rect_emb_val t z b).trans ?_
      rw [index14 t]
      match b with
      | 0 => show t.val * 512 + (z 0).val = r.val; omega
      | 1 => show 0 * 8 + (z 1).val = i.val; omega
    have hz : (win0_14.xinj (grid0.coords t) z : S512x8.Idx) = ix2 y i := by
      funext b
      apply Fin.ext
      match b with
      | 0 => exact hy.symm
      | 1 => exact hi.symm
    refine (congrFun (Value.flushed14 m c t) z).trans ?_
    refine Eq.trans ?_ (congrArg (Ref.out5 (wholeOf m c)) he.symm)
    refine (congrArg _ hz).trans ?_
    refine (out14_at _ _ _ _ _ _ _ _ _ y i).trans ?_
    refine Eq.trans ?_ (Ref.out5_at (wholeOf m c) r i).symm
    exact congrArg (· * Ideal.ofBits .f32 0x3D3504F3#32) (blockProj_eq m c t y r hr ⟨2176 + i.val, by omega⟩ ⟨2112 + i.val, by omega⟩
      (Or.inr ⟨by show 2112 ≤ 2112 + i.val; omega, by show 2176 + i.val = 64 + (2112 + i.val); omega⟩))
  · intro i
    have hi0 : (i 0).val < 16384 := (i 0).isLt
    have hi1 : (i 1).val < 8 := (i 1).isLt
    obtain ⟨t, ht⟩ : ∃ t : Fin grid0.N, t.val = (i 0).val / 512 := ⟨⟨(i 0).val / 512, by show _ < 32; omega⟩, rfl⟩
    refine ⟨t, flush14 t, ?_⟩
    have he : (win0_14.blk t).view.emb (ix2 (⟨(i 0).val % 512, by omega⟩ : Fin 512) (⟨(i 1).val, hi1⟩ : Fin 8)) = i := by
      funext b
      apply Fin.ext
      refine (win0_14.rect_emb_val t (ix2 (⟨(i 0).val % 512, by omega⟩ : Fin 512) (⟨(i 1).val, hi1⟩ : Fin 8)) b).trans ?_
      rw [index14 t]
      match b with
      | 0 => show t.val * 512 + (i 0).val % 512 = (i 0).val; omega
      | 1 => show 0 * 8 + (i 1).val = (i 1).val; omega
    exact Eq.mp (congrArg (fun j => j ∈ (win0_14.blk t).view.set) he) (View.emb_mem_set _ _)

set_option maxHeartbeats 2000000 in
/-- The value claim. -/
theorem algebraic [Cert.AttentionReferenceIdeal.Facts] : Cert.algebraic_AttentionIdeal_AttentionReferenceIdeal := by
  intro m g m' g' _ hagree
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N, ?_, ?_⟩
  · exact Value.run_blocks (F := Ideal) m g
  · refine (θ_run _ _ _).mono (fun _ h c => ?_) (Cert.AttentionReferenceIdeal.Value.run (F := Ideal) m' g')
    obtain ⟨e0, e1, e2, e3, e4, e5⟩ := hagree c
    obtain ⟨h0, h1, h2, h3, h4, h5, h6⟩ := h c
    have hw : Ref.whole (m' ((c.tc : Thread Cert.AttentionReferenceIdeal.nD Cert.AttentionReferenceIdeal.τ).loc Cert.AttentionReferenceIdeal.main_arg0))
        (m' ((c.tc : Thread Cert.AttentionReferenceIdeal.nD Cert.AttentionReferenceIdeal.τ).loc Cert.AttentionReferenceIdeal.main_arg1))
        (m' ((c.tc : Thread Cert.AttentionReferenceIdeal.nD Cert.AttentionReferenceIdeal.τ).loc Cert.AttentionReferenceIdeal.main_arg2))
        (m' ((c.tc : Thread Cert.AttentionReferenceIdeal.nD Cert.AttentionReferenceIdeal.τ).loc Cert.AttentionReferenceIdeal.main_arg3))
        = wholeOf m c := by rw [e0, e1, e2, e3]
    have hq : (m' ((c.tc : Thread Cert.AttentionReferenceIdeal.nD Cert.AttentionReferenceIdeal.τ).loc Cert.AttentionReferenceIdeal.main_arg4)) = argQ m c := e4
    have hk : (m' ((c.tc : Thread Cert.AttentionReferenceIdeal.nD Cert.AttentionReferenceIdeal.τ).loc Cert.AttentionReferenceIdeal.main_arg5)) = argK m c := e5
    refine ⟨?_, ?_, ?_, ?_, ?_, ?_, h6⟩
    · have h := (h0.trans (Ref.out0_eq m' c)).trans (congrArg₂ Ref.out0 hw hq)
      exact h.trans (out9_eq m c).symm
    · have h := (h1.trans (Ref.out1_eq m' c)).trans (congrArg₂ Ref.out1 hw hk)
      exact h.trans (out10_eq m c).symm
    · have h := (show _ = Ref.out2 (Ref.whole _ _ _ _) from h2).trans (congrArg Ref.out2 hw)
      exact h.trans (out11_eq m c).symm
    · have h := (show _ = Ref.out3 (Ref.whole _ _ _ _) from h3).trans (congrArg Ref.out3 hw)
      exact h.trans (out12_eq m c).symm
    · have h := (show _ = Ref.out4 (Ref.whole _ _ _ _) from h4).trans (congrArg Ref.out4 hw)
      exact h.trans (out13_eq m c).symm
    · have h := (show _ = Ref.out5 (Ref.whole _ _ _ _) from h5).trans (congrArg Ref.out5 hw)
      exact h.trans (out14_eq m c).symm

end Cert.Attentions

end
-- ==== Proof.lean ====
/- The claims, from the modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_sorted_by_class
public import proofs.«01_k».proof.Proof.Gen.Projection
public import proofs.«01_k».proof.Proof.Gen.Projection.Frame
public import proofs.«01_k».proof.Proof.Gen.ProjectionIdeal
public import proofs.«01_k».proof.Proof.Gen.ProjectionIdeal.Value
public import proofs.«01_k».proof.Proof.Gen.ProjectionReferenceIdeal
public import proofs.«01_k».proof.Proof.Gen.ProjectionReferenceIdeal.Run
public import proofs.«01_k».proof.Proof.Gen.Attention
public import proofs.«01_k».proof.Proof.Gen.Attention.Frame
public import proofs.«01_k».proof.Proof.Gen.AttentionIdeal
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.First
public import proofs.«01_k».proof.Proof.Value
public import proofs.«01_k».proof.Proof.ProjValue
public import proofs.«01_k».proof.Proof.AttValue
public import Idealize.ShloMosaic.Adequacy
public import Idealize.ShloMosaic.Init

@[expose] public section

noncomputable section

namespace Cert.Proof

open Idealize.ShloMosaic Idealize.SL.Sem

theorem frame_reference [Cert.ReferenceIdeal.Facts] [Cert.Pre_sorted_by_class.Facts] : Cert.quiescent_ReferenceIdeal := fun m ρ _ =>
  (θ_run _ _ _).mono (fun _ h => ⟨fun c => (h c).2, sem_eq_zero_of_no_sems (by decide) _⟩) (Cert.ReferenceIdeal.Value.run (F := Ideal) m ρ)

theorem frame_projectionReference [Cert.ProjectionReferenceIdeal.Facts] : Cert.quiescent_ProjectionReferenceIdeal := fun m ρ _ =>
  (θ_run _ _ _).mono (fun _ h => ⟨fun c => (h c).2.2.2, sem_eq_zero_of_no_sems (by decide) _⟩)
    (Cert.ProjectionReferenceIdeal.Value.run (F := Ideal) m ρ)

theorem frame_attentionReference [Cert.AttentionReferenceIdeal.Facts] : Cert.quiescent_AttentionReferenceIdeal := fun m ρ _ =>
  (θ_run _ _ _).mono (fun _ h => ⟨fun c => (h c).2.2.2.2.2.2, sem_eq_zero_of_no_sems (by decide) _⟩)
    (Cert.AttentionReferenceIdeal.Value.run (F := Ideal) m ρ)

theorem claim : Cert.Claim := ⟨Cert.Kernel.Gen.facts, Cert.KernelIdeal.Gen.facts, Cert.ReferenceIdeal.Gen.facts,
  Cert.Projection.Gen.facts, Cert.ProjectionIdeal.Gen.facts, Cert.ProjectionReferenceIdeal.Gen.facts,
  Cert.Attention.Gen.facts, Cert.AttentionIdeal.Gen.facts, Cert.AttentionReferenceIdeal.Gen.facts, Cert.Pre_sorted_by_class.Gen.facts,
  Cert.Experts.frame_kernel, Cert.Experts.frame_kernelIdeal, frame_reference,
  fun m ρ _ => Cert.Projection.Gen.frame m ρ, fun m ρ _ => Cert.ProjectionIdeal.Gen.frame m ρ, frame_projectionReference,
  fun m ρ _ => Cert.Attention.Gen.frame m ρ, fun m ρ _ => Cert.AttentionIdeal.Gen.frame m ρ, frame_attentionReference,
  trivial, Cert.Experts.algebraic, trivial, Cert.Projections.algebraic, trivial, Cert.Attentions.algebraic⟩

end Cert.Proof

end
